-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_valid : Cert.Pre_valid.Facts) (hPre_regular : Cert.Pre_regular.Facts),
    quiescent_Kernel (hKernel := hKernel) (hPre_valid := hPre_valid)
    ∧ quiescent_KernelIdeal (hKernelIdeal := hKernelIdeal) (hPre_valid := hPre_valid)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S16384x26 : Shape := ⟨2, ![16384, 26]⟩
abbrev S16384x13 : Shape := ⟨2, ![16384, 13]⟩
abbrev S26x100000x16 : Shape := ⟨3, ![26, 100000, 16]⟩
abbrev S429x200 : Shape := ⟨2, ![429, 200]⟩
abbrev S200 : Shape := ⟨1, ![200]⟩
abbrev S200x5 : Shape := ⟨2, ![200, 5]⟩
abbrev S5 : Shape := ⟨1, ![5]⟩
abbrev S13 : Shape := ⟨1, ![13]⟩
abbrev S13x200 : Shape := ⟨2, ![13, 200]⟩
abbrev S_ : Shape := ⟨0, ![]⟩

class Facts : Prop where
  slices_S429x200_S13x200_416_0 : S429x200.Slices ![416, 0] S13x200
  bcast_S_S13x200 : S_.BroadcastsInDim S13x200 (![] : Fin 0 → Fin S13x200.rank)
  reducesTo_S13x200_S_d0_1 : S13x200.ReducesTo [0, 1] S_
  h_S_ : 0 < S_.numel
  bcast_S_S200x5 : S_.BroadcastsInDim S200x5 (![] : Fin 0 → Fin S200x5.rank)
  reducesTo_S200x5_S_d0_1 : S200x5.ReducesTo [0, 1] S_
  bcast_S_S13 : S_.BroadcastsInDim S13 (![] : Fin 0 → Fin S13.rank)
  reducesTo_S13_S_d0 : S13.ReducesTo [0] S_
  bcast_S_S200 : S_.BroadcastsInDim S200 (![] : Fin 0 → Fin S200.rank)
  reducesTo_S200_S_d0 : S200.ReducesTo [0] S_
  bcast_S_S16384x26 : S_.BroadcastsInDim S16384x26 (![] : Fin 0 → Fin S16384x26.rank)
  reducesTo_S16384x26_S_d0_1 : S16384x26.ReducesTo [0, 1] S_

variable [Facts]

def fn_part3 {F : FTy → Type} [FloatOps F] (main_v4 : IVec S_ 1) (main_v8 : IVec S_ 1) (main_v12 : IVec S_ 1) (main_v16 : IVec S_ 1) (main_v20 : IVec S_ 1) (main_v24 : IVec S_ 1) (main_v28 : IVec S_ 1) (main_v32 : IVec S_ 1) (main_v44 : IVec S_ 1) (main_v46 : FVec F S200 .f32) (main_v47 : FVec F S200 .f32) : IVec S_ 1 :=
  let main_v48 : IVec S200 1 := cmpf .ogt main_v46 main_v47
  let main_c_22 : IVec S_ 1 := constantI S_ 1 1#1
  let main_v49 : IVec S_ 1 := (fun x v => Host.reduce IntOp.andi x v reducesTo_S200_S_d0 h_S_) main_v48 main_c_22
  let main_v50 : IVec S_ 1 := andi main_v44 main_v49
  let main_v51 : IVec S_ 1 := andi main_v50 main_v4
  let main_v52 : IVec S_ 1 := andi main_v51 main_v8
  let main_v53 : IVec S_ 1 := andi main_v52 main_v12
  let main_v54 : IVec S_ 1 := andi main_v53 main_v16
  let main_v55 : IVec S_ 1 := andi main_v54 main_v20
  let main_v56 : IVec S_ 1 := andi main_v55 main_v24
  let main_v57 : IVec S_ 1 := andi main_v56 main_v28
  let main_v58 : IVec S_ 1 := andi main_v57 main_v32
  main_v58

def fn_part2 {F : FTy → Type} [FloatOps F] (main_arg0 : IVec S16384x26 32) (main_arg10 : FVec F S13 .f32) (main_arg14 : FVec F S200 .f32) (main_v4 : IVec S_ 1) (main_v8 : IVec S_ 1) (main_v12 : IVec S_ 1) (main_v16 : IVec S_ 1) (main_v20 : IVec S_ 1) (main_v24 : IVec S_ 1) (main_v28 : IVec S_ 1) (main_v31 : IVec S200 1) (main_c_13 : IVec S_ 1) : IVec S_ 1 :=
  let main_v32 : IVec S_ 1 := (fun x v => Host.reduce IntOp.andi x v reducesTo_S200_S_d0 h_S_) main_v31 main_c_13
  let main_c_14 : IVec S_ 32 := constantI S_ 32 0#32
  let main_v33 : IVec S16384x26 32 := broadcastInDim S16384x26 ![] bcast_S_S16384x26 main_c_14
  let main_v34 : IVec S16384x26 1 := cmpi .sge main_arg0 main_v33
  let main_c_15 : IVec S_ 32 := constantI S_ 32 100000#32
  let main_v35 : IVec S16384x26 32 := broadcastInDim S16384x26 ![] bcast_S_S16384x26 main_c_15
  let main_v36 : IVec S16384x26 1 := cmpi .slt main_arg0 main_v35
  let main_v37 : IVec S16384x26 1 := andi main_v34 main_v36
  let main_c_16 : IVec S_ 1 := constantI S_ 1 1#1
  let main_v38 : IVec S_ 1 := (fun x v => Host.reduce IntOp.andi x v reducesTo_S16384x26_S_d0_1 h_S_) main_v37 main_c_16
  let main_cst_17 : FVec F S_ .f32 := constant S_ .f32 0x3727C5AC#32
  let main_v39 : FVec F S13 .f32 := broadcastInDim S13 ![] bcast_S_S13 main_cst_17
  let main_v40 : FVec F S13 .f32 := addf main_arg10 main_v39
  let main_cst_18 : FVec F S_ .f32 := constant S_ .f32 0x00000000#32
  let main_v41 : FVec F S13 .f32 := broadcastInDim S13 ![] bcast_S_S13 main_cst_18
  let main_v42 : IVec S13 1 := cmpf .ogt main_v40 main_v41
  let main_c_19 : IVec S_ 1 := constantI S_ 1 1#1
  let main_v43 : IVec S_ 1 := (fun x v => Host.reduce IntOp.andi x v reducesTo_S13_S_d0 h_S_) main_v42 main_c_19
  let main_v44 : IVec S_ 1 := andi main_v38 main_v43
  let main_cst_20 : FVec F S_ .f32 := constant S_ .f32 0x3727C5AC#32
  let main_v45 : FVec F S200 .f32 := broadcastInDim S200 ![] bcast_S_S200 main_cst_20
  let main_v46 : FVec F S200 .f32 := addf main_arg14 main_v45
  let main_cst_21 : FVec F S_ .f32 := constant S_ .f32 0x00000000#32
  let main_v47 : FVec F S200 .f32 := broadcastInDim S200 ![] bcast_S_S200 main_cst_21
  fn_part3 (F := F) main_v4 main_v8 main_v12 main_v16 main_v20 main_v24 main_v28 main_v32 main_v44 main_v46 main_v47

def fn_part1 {F : FTy → Type} [FloatOps F] (main_arg0 : IVec S16384x26 32) (main_arg9 : FVec F S13 .f32) (main_arg10 : FVec F S13 .f32) (main_arg11 : FVec F S200 .f32) (main_arg12 : FVec F S200 .f32) (main_arg13 : FVec F S200 .f32) (main_arg14 : FVec F S200 .f32) (main_v4 : IVec S_ 1) (main_v8 : IVec S_ 1) (main_v12 : IVec S_ 1) (main_v15 : IVec S13 1) (main_c_5 : IVec S_ 1) : IVec S_ 1 :=
  let main_v16 : IVec S_ 1 := (fun x v => Host.reduce IntOp.andi x v reducesTo_S13_S_d0 h_S_) main_v15 main_c_5
  let main_v17 : FVec F S13 .f32 := Host.absf main_arg9
  let main_cst_6 : FVec F S_ .f32 := constant S_ .f32 0x7F800000#32
  let main_v18 : FVec F S13 .f32 := broadcastInDim S13 ![] bcast_S_S13 main_cst_6
  let main_v19 : IVec S13 1 := cmpf .olt main_v17 main_v18
  let main_c_7 : IVec S_ 1 := constantI S_ 1 1#1
  let main_v20 : IVec S_ 1 := (fun x v => Host.reduce IntOp.andi x v reducesTo_S13_S_d0 h_S_) main_v19 main_c_7
  let main_v21 : FVec F S200 .f32 := Host.absf main_arg11
  let main_cst_8 : FVec F S_ .f32 := constant S_ .f32 0x7F800000#32
  let main_v22 : FVec F S200 .f32 := broadcastInDim S200 ![] bcast_S_S200 main_cst_8
  let main_v23 : IVec S200 1 := cmpf .olt main_v21 main_v22
  let main_c_9 : IVec S_ 1 := constantI S_ 1 1#1
  let main_v24 : IVec S_ 1 := (fun x v => Host.reduce IntOp.andi x v reducesTo_S200_S_d0 h_S_) main_v23 main_c_9
  let main_v25 : FVec F S200 .f32 := Host.absf main_arg12
  let main_cst_10 : FVec F S_ .f32 := constant S_ .f32 0x7F800000#32
  let main_v26 : FVec F S200 .f32 := broadcastInDim S200 ![] bcast_S_S200 main_cst_10
  let main_v27 : IVec S200 1 := cmpf .olt main_v25 main_v26
  let main_c_11 : IVec S_ 1 := constantI S_ 1 1#1
  let main_v28 : IVec S_ 1 := (fun x v => Host.reduce IntOp.andi x v reducesTo_S200_S_d0 h_S_) main_v27 main_c_11
  let main_v29 : FVec F S200 .f32 := Host.absf main_arg13
  let main_cst_12 : FVec F S_ .f32 := constant S_ .f32 0x7F800000#32
  let main_v30 : FVec F S200 .f32 := broadcastInDim S200 ![] bcast_S_S200 main_cst_12
  let main_v31 : IVec S200 1 := cmpf .olt main_v29 main_v30
  let main_c_13 : IVec S_ 1 := constantI S_ 1 1#1
  fn_part2 (F := F) main_arg0 main_arg10 main_arg14 main_v4 main_v8 main_v12 main_v16 main_v20 main_v24 main_v28 main_v31 main_c_13

def fn {F : FTy → Type} [FloatOps F] (main_arg0 : IVec S16384x26 32) (main_arg1 : FVec F S16384x13 .f32) (main_arg2 : FVec F S26x100000x16 .f32) (main_arg3 : FVec F S429x200 .f32) (main_arg4 : FVec F S200 .f32) (main_arg5 : FVec F S200x5 .f32) (main_arg6 : FVec F S5 .f32) (main_arg7 : FVec F S13 .f32) (main_arg8 : FVec F S13 .f32) (main_arg9 : FVec F S13 .f32) (main_arg10 : FVec F S13 .f32) (main_arg11 : FVec F S200 .f32) (main_arg12 : FVec F S200 .f32) (main_arg13 : FVec F S200 .f32) (main_arg14 : FVec F S200 .f32) : IVec S_ 1 :=
  let main_v0 : FVec F S13x200 .f32 := (extractStridedSlice S13x200 ![416, 0] · slices_S429x200_S13x200_416_0) main_arg3
  let main_v1 : FVec F S13x200 .f32 := Host.absf main_v0
  let main_cst : FVec F S_ .f32 := constant S_ .f32 0x7F800000#32
  let main_v2 : FVec F S13x200 .f32 := broadcastInDim S13x200 ![] bcast_S_S13x200 main_cst
  let main_v3 : IVec S13x200 1 := cmpf .olt main_v1 main_v2
  let main_c : IVec S_ 1 := constantI S_ 1 1#1
  let main_v4 : IVec S_ 1 := (fun x v => Host.reduce IntOp.andi x v reducesTo_S13x200_S_d0_1 h_S_) main_v3 main_c
  let main_v5 : FVec F S200x5 .f32 := Host.absf main_arg5
  let main_cst_0 : FVec F S_ .f32 := constant S_ .f32 0x7F800000#32
  let main_v6 : FVec F S200x5 .f32 := broadcastInDim S200x5 ![] bcast_S_S200x5 main_cst_0
  let main_v7 : IVec S200x5 1 := cmpf .olt main_v5 main_v6
  let main_c_1 : IVec S_ 1 := constantI S_ 1 1#1
  let main_v8 : IVec S_ 1 := (fun x v => Host.reduce IntOp.andi x v reducesTo_S200x5_S_d0_1 h_S_) main_v7 main_c_1
  let main_v9 : FVec F S13 .f32 := Host.absf main_arg7
  let main_cst_2 : FVec F S_ .f32 := constant S_ .f32 0x7F800000#32
  let main_v10 : FVec F S13 .f32 := broadcastInDim S13 ![] bcast_S_S13 main_cst_2
  let main_v11 : IVec S13 1 := cmpf .olt main_v9 main_v10
  let main_c_3 : IVec S_ 1 := constantI S_ 1 1#1
  let main_v12 : IVec S_ 1 := (fun x v => Host.reduce IntOp.andi x v reducesTo_S13_S_d0 h_S_) main_v11 main_c_3
  let main_v13 : FVec F S13 .f32 := Host.absf main_arg8
  let main_cst_4 : FVec F S_ .f32 := constant S_ .f32 0x7F800000#32
  let main_v14 : FVec F S13 .f32 := broadcastInDim S13 ![] bcast_S_S13 main_cst_4
  let main_v15 : IVec S13 1 := cmpf .olt main_v13 main_v14
  let main_c_5 : IVec S_ 1 := constantI S_ 1 1#1
  fn_part1 (F := F) main_arg0 main_arg9 main_arg10 main_arg11 main_arg12 main_arg13 main_arg14 main_v4 main_v8 main_v12 main_v15 main_c_5
-- ==== Pre_valid.lean ====
abbrev S16384x26 : Shape := ⟨2, ![16384, 26]⟩
abbrev S16384x13 : Shape := ⟨2, ![16384, 13]⟩
abbrev S26x100000x16 : Shape := ⟨3, ![26, 100000, 16]⟩
abbrev S429x200 : Shape := ⟨2, ![429, 200]⟩
abbrev S200 : Shape := ⟨1, ![200]⟩
abbrev S200x5 : Shape := ⟨2, ![200, 5]⟩
abbrev S5 : Shape := ⟨1, ![5]⟩
abbrev S13 : Shape := ⟨1, ![13]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x13 .f32) (main_arg2 : FVec F S26x100000x16 .f32) (main_arg3 : FVec F S429x200 .f32) (main_arg4 : FVec F S200 .f32) (main_arg5 : FVec F S200x5 .f32) (main_arg6 : FVec F S5 .f32) (main_arg7 : FVec F S13 .f32) (main_arg8 : FVec F S13 .f32) (main_arg9 : FVec F S13 .f32) (main_arg10 : FVec F S13 .f32) (main_arg11 : FVec F S200 .f32) (main_arg12 : FVec F S200 .f32) (main_arg13 : FVec F S200 .f32) (main_arg14 : FVec F S200 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S16384x13 : Shape := ⟨2, ![16384, 13]⟩
abbrev S26x100000x16 : Shape := ⟨3, ![26, 100000, 16]⟩
abbrev S429x200 : Shape := ⟨2, ![429, 200]⟩
abbrev S200 : Shape := ⟨1, ![200]⟩
abbrev S200x5 : Shape := ⟨2, ![200, 5]⟩
abbrev S5 : Shape := ⟨1, ![5]⟩
abbrev S13 : Shape := ⟨1, ![13]⟩
abbrev S26x16x100000 : Shape := ⟨3, ![26, 16, 100000]⟩
abbrev S26x16384 : Shape := ⟨2, ![26, 16384]⟩
abbrev S256x128x128 : Shape := ⟨3, ![256, 128, 128]⟩
abbrev S100000 : Shape := ⟨1, ![100000]⟩
abbrev S16384 : Shape := ⟨1, ![16384]⟩
abbrev S32x128 : Shape := ⟨2, ![32, 128]⟩
abbrev S_ : Shape := ⟨0, ![]⟩
abbrev S16 : Shape := ⟨1, ![16]⟩
abbrev S1x16384 : Shape := ⟨2, ![1, 16384]⟩
abbrev S1x1x100000 : Shape := ⟨3, ![1, 1, 100000]⟩
abbrev S1x16 : Shape := ⟨2, ![1, 16]⟩
abbrev S1x32x128 : Shape := ⟨3, ![1, 32, 128]⟩
abbrev S160x128x128 : Shape := ⟨3, ![160, 128, 128]⟩
abbrev S13x16384 : Shape := ⟨2, ![13, 16384]⟩
abbrev S13x200 : Shape := ⟨2, ![13, 200]⟩
abbrev S13x1 : Shape := ⟨2, ![13, 1]⟩
abbrev S200x1 : Shape := ⟨2, ![200, 1]⟩
abbrev S256x200 : Shape := ⟨2, ![256, 200]⟩
abbrev S1x200 : Shape := ⟨2, ![1, 200]⟩
abbrev S16384x200 : Shape := ⟨2, ![16384, 200]⟩
abbrev S256x8x128 : Shape := ⟨3, ![256, 8, 128]⟩
abbrev S13x1024 : Shape := ⟨2, ![13, 1024]⟩
abbrev S1024x200 : Shape := ⟨2, ![1024, 200]⟩
abbrev S256x1x128 : Shape := ⟨3, ![256, 1, 128]⟩
abbrev S256x128 : Shape := ⟨2, ![256, 128]⟩
abbrev S128x200 : Shape := ⟨2, ![128, 200]⟩
abbrev S13x128 : Shape := ⟨2, ![13, 128]⟩
abbrev S160x200 : Shape := ⟨2, ![160, 200]⟩
abbrev S1x5 : Shape := ⟨2, ![1, 5]⟩
abbrev S16384x5 : Shape := ⟨2, ![16384, 5]⟩
abbrev S160x8x128 : Shape := ⟨3, ![160, 8, 128]⟩
abbrev S1024x5 : Shape := ⟨2, ![1024, 5]⟩
abbrev S160x1x128 : Shape := ⟨3, ![160, 1, 128]⟩
abbrev S160x128 : Shape := ⟨2, ![160, 128]⟩
abbrev S128x5 : Shape := ⟨2, ![128, 5]⟩

abbrev nBuf : Table → Nat
  | .hbm => 52
  | .local .tc .vmem => 18
  | .local .scVector .vmem => 8
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x200, .f32⟩
  | .hbm, ⟨4, _⟩ => ⟨S200, .f32⟩
  | .hbm, ⟨5, _⟩ => ⟨S200x5, .f32⟩
  | .hbm, ⟨6, _⟩ => ⟨S5, .f32⟩
  | .hbm, ⟨7, _⟩ => ⟨S13, .f32⟩
  | .hbm, ⟨8, _⟩ => ⟨S13, .f32⟩
  | .hbm, ⟨9, _⟩ => ⟨S13, .f32⟩
  | .hbm, ⟨10, _⟩ => ⟨S13, .f32⟩
  | .hbm, ⟨11, _⟩ => ⟨S200, .f32⟩
  | .hbm, ⟨12, _⟩ => ⟨S200, .f32⟩
  | .hbm, ⟨13, _⟩ => ⟨S200, .f32⟩
  | .hbm, ⟨14, _⟩ => ⟨S200, .f32⟩
  | .hbm, ⟨15, _⟩ => ⟨S26x16x100000, .f32⟩
  | .hbm, ⟨16, _⟩ => ⟨S26x16384, .i32⟩
  | .hbm, ⟨17, _⟩ => ⟨S256x128x128, .f32⟩
  | .hbm, ⟨18, _⟩ => ⟨S160x128x128, .f32⟩
  | .hbm, ⟨19, _⟩ => ⟨S13x16384, .f32⟩
  | .hbm, ⟨20, _⟩ => ⟨S_, .f32⟩
  | .hbm, ⟨21, _⟩ => ⟨S13, .f32⟩
  | .hbm, ⟨22, _⟩ => ⟨S13, .f32⟩
  | .hbm, ⟨23, _⟩ => ⟨S13, .f32⟩
  | .hbm, ⟨24, _⟩ => ⟨S13, .f32⟩
  | .hbm, ⟨25, _⟩ => ⟨S13x200, .f32⟩
  | .hbm, ⟨26, _⟩ => ⟨S13x1, .f32⟩
  | .hbm, ⟨27, _⟩ => ⟨S13x200, .f32⟩
  | .hbm, ⟨28, _⟩ => ⟨S13x200, .f32⟩
  | .hbm, ⟨29, _⟩ => ⟨S13, .f32⟩
  | .hbm, ⟨30, _⟩ => ⟨S13, .f32⟩
  | .hbm, ⟨31, _⟩ => ⟨S13x200, .f32⟩
  | .hbm, ⟨32, _⟩ => ⟨S200, .f32⟩
  | .hbm, ⟨33, _⟩ => ⟨S200, .f32⟩
  | .hbm, ⟨34, _⟩ => ⟨S_, .f32⟩
  | .hbm, ⟨35, _⟩ => ⟨S200, .f32⟩
  | .hbm, ⟨36, _⟩ => ⟨S200, .f32⟩
  | .hbm, ⟨37, _⟩ => ⟨S200, .f32⟩
  | .hbm, ⟨38, _⟩ => ⟨S200, .f32⟩
  | .hbm, ⟨39, _⟩ => ⟨S200x1, .f32⟩
  | .hbm, ⟨40, _⟩ => ⟨S200x5, .f32⟩
  | .hbm, ⟨41, _⟩ => ⟨S200x5, .f32⟩
  | .hbm, ⟨42, _⟩ => ⟨S200, .f32⟩
  | .hbm, ⟨43, _⟩ => ⟨S200, .f32⟩
  | .hbm, ⟨44, _⟩ => ⟨S5, .f32⟩
  | .hbm, ⟨45, _⟩ => ⟨S5, .f32⟩
  | .hbm, ⟨46, _⟩ => ⟨S256x200, .f32⟩
  | .hbm, ⟨47, _⟩ => ⟨S1x200, .f32⟩
  | .hbm, ⟨48, _⟩ => ⟨S16384x200, .f32⟩
  | .hbm, ⟨49, _⟩ => ⟨S160x200, .f32⟩
  | .hbm, ⟨50, _⟩ => ⟨S1x5, .f32⟩
  | .hbm, ⟨51, _⟩ => ⟨S16384x5, .f32⟩
  | .local .tc .vmem, ⟨0, _⟩ => ⟨S256x8x128, .f32⟩
  | .local .tc .vmem, ⟨1, _⟩ => ⟨S256x8x128, .f32⟩
  | .local .tc .vmem, ⟨2, _⟩ => ⟨S13x1024, .f32⟩
  | .local .tc .vmem, ⟨3, _⟩ => ⟨S13x1024, .f32⟩
  | .local .tc .vmem, ⟨4, _⟩ => ⟨S256x200, .f32⟩
  | .local .tc .vmem, ⟨5, _⟩ => ⟨S13x200, .f32⟩
  | .local .tc .vmem, ⟨6, _⟩ => ⟨S1x200, .f32⟩
  | .local .tc .vmem, ⟨7, _⟩ => ⟨S1024x200, .f32⟩
  | .local .tc .vmem, ⟨8, _⟩ => ⟨S1024x200, .f32⟩
  | .local .tc .vmem, ⟨9, _⟩ => ⟨S160x8x128, .f32⟩
  | .local .tc .vmem, ⟨10, _⟩ => ⟨S160x8x128, .f32⟩
  | .local .tc .vmem, ⟨11, _⟩ => ⟨S1024x200, .f32⟩
  | .local .tc .vmem, ⟨12, _⟩ => ⟨S1024x200, .f32⟩
  | .local .tc .vmem, ⟨13, _⟩ => ⟨S160x200, .f32⟩
  | .local .tc .vmem, ⟨14, _⟩ => ⟨S200x5, .f32⟩
  | .local .tc .vmem, ⟨15, _⟩ => ⟨S1x5, .f32⟩
  | .local .tc .vmem, ⟨16, _⟩ => ⟨S1024x5, .f32⟩
  | .local .tc .vmem, ⟨17, _⟩ => ⟨S1024x5, .f32⟩
  | .local .scVector .vmem, ⟨0, _⟩ => ⟨S100000, .f32⟩
  | .local .scVector .vmem, ⟨1, _⟩ => ⟨S16384, .i32⟩
  | .local .scVector .vmem, ⟨2, _⟩ => ⟨S32x128, .f32⟩
  | .local .scVector .vmem, ⟨3, _⟩ => ⟨S32x128, .f32⟩
  | .local .scVector .vmem, ⟨4, _⟩ => ⟨S100000, .f32⟩
  | .local .scVector .vmem, ⟨5, _⟩ => ⟨S16384, .i32⟩
  | .local .scVector .vmem, ⟨6, _⟩ => ⟨S32x128, .f32⟩
  | .local .scVector .vmem, ⟨7, _⟩ => ⟨S32x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v0_scv : Ref sig .scVector := ⟨.hbm, 15, rfl⟩
abbrev main_v1_scv : Ref sig .scVector := ⟨.hbm, 16, rfl⟩
abbrev main_v2_scv : Ref sig .scVector := ⟨.hbm, 17, rfl⟩
abbrev main_v3_scv : Ref sig .scVector := ⟨.hbm, 18, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg3_0 : Ref sig .tc := ⟨.vmem, 5, rfl⟩
abbrev cc2_stg4_0 : Ref sig .tc := ⟨.vmem, 6, rfl⟩
abbrev cc2_stg5_0 : Ref sig .tc := ⟨.vmem, 7, rfl⟩
abbrev cc2_stg5_1 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg4_0 : Ref sig .tc := ⟨.vmem, 15, rfl⟩
abbrev cc3_stg5_0 : Ref sig .tc := ⟨.vmem, 16, rfl⟩
abbrev cc3_stg5_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_cond1 (i : grid0.Coords) (k0_t1 : Fin k0_t1_loop.trips) : BitVec 1 :=
  let c0_i32_0 : BitVec 32 := 0#32
  let c1_i32 : BitVec 32 := 1#32
  let arg13 : BitVec 32 := Scf.iv c0_i32_0 c1_i32 k0_t1
  let c0_i32_11 : BitVec 32 := 0#32
  let v25 : BitVec 1 := Scalar.cmpi .eq arg13 c0_i32_11
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let v6 : BitVec 32 := Scalar.addi v5 arg13
  let c16_i32_10 : BitVec 32 := 16#32
  let v24 : BitVec 32 := Scalar.remsi v6 c16_i32_10
  let c0_i32_12 : BitVec 32 := 0#32
  let v26 : BitVec 1 := Scalar.cmpi .eq v24 c0_i32_12
  let v27 : BitVec 1 := Scalar.ori v25 v26
  let v28 : BitVec 32 := Scalar.extui v27
  let c0_i32_13 : BitVec 32 := 0#32
  let v29 : BitVec 1 := Scalar.cmpi .ne v28 c0_i32_13
  v29

def k0_off1 (i : grid0.Coords) (k0_t1 : Fin k0_t1_loop.trips) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c16_i32 : BitVec 32 := 16#32
  let c0_i32_6 : BitVec 32 := 0#32
  let v13 : BitVec 1 := Scalar.cmpi .sgt c16_i32 c0_i32_6
  let v14 : BitVec 32 := Scalar.extui v13
  let c0_i32_7 : BitVec 32 := 0#32
  let v15 : BitVec 1 := Scalar.cmpi .slt c16_i32 c0_i32_7
  let v16 : BitVec 32 := Scalar.extui v15
  let v17 : BitVec 32 := Scalar.subi v14 v16
  let v18 : BitVec 1 := Scalar.cmpi .ne v12 v17
  let v19 : BitVec 32 := Scalar.remsi v6 c16_i32
  let c0_i32_8 : BitVec 32 := 0#32
  let v20 : BitVec 1 := Scalar.cmpi .ne v19 c0_i32_8
  let v21 : BitVec 1 := Scalar.andi v18 v20
  let v7 : BitVec 32 := Scalar.divsi v6 c16_i32
  let c1_i32_9 : BitVec 32 := 1#32
  let v22 : BitVec 32 := Scalar.subi v7 c1_i32_9
  let v23 : BitVec 32 := Scalar.select v21 v22 v7
  let c0_i32_71 : BitVec 32 := 0#32
  ![v23.toNat, 0]
def k0_off2 (i : grid0.Coords) (k0_t1 : Fin k0_t1_loop.trips) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_4 : BitVec 32 := 0#32
  let v8 : BitVec 1 := Scalar.cmpi .sgt v6 c0_i32_4
  let v9 : BitVec 32 := Scalar.extui v8
  let c0_i32_5 : BitVec 32 := 0#32
  let v10 : BitVec 1 := Scalar.cmpi .slt v6 c0_i32_5
  let v11 : BitVec 32 := Scalar.extui v10
  let v12 : BitVec 32 := Scalar.subi v9 v11
  let c16_i32 : BitVec 32 := 16#32
  let c0_i32_6 : BitVec 32 := 0#32
  let v13 : BitVec 1 := Scalar.cmpi .sgt c16_i32 c0_i32_6
  let v14 : BitVec 32 := Scalar.extui v13
  let c0_i32_7 : BitVec 32 := 0#32
  let v15 : BitVec 1 := Scalar.cmpi .slt c16_i32 c0_i32_7
  let v16 : BitVec 32 := Scalar.extui v15
  let v17 : BitVec 32 := Scalar.subi v14 v16
  let v18 : BitVec 1 := Scalar.cmpi .ne v12 v17
  let v19 : BitVec 32 := Scalar.remsi v6 c16_i32
  let c0_i32_8 : BitVec 32 := 0#32
  let v20 : BitVec 1 := Scalar.cmpi .ne v19 c0_i32_8
  let v21 : BitVec 1 := Scalar.andi v18 v20
  let v7 : BitVec 32 := Scalar.divsi v6 c16_i32
  let c1_i32_9 : BitVec 32 := 1#32
  let v22 : BitVec 32 := Scalar.subi v7 c1_i32_9
  let v23 : BitVec 32 := Scalar.select v21 v22 v7
  let c16_i32_10 : BitVec 32 := 16#32
  let v24 : BitVec 32 := Scalar.remsi v6 c16_i32_10
  let c0_i32_14 : BitVec 32 := 0#32
  ![v23.toNat, v24.toNat, 0]
@[reducible] def k0_t2_loop : Scf.Loop 32 :=
  let c0_i32_19 : BitVec 32 := 0#32
  let c32_i32 : BitVec 32 := 32#32
  let v38 : BitVec 32 := Scalar.addi c0_i32_19 c32_i32
  let c1_i32_20 : BitVec 32 := 1#32
  ⟨c0_i32_19, v38, c1_i32_20⟩
def k0_off3 (k0_t2 : Fin k0_t2_loop.trips) : Fin 1 → Nat :=
  let c0_i32_71 : BitVec 32 := 0#32
  let c0_i32_19 : BitVec 32 := 0#32
  let c1_i32_20 : BitVec 32 := 1#32
  let arg14 : BitVec 32 := Scf.iv c0_i32_19 c1_i32_20 k0_t2
  let c128_i32 : BitVec 32 := 128#32
  let v78 : BitVec 32 := Scalar.muli arg14 c128_i32
  let v79 : BitVec 32 := Scalar.addi c0_i32_71 v78
  let c0_i32_72 : BitVec 32 := 0#32
  let v80 : BitVec 32 := Scalar.addi v79 c0_i32_72
  let v81 : Index := Scalar.indexCast v80
  ![v81.toNat]

def k0_chk1 (v82 : IVec S16 32) : Prop :=
  (∀ a x, ((![v82] : Fin 1 → IVec S16 32) a x).toNat < S100000.size a)
theorem k0_idx1_inb : ∀ (v82 : IVec S16 32) (k0_hw1 : k0_chk1 v82), ∀ a x, ((![v82] : Fin 1 → IVec S16 32) a x).toNat < S100000.size a := fun v82 k0_hw1 => k0_hw1
def k0_off4 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v84 : Index := Scalar.indexCast arg14
  let c0 : Index := 0#32
  ![v84.toNat, 0]
def k0_off5 (k0_t2 : Fin k0_t2_loop.trips) : Fin 1 → Nat :=
  let c0_i32_74 : BitVec 32 := 0#32
  let c0_i32_19 : BitVec 32 := 0#32
  let c1_i32_20 : BitVec 32 := 1#32
  let arg14 : BitVec 32 := Scf.iv c0_i32_19 c1_i32_20 k0_t2
  let c128_i32_73 : BitVec 32 := 128#32
  let v86 : BitVec 32 := Scalar.muli arg14 c128_i32_73
  let v87 : BitVec 32 := Scalar.addi c0_i32_74 v86
  let c16_i32_75 : BitVec 32 := 16#32
  let v88 : BitVec 32 := Scalar.addi v87 c16_i32_75
  let v89 : Index := Scalar.indexCast v88
  ![v89.toNat]

def k0_chk2 (v90 : IVec S16 32) : Prop :=
  (∀ a x, ((![v90] : Fin 1 → IVec S16 32) a x).toNat < S100000.size a)
theorem k0_idx2_inb : ∀ (v90 : IVec S16 32) (k0_hw2 : k0_chk2 v90), ∀ a x, ((![v90] : Fin 1 → IVec S16 32) a x).toNat < S100000.size a := fun v90 k0_hw2 => k0_hw2
def k0_off6 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v92 : Index := Scalar.indexCast arg14
  let c16 : Index := 16#32
  ![v92.toNat, 16]
def k0_off7 (k0_t2 : Fin k0_t2_loop.trips) : Fin 1 → Nat :=
  let c0_i32_77 : BitVec 32 := 0#32
  let c0_i32_19 : BitVec 32 := 0#32
  let c1_i32_20 : BitVec 32 := 1#32
  let arg14 : BitVec 32 := Scf.iv c0_i32_19 c1_i32_20 k0_t2
  let c128_i32_76 : BitVec 32 := 128#32
  let v94 : BitVec 32 := Scalar.muli arg14 c128_i32_76
  let v95 : BitVec 32 := Scalar.addi c0_i32_77 v94
  let c32_i32_78 : BitVec 32 := 32#32
  let v96 : BitVec 32 := Scalar.addi v95 c32_i32_78
  let v97 : Index := Scalar.indexCast v96
  ![v97.toNat]

def k0_chk3 (v98 : IVec S16 32) : Prop :=
  (∀ a x, ((![v98] : Fin 1 → IVec S16 32) a x).toNat < S100000.size a)
theorem k0_idx3_inb : ∀ (v98 : IVec S16 32) (k0_hw3 : k0_chk3 v98), ∀ a x, ((![v98] : Fin 1 → IVec S16 32) a x).toNat < S100000.size a := fun v98 k0_hw3 => k0_hw3
def k0_off8 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v100 : Index := Scalar.indexCast arg14
  let c32 : Index := 32#32
  ![v100.toNat, 32]
def k0_off9 (k0_t2 : Fin k0_t2_loop.trips) : Fin 1 → Nat :=
  let c0_i32_80 : BitVec 32 := 0#32
  let c0_i32_19 : BitVec 32 := 0#32
  let c1_i32_20 : BitVec 32 := 1#32
  let arg14 : BitVec 32 := Scf.iv c0_i32_19 c1_i32_20 k0_t2
  let c128_i32_79 : BitVec 32 := 128#32
  let v102 : BitVec 32 := Scalar.muli arg14 c128_i32_79
  let v103 : BitVec 32 := Scalar.addi c0_i32_80 v102
  let c48_i32 : BitVec 32 := 48#32
  let v104 : BitVec 32 := Scalar.addi v103 c48_i32
  let v105 : Index := Scalar.indexCast v104
  ![v105.toNat]

def k0_chk4 (v106 : IVec S16 32) : Prop :=
  (∀ a x, ((![v106] : Fin 1 → IVec S16 32) a x).toNat < S100000.size a)
theorem k0_idx4_inb : ∀ (v106 : IVec S16 32) (k0_hw4 : k0_chk4 v106), ∀ a x, ((![v106] : Fin 1 → IVec S16 32) a x).toNat < S100000.size a := fun v106 k0_hw4 => k0_hw4
def k0_off10 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v108 : Index := Scalar.indexCast arg14
  let c48 : Index := 48#32
  ![v108.toNat, 48]
def k0_off11 (k0_t2 : Fin k0_t2_loop.trips) : Fin 1 → Nat :=
  let c0_i32_82 : BitVec 32 := 0#32
  let c0_i32_19 : BitVec 32 := 0#32
  let c1_i32_20 : BitVec 32 := 1#32
  let arg14 : BitVec 32 := Scf.iv c0_i32_19 c1_i32_20 k0_t2
  let c128_i32_81 : BitVec 32 := 128#32
  let v110 : BitVec 32 := Scalar.muli arg14 c128_i32_81
  let v111 : BitVec 32 := Scalar.addi c0_i32_82 v110
  let c64_i32_83 : BitVec 32 := 64#32
  let v112 : BitVec 32 := Scalar.addi v111 c64_i32_83
  let v113 : Index := Scalar.indexCast v112
  ![v113.toNat]

def k0_chk5 (v114 : IVec S16 32) : Prop :=
  (∀ a x, ((![v114] : Fin 1 → IVec S16 32) a x).toNat < S100000.size a)
theorem k0_idx5_inb : ∀ (v114 : IVec S16 32) (k0_hw5 : k0_chk5 v114), ∀ a x, ((![v114] : Fin 1 → IVec S16 32) a x).toNat < S100000.size a := fun v114 k0_hw5 => k0_hw5
def k0_off12 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v116 : Index := Scalar.indexCast arg14
  let c64 : Index := 64#32
  ![v116.toNat, 64]
def k0_off13 (k0_t2 : Fin k0_t2_loop.trips) : Fin 1 → Nat :=
  let c0_i32_85 : BitVec 32 := 0#32
  let c0_i32_19 : BitVec 32 := 0#32
  let c1_i32_20 : BitVec 32 := 1#32
  let arg14 : BitVec 32 := Scf.iv c0_i32_19 c1_i32_20 k0_t2
  let c128_i32_84 : BitVec 32 := 128#32
  let v118 : BitVec 32 := Scalar.muli arg14 c128_i32_84
  let v119 : BitVec 32 := Scalar.addi c0_i32_85 v118
  let c80_i32 : BitVec 32 := 80#32
  let v120 : BitVec 32 := Scalar.addi v119 c80_i32
  let v121 : Index := Scalar.indexCast v120
  ![v121.toNat]

def k0_chk6 (v122 : IVec S16 32) : Prop :=
  (∀ a x, ((![v122] : Fin 1 → IVec S16 32) a x).toNat < S100000.size a)
theorem k0_idx6_inb : ∀ (v122 : IVec S16 32) (k0_hw6 : k0_chk6 v122), ∀ a x, ((![v122] : Fin 1 → IVec S16 32) a x).toNat < S100000.size a := fun v122 k0_hw6 => k0_hw6
def k0_off14 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v124 : Index := Scalar.indexCast arg14
  let c80 : Index := 80#32
  ![v124.toNat, 80]
def k0_off15 (k0_t2 : Fin k0_t2_loop.trips) : Fin 1 → Nat :=
  let c0_i32_87 : BitVec 32 := 0#32
  let c0_i32_19 : BitVec 32 := 0#32
  let c1_i32_20 : BitVec 32 := 1#32
  let arg14 : BitVec 32 := Scf.iv c0_i32_19 c1_i32_20 k0_t2
  let c128_i32_86 : BitVec 32 := 128#32
  let v126 : BitVec 32 := Scalar.muli arg14 c128_i32_86
  let v127 : BitVec 32 := Scalar.addi c0_i32_87 v126
  let c96_i32_88 : BitVec 32 := 96#32
  let v128 : BitVec 32 := Scalar.addi v127 c96_i32_88
  let v129 : Index := Scalar.indexCast v128
  ![v129.toNat]

def k0_chk7 (v130 : IVec S16 32) : Prop :=
  (∀ a x, ((![v130] : Fin 1 → IVec S16 32) a x).toNat < S100000.size a)
theorem k0_idx7_inb : ∀ (v130 : IVec S16 32) (k0_hw7 : k0_chk7 v130), ∀ a x, ((![v130] : Fin 1 → IVec S16 32) a x).toNat < S100000.size a := fun v130 k0_hw7 => k0_hw7
def k0_off16 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v132 : Index := Scalar.indexCast arg14
  let c96 : Index := 96#32
  ![v132.toNat, 96]
def k0_off17 (k0_t2 : Fin k0_t2_loop.trips) : Fin 1 → Nat :=
  let c0_i32_90 : BitVec 32 := 0#32
  let c0_i32_19 : BitVec 32 := 0#32
  let c1_i32_20 : BitVec 32 := 1#32
  let arg14 : BitVec 32 := Scf.iv c0_i32_19 c1_i32_20 k0_t2
  let c128_i32_89 : BitVec 32 := 128#32
  let v134 : BitVec 32 := Scalar.muli arg14 c128_i32_89
  let v135 : BitVec 32 := Scalar.addi c0_i32_90 v134
  let c112_i32 : BitVec 32 := 112#32
  let v136 : BitVec 32 := Scalar.addi v135 c112_i32
  let v137 : Index := Scalar.indexCast v136
  ![v137.toNat]

def k0_chk8 (v138 : IVec S16 32) : Prop :=
  (∀ a x, ((![v138] : Fin 1 → IVec S16 32) a x).toNat < S100000.size a)
theorem k0_idx8_inb : ∀ (v138 : IVec S16 32) (k0_hw8 : k0_chk8 v138), ∀ a x, ((![v138] : Fin 1 → IVec S16 32) a x).toNat < S100000.size a := fun v138 k0_hw8 => k0_hw8
def k0_off18 (k0_t2 : Fin k0_t2_loop.trips) : Fin 2 → Nat :=
  let c0_i32_19 : BitVec 32 := 0#32
  let c1_i32_20 : BitVec 32 := 1#32
  let arg14 : BitVec 32 := Scf.iv c0_i32_19 c1_i32_20 k0_t2
  let v140 : Index := Scalar.indexCast arg14
  let c112 : Index := 112#32
  ![v140.toNat, 112]
def k0_off19 (i : grid0.Coords) (k0_t1 : Fin k0_t1_loop.trips) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_22 : BitVec 32 := 0#32
  let v39 : BitVec 32 := Scalar.subi v6 c0_i32_22
  let c0_i32_23 : BitVec 32 := 0#32
  let c0_i32_24 : BitVec 32 := 0#32
  ![v39.toNat, 0, 0]
@[reducible] def k0_t3_loop : Scf.Loop 32 :=
  let c0_i32_28 : BitVec 32 := 0#32
  let c32_i32_29 : BitVec 32 := 32#32
  let v44 : BitVec 32 := Scalar.addi c0_i32_28 c32_i32_29
  let c1_i32_30 : BitVec 32 := 1#32
  ⟨c0_i32_28, v44, c1_i32_30⟩
def k0_off20 (k0_t3 : Fin k0_t3_loop.trips) : Fin 1 → Nat :=
  let c4096_i32 : BitVec 32 := 4096#32
  let c0_i32_28 : BitVec 32 := 0#32
  let c1_i32_30 : BitVec 32 := 1#32
  let arg14 : BitVec 32 := Scf.iv c0_i32_28 c1_i32_30 k0_t3
  let c128_i32 : BitVec 32 := 128#32
  let v78 : BitVec 32 := Scalar.muli arg14 c128_i32
  let v79 : BitVec 32 := Scalar.addi c4096_i32 v78
  let c0_i32_71 : BitVec 32 := 0#32
  let v80 : BitVec 32 := Scalar.addi v79 c0_i32_71
  let v81 : Index := Scalar.indexCast v80
  ![v81.toNat]

def k0_chk9 (v82 : IVec S16 32) : Prop :=
  (∀ a x, ((![v82] : Fin 1 → IVec S16 32) a x).toNat < S100000.size a)
theorem k0_idx9_inb : ∀ (v82 : IVec S16 32) (k0_hw9 : k0_chk9 v82), ∀ a x, ((![v82] : Fin 1 → IVec S16 32) a x).toNat < S100000.size a := fun v82 k0_hw9 => k0_hw9
def k0_off21 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v84 : Index := Scalar.indexCast arg14
  let c0 : Index := 0#32
  ![v84.toNat, 0]
def k0_off22 (k0_t3 : Fin k0_t3_loop.trips) : Fin 1 → Nat :=
  let c4096_i32_73 : BitVec 32 := 4096#32
  let c0_i32_28 : BitVec 32 := 0#32
  let c1_i32_30 : BitVec 32 := 1#32
  let arg14 : BitVec 32 := Scf.iv c0_i32_28 c1_i32_30 k0_t3
  let c128_i32_72 : BitVec 32 := 128#32
  let v86 : BitVec 32 := Scalar.muli arg14 c128_i32_72
  let v87 : BitVec 32 := Scalar.addi c4096_i32_73 v86
  let c16_i32_74 : BitVec 32 := 16#32
  let v88 : BitVec 32 := Scalar.addi v87 c16_i32_74
  let v89 : Index := Scalar.indexCast v88
  ![v89.toNat]

def k0_chk10 (v90 : IVec S16 32) : Prop :=
  (∀ a x, ((![v90] : Fin 1 → IVec S16 32) a x).toNat < S100000.size a)
theorem k0_idx10_inb : ∀ (v90 : IVec S16 32) (k0_hw10 : k0_chk10 v90), ∀ a x, ((![v90] : Fin 1 → IVec S16 32) a x).toNat < S100000.size a := fun v90 k0_hw10 => k0_hw10
def k0_off23 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v92 : Index := Scalar.indexCast arg14
  let c16 : Index := 16#32
  ![v92.toNat, 16]
def k0_off24 (k0_t3 : Fin k0_t3_loop.trips) : Fin 1 → Nat :=
  let c4096_i32_76 : BitVec 32 := 4096#32
  let c0_i32_28 : BitVec 32 := 0#32
  let c1_i32_30 : BitVec 32 := 1#32
  let arg14 : BitVec 32 := Scf.iv c0_i32_28 c1_i32_30 k0_t3
  let c128_i32_75 : BitVec 32 := 128#32
  let v94 : BitVec 32 := Scalar.muli arg14 c128_i32_75
  let v95 : BitVec 32 := Scalar.addi c4096_i32_76 v94
  let c32_i32_77 : BitVec 32 := 32#32
  let v96 : BitVec 32 := Scalar.addi v95 c32_i32_77
  let v97 : Index := Scalar.indexCast v96
  ![v97.toNat]

def k0_chk11 (v98 : IVec S16 32) : Prop :=
  (∀ a x, ((![v98] : Fin 1 → IVec S16 32) a x).toNat < S100000.size a)
theorem k0_idx11_inb : ∀ (v98 : IVec S16 32) (k0_hw11 : k0_chk11 v98), ∀ a x, ((![v98] : Fin 1 → IVec S16 32) a x).toNat < S100000.size a := fun v98 k0_hw11 => k0_hw11
def k0_off25 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v100 : Index := Scalar.indexCast arg14
  let c32 : Index := 32#32
  ![v100.toNat, 32]
def k0_off26 (k0_t3 : Fin k0_t3_loop.trips) : Fin 1 → Nat :=
  let c4096_i32_79 : BitVec 32 := 4096#32
  let c0_i32_28 : BitVec 32 := 0#32
  let c1_i32_30 : BitVec 32 := 1#32
  let arg14 : BitVec 32 := Scf.iv c0_i32_28 c1_i32_30 k0_t3
  let c128_i32_78 : BitVec 32 := 128#32
  let v102 : BitVec 32 := Scalar.muli arg14 c128_i32_78
  let v103 : BitVec 32 := Scalar.addi c4096_i32_79 v102
  let c48_i32 : BitVec 32 := 48#32
  let v104 : BitVec 32 := Scalar.addi v103 c48_i32
  let v105 : Index := Scalar.indexCast v104
  ![v105.toNat]

def k0_chk12 (v106 : IVec S16 32) : Prop :=
  (∀ a x, ((![v106] : Fin 1 → IVec S16 32) a x).toNat < S100000.size a)
theorem k0_idx12_inb : ∀ (v106 : IVec S16 32) (k0_hw12 : k0_chk12 v106), ∀ a x, ((![v106] : Fin 1 → IVec S16 32) a x).toNat < S100000.size a := fun v106 k0_hw12 => k0_hw12
def k0_off27 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v108 : Index := Scalar.indexCast arg14
  let c48 : Index := 48#32
  ![v108.toNat, 48]
def k0_off28 (k0_t3 : Fin k0_t3_loop.trips) : Fin 1 → Nat :=
  let c4096_i32_81 : BitVec 32 := 4096#32
  let c0_i32_28 : BitVec 32 := 0#32
  let c1_i32_30 : BitVec 32 := 1#32
  let arg14 : BitVec 32 := Scf.iv c0_i32_28 c1_i32_30 k0_t3
  let c128_i32_80 : BitVec 32 := 128#32
  let v110 : BitVec 32 := Scalar.muli arg14 c128_i32_80
  let v111 : BitVec 32 := Scalar.addi c4096_i32_81 v110
  let c64_i32_82 : BitVec 32 := 64#32
  let v112 : BitVec 32 := Scalar.addi v111 c64_i32_82
  let v113 : Index := Scalar.indexCast v112
  ![v113.toNat]

def k0_chk13 (v114 : IVec S16 32) : Prop :=
  (∀ a x, ((![v114] : Fin 1 → IVec S16 32) a x).toNat < S100000.size a)
theorem k0_idx13_inb : ∀ (v114 : IVec S16 32) (k0_hw13 : k0_chk13 v114), ∀ a x, ((![v114] : Fin 1 → IVec S16 32) a x).toNat < S100000.size a := fun v114 k0_hw13 => k0_hw13
def k0_off29 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v116 : Index := Scalar.indexCast arg14
  let c64 : Index := 64#32
  ![v116.toNat, 64]
def k0_off30 (k0_t3 : Fin k0_t3_loop.trips) : Fin 1 → Nat :=
  let c4096_i32_84 : BitVec 32 := 4096#32
  let c0_i32_28 : BitVec 32 := 0#32
  let c1_i32_30 : BitVec 32 := 1#32
  let arg14 : BitVec 32 := Scf.iv c0_i32_28 c1_i32_30 k0_t3
  let c128_i32_83 : BitVec 32 := 128#32
  let v118 : BitVec 32 := Scalar.muli arg14 c128_i32_83
  let v119 : BitVec 32 := Scalar.addi c4096_i32_84 v118
  let c80_i32 : BitVec 32 := 80#32
  let v120 : BitVec 32 := Scalar.addi v119 c80_i32
  let v121 : Index := Scalar.indexCast v120
  ![v121.toNat]

def k0_chk14 (v122 : IVec S16 32) : Prop :=
  (∀ a x, ((![v122] : Fin 1 → IVec S16 32) a x).toNat < S100000.size a)
theorem k0_idx14_inb : ∀ (v122 : IVec S16 32) (k0_hw14 : k0_chk14 v122), ∀ a x, ((![v122] : Fin 1 → IVec S16 32) a x).toNat < S100000.size a := fun v122 k0_hw14 => k0_hw14
def k0_off31 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v124 : Index := Scalar.indexCast arg14
  let c80 : Index := 80#32
  ![v124.toNat, 80]
def k0_off32 (k0_t3 : Fin k0_t3_loop.trips) : Fin 1 → Nat :=
  let c4096_i32_86 : BitVec 32 := 4096#32
  let c0_i32_28 : BitVec 32 := 0#32
  let c1_i32_30 : BitVec 32 := 1#32
  let arg14 : BitVec 32 := Scf.iv c0_i32_28 c1_i32_30 k0_t3
  let c128_i32_85 : BitVec 32 := 128#32
  let v126 : BitVec 32 := Scalar.muli arg14 c128_i32_85
  let v127 : BitVec 32 := Scalar.addi c4096_i32_86 v126
  let c96_i32_87 : BitVec 32 := 96#32
  let v128 : BitVec 32 := Scalar.addi v127 c96_i32_87
  let v129 : Index := Scalar.indexCast v128
  ![v129.toNat]

def k0_chk15 (v130 : IVec S16 32) : Prop :=
  (∀ a x, ((![v130] : Fin 1 → IVec S16 32) a x).toNat < S100000.size a)
theorem k0_idx15_inb : ∀ (v130 : IVec S16 32) (k0_hw15 : k0_chk15 v130), ∀ a x, ((![v130] : Fin 1 → IVec S16 32) a x).toNat < S100000.size a := fun v130 k0_hw15 => k0_hw15
def k0_off33 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v132 : Index := Scalar.indexCast arg14
  let c96 : Index := 96#32
  ![v132.toNat, 96]
def k0_off34 (k0_t3 : Fin k0_t3_loop.trips) : Fin 1 → Nat :=
  let c4096_i32_89 : BitVec 32 := 4096#32
  let c0_i32_28 : BitVec 32 := 0#32
  let c1_i32_30 : BitVec 32 := 1#32
  let arg14 : BitVec 32 := Scf.iv c0_i32_28 c1_i32_30 k0_t3
  let c128_i32_88 : BitVec 32 := 128#32
  let v134 : BitVec 32 := Scalar.muli arg14 c128_i32_88
  let v135 : BitVec 32 := Scalar.addi c4096_i32_89 v134
  let c112_i32 : BitVec 32 := 112#32
  let v136 : BitVec 32 := Scalar.addi v135 c112_i32
  let v137 : Index := Scalar.indexCast v136
  ![v137.toNat]

def k0_chk16 (v138 : IVec S16 32) : Prop :=
  (∀ a x, ((![v138] : Fin 1 → IVec S16 32) a x).toNat < S100000.size a)
theorem k0_idx16_inb : ∀ (v138 : IVec S16 32) (k0_hw16 : k0_chk16 v138), ∀ a x, ((![v138] : Fin 1 → IVec S16 32) a x).toNat < S100000.size a := fun v138 k0_hw16 => k0_hw16
def k0_off35 (k0_t3 : Fin k0_t3_loop.trips) : Fin 2 → Nat :=
  let c0_i32_28 : BitVec 32 := 0#32
  let c1_i32_30 : BitVec 32 := 1#32
  let arg14 : BitVec 32 := Scf.iv c0_i32_28 c1_i32_30 k0_t3
  let v140 : Index := Scalar.indexCast arg14
  let c112 : Index := 112#32
  ![v140.toNat, 112]
def k0_off36 (i : grid0.Coords) (k0_t1 : Fin k0_t1_loop.trips) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_32 : BitVec 32 := 0#32
  let v45 : BitVec 32 := Scalar.subi v6 c0_i32_32
  let c32_i32_33 : BitVec 32 := 32#32
  let c0_i32_34 : BitVec 32 := 0#32
  ![v45.toNat, 32, 0]
@[reducible] def k0_t4_loop : Scf.Loop 32 :=
  let c0_i32_42 : BitVec 32 := 0#32
  let c32_i32_43 : BitVec 32 := 32#32
  let v54 : BitVec 32 := Scalar.addi c0_i32_42 c32_i32_43
  let c1_i32_44 : BitVec 32 := 1#32
  ⟨c0_i32_42, v54, c1_i32_44⟩
def k0_off37 (k0_t4 : Fin k0_t4_loop.trips) : Fin 1 → Nat :=
  let c8192_i32 : BitVec 32 := 8192#32
  let c0_i32_42 : BitVec 32 := 0#32
  let c1_i32_44 : BitVec 32 := 1#32
  let arg14 : BitVec 32 := Scf.iv c0_i32_42 c1_i32_44 k0_t4
  let c128_i32 : BitVec 32 := 128#32
  let v78 : BitVec 32 := Scalar.muli arg14 c128_i32
  let v79 : BitVec 32 := Scalar.addi c8192_i32 v78
  let c0_i32_71 : BitVec 32 := 0#32
  let v80 : BitVec 32 := Scalar.addi v79 c0_i32_71
  let v81 : Index := Scalar.indexCast v80
  ![v81.toNat]

def k0_chk17 (v82 : IVec S16 32) : Prop :=
  (∀ a x, ((![v82] : Fin 1 → IVec S16 32) a x).toNat < S100000.size a)
theorem k0_idx17_inb : ∀ (v82 : IVec S16 32) (k0_hw17 : k0_chk17 v82), ∀ a x, ((![v82] : Fin 1 → IVec S16 32) a x).toNat < S100000.size a := fun v82 k0_hw17 => k0_hw17
def k0_off38 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v84 : Index := Scalar.indexCast arg14
  let c0 : Index := 0#32
  ![v84.toNat, 0]
def k0_off39 (k0_t4 : Fin k0_t4_loop.trips) : Fin 1 → Nat :=
  let c8192_i32_73 : BitVec 32 := 8192#32
  let c0_i32_42 : BitVec 32 := 0#32
  let c1_i32_44 : BitVec 32 := 1#32
  let arg14 : BitVec 32 := Scf.iv c0_i32_42 c1_i32_44 k0_t4
  let c128_i32_72 : BitVec 32 := 128#32
  let v86 : BitVec 32 := Scalar.muli arg14 c128_i32_72
  let v87 : BitVec 32 := Scalar.addi c8192_i32_73 v86
  let c16_i32_74 : BitVec 32 := 16#32
  let v88 : BitVec 32 := Scalar.addi v87 c16_i32_74
  let v89 : Index := Scalar.indexCast v88
  ![v89.toNat]

def k0_chk18 (v90 : IVec S16 32) : Prop :=
  (∀ a x, ((![v90] : Fin 1 → IVec S16 32) a x).toNat < S100000.size a)
theorem k0_idx18_inb : ∀ (v90 : IVec S16 32) (k0_hw18 : k0_chk18 v90), ∀ a x, ((![v90] : Fin 1 → IVec S16 32) a x).toNat < S100000.size a := fun v90 k0_hw18 => k0_hw18
def k0_off40 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v92 : Index := Scalar.indexCast arg14
  let c16 : Index := 16#32
  ![v92.toNat, 16]
def k0_off41 (k0_t4 : Fin k0_t4_loop.trips) : Fin 1 → Nat :=
  let c8192_i32_76 : BitVec 32 := 8192#32
  let c0_i32_42 : BitVec 32 := 0#32
  let c1_i32_44 : BitVec 32 := 1#32
  let arg14 : BitVec 32 := Scf.iv c0_i32_42 c1_i32_44 k0_t4
  let c128_i32_75 : BitVec 32 := 128#32
  let v94 : BitVec 32 := Scalar.muli arg14 c128_i32_75
  let v95 : BitVec 32 := Scalar.addi c8192_i32_76 v94
  let c32_i32_77 : BitVec 32 := 32#32
  let v96 : BitVec 32 := Scalar.addi v95 c32_i32_77
  let v97 : Index := Scalar.indexCast v96
  ![v97.toNat]

def k0_chk19 (v98 : IVec S16 32) : Prop :=
  (∀ a x, ((![v98] : Fin 1 → IVec S16 32) a x).toNat < S100000.size a)
theorem k0_idx19_inb : ∀ (v98 : IVec S16 32) (k0_hw19 : k0_chk19 v98), ∀ a x, ((![v98] : Fin 1 → IVec S16 32) a x).toNat < S100000.size a := fun v98 k0_hw19 => k0_hw19
def k0_off42 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v100 : Index := Scalar.indexCast arg14
  let c32 : Index := 32#32
  ![v100.toNat, 32]
def k0_off43 (k0_t4 : Fin k0_t4_loop.trips) : Fin 1 → Nat :=
  let c8192_i32_79 : BitVec 32 := 8192#32
  let c0_i32_42 : BitVec 32 := 0#32
  let c1_i32_44 : BitVec 32 := 1#32
  let arg14 : BitVec 32 := Scf.iv c0_i32_42 c1_i32_44 k0_t4
  let c128_i32_78 : BitVec 32 := 128#32
  let v102 : BitVec 32 := Scalar.muli arg14 c128_i32_78
  let v103 : BitVec 32 := Scalar.addi c8192_i32_79 v102
  let c48_i32 : BitVec 32 := 48#32
  let v104 : BitVec 32 := Scalar.addi v103 c48_i32
  let v105 : Index := Scalar.indexCast v104
  ![v105.toNat]

def k0_chk20 (v106 : IVec S16 32) : Prop :=
  (∀ a x, ((![v106] : Fin 1 → IVec S16 32) a x).toNat < S100000.size a)
theorem k0_idx20_inb : ∀ (v106 : IVec S16 32) (k0_hw20 : k0_chk20 v106), ∀ a x, ((![v106] : Fin 1 → IVec S16 32) a x).toNat < S100000.size a := fun v106 k0_hw20 => k0_hw20
def k0_off44 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v108 : Index := Scalar.indexCast arg14
  let c48 : Index := 48#32
  ![v108.toNat, 48]
def k0_off45 (k0_t4 : Fin k0_t4_loop.trips) : Fin 1 → Nat :=
  let c8192_i32_81 : BitVec 32 := 8192#32
  let c0_i32_42 : BitVec 32 := 0#32
  let c1_i32_44 : BitVec 32 := 1#32
  let arg14 : BitVec 32 := Scf.iv c0_i32_42 c1_i32_44 k0_t4
  let c128_i32_80 : BitVec 32 := 128#32
  let v110 : BitVec 32 := Scalar.muli arg14 c128_i32_80
  let v111 : BitVec 32 := Scalar.addi c8192_i32_81 v110
  let c64_i32_82 : BitVec 32 := 64#32
  let v112 : BitVec 32 := Scalar.addi v111 c64_i32_82
  let v113 : Index := Scalar.indexCast v112
  ![v113.toNat]

def k0_chk21 (v114 : IVec S16 32) : Prop :=
  (∀ a x, ((![v114] : Fin 1 → IVec S16 32) a x).toNat < S100000.size a)
theorem k0_idx21_inb : ∀ (v114 : IVec S16 32) (k0_hw21 : k0_chk21 v114), ∀ a x, ((![v114] : Fin 1 → IVec S16 32) a x).toNat < S100000.size a := fun v114 k0_hw21 => k0_hw21
def k0_off46 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v116 : Index := Scalar.indexCast arg14
  let c64 : Index := 64#32
  ![v116.toNat, 64]
def k0_off47 (k0_t4 : Fin k0_t4_loop.trips) : Fin 1 → Nat :=
  let c8192_i32_84 : BitVec 32 := 8192#32
  let c0_i32_42 : BitVec 32 := 0#32
  let c1_i32_44 : BitVec 32 := 1#32
  let arg14 : BitVec 32 := Scf.iv c0_i32_42 c1_i32_44 k0_t4
  let c128_i32_83 : BitVec 32 := 128#32
  let v118 : BitVec 32 := Scalar.muli arg14 c128_i32_83
  let v119 : BitVec 32 := Scalar.addi c8192_i32_84 v118
  let c80_i32 : BitVec 32 := 80#32
  let v120 : BitVec 32 := Scalar.addi v119 c80_i32
  let v121 : Index := Scalar.indexCast v120
  ![v121.toNat]

def k0_chk22 (v122 : IVec S16 32) : Prop :=
  (∀ a x, ((![v122] : Fin 1 → IVec S16 32) a x).toNat < S100000.size a)
theorem k0_idx22_inb : ∀ (v122 : IVec S16 32) (k0_hw22 : k0_chk22 v122), ∀ a x, ((![v122] : Fin 1 → IVec S16 32) a x).toNat < S100000.size a := fun v122 k0_hw22 => k0_hw22
def k0_off48 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v124 : Index := Scalar.indexCast arg14
  let c80 : Index := 80#32
  ![v124.toNat, 80]
def k0_off49 (k0_t4 : Fin k0_t4_loop.trips) : Fin 1 → Nat :=
  let c8192_i32_86 : BitVec 32 := 8192#32
  let c0_i32_42 : BitVec 32 := 0#32
  let c1_i32_44 : BitVec 32 := 1#32
  let arg14 : BitVec 32 := Scf.iv c0_i32_42 c1_i32_44 k0_t4
  let c128_i32_85 : BitVec 32 := 128#32
  let v126 : BitVec 32 := Scalar.muli arg14 c128_i32_85
  let v127 : BitVec 32 := Scalar.addi c8192_i32_86 v126
  let c96_i32_87 : BitVec 32 := 96#32
  let v128 : BitVec 32 := Scalar.addi v127 c96_i32_87
  let v129 : Index := Scalar.indexCast v128
  ![v129.toNat]

def k0_chk23 (v130 : IVec S16 32) : Prop :=
  (∀ a x, ((![v130] : Fin 1 → IVec S16 32) a x).toNat < S100000.size a)
theorem k0_idx23_inb : ∀ (v130 : IVec S16 32) (k0_hw23 : k0_chk23 v130), ∀ a x, ((![v130] : Fin 1 → IVec S16 32) a x).toNat < S100000.size a := fun v130 k0_hw23 => k0_hw23
def k0_off50 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v132 : Index := Scalar.indexCast arg14
  let c96 : Index := 96#32
  ![v132.toNat, 96]
def k0_off51 (k0_t4 : Fin k0_t4_loop.trips) : Fin 1 → Nat :=
  let c8192_i32_89 : BitVec 32 := 8192#32
  let c0_i32_42 : BitVec 32 := 0#32
  let c1_i32_44 : BitVec 32 := 1#32
  let arg14 : BitVec 32 := Scf.iv c0_i32_42 c1_i32_44 k0_t4
  let c128_i32_88 : BitVec 32 := 128#32
  let v134 : BitVec 32 := Scalar.muli arg14 c128_i32_88
  let v135 : BitVec 32 := Scalar.addi c8192_i32_89 v134
  let c112_i32 : BitVec 32 := 112#32
  let v136 : BitVec 32 := Scalar.addi v135 c112_i32
  let v137 : Index := Scalar.indexCast v136
  ![v137.toNat]

def k0_chk24 (v138 : IVec S16 32) : Prop :=
  (∀ a x, ((![v138] : Fin 1 → IVec S16 32) a x).toNat < S100000.size a)
theorem k0_idx24_inb : ∀ (v138 : IVec S16 32) (k0_hw24 : k0_chk24 v138), ∀ a x, ((![v138] : Fin 1 → IVec S16 32) a x).toNat < S100000.size a := fun v138 k0_hw24 => k0_hw24
def k0_off52 (k0_t4 : Fin k0_t4_loop.trips) : Fin 2 → Nat :=
  let c0_i32_42 : BitVec 32 := 0#32
  let c1_i32_44 : BitVec 32 := 1#32
  let arg14 : BitVec 32 := Scf.iv c0_i32_42 c1_i32_44 k0_t4
  let v140 : Index := Scalar.indexCast arg14
  let c112 : Index := 112#32
  ![v140.toNat, 112]
def k0_off53 (i : grid0.Coords) (k0_t1 : Fin k0_t1_loop.trips) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_46 : BitVec 32 := 0#32
  let v55 : BitVec 32 := Scalar.subi v6 c0_i32_46
  let c64_i32 : BitVec 32 := 64#32
  let c0_i32_47 : BitVec 32 := 0#32
  ![v55.toNat, 64, 0]
@[reducible] def k0_t5_loop : Scf.Loop 32 :=
  let c0_i32_55 : BitVec 32 := 0#32
  let c32_i32_56 : BitVec 32 := 32#32
  let v64 : BitVec 32 := Scalar.addi c0_i32_55 c32_i32_56
  let c1_i32_57 : BitVec 32 := 1#32
  ⟨c0_i32_55, v64, c1_i32_57⟩
def k0_off54 (k0_t5 : Fin k0_t5_loop.trips) : Fin 1 → Nat :=
  let c12288_i32 : BitVec 32 := 12288#32
  let c0_i32_55 : BitVec 32 := 0#32
  let c1_i32_57 : BitVec 32 := 1#32
  let arg14 : BitVec 32 := Scf.iv c0_i32_55 c1_i32_57 k0_t5
  let c128_i32 : BitVec 32 := 128#32
  let v78 : BitVec 32 := Scalar.muli arg14 c128_i32
  let v79 : BitVec 32 := Scalar.addi c12288_i32 v78
  let c0_i32_71 : BitVec 32 := 0#32
  let v80 : BitVec 32 := Scalar.addi v79 c0_i32_71
  let v81 : Index := Scalar.indexCast v80
  ![v81.toNat]

def k0_chk25 (v82 : IVec S16 32) : Prop :=
  (∀ a x, ((![v82] : Fin 1 → IVec S16 32) a x).toNat < S100000.size a)
theorem k0_idx25_inb : ∀ (v82 : IVec S16 32) (k0_hw25 : k0_chk25 v82), ∀ a x, ((![v82] : Fin 1 → IVec S16 32) a x).toNat < S100000.size a := fun v82 k0_hw25 => k0_hw25
def k0_off55 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v84 : Index := Scalar.indexCast arg14
  let c0 : Index := 0#32
  ![v84.toNat, 0]
def k0_off56 (k0_t5 : Fin k0_t5_loop.trips) : Fin 1 → Nat :=
  let c12288_i32_73 : BitVec 32 := 12288#32
  let c0_i32_55 : BitVec 32 := 0#32
  let c1_i32_57 : BitVec 32 := 1#32
  let arg14 : BitVec 32 := Scf.iv c0_i32_55 c1_i32_57 k0_t5
  let c128_i32_72 : BitVec 32 := 128#32
  let v86 : BitVec 32 := Scalar.muli arg14 c128_i32_72
  let v87 : BitVec 32 := Scalar.addi c12288_i32_73 v86
  let c16_i32_74 : BitVec 32 := 16#32
  let v88 : BitVec 32 := Scalar.addi v87 c16_i32_74
  let v89 : Index := Scalar.indexCast v88
  ![v89.toNat]

def k0_chk26 (v90 : IVec S16 32) : Prop :=
  (∀ a x, ((![v90] : Fin 1 → IVec S16 32) a x).toNat < S100000.size a)
theorem k0_idx26_inb : ∀ (v90 : IVec S16 32) (k0_hw26 : k0_chk26 v90), ∀ a x, ((![v90] : Fin 1 → IVec S16 32) a x).toNat < S100000.size a := fun v90 k0_hw26 => k0_hw26
def k0_off57 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v92 : Index := Scalar.indexCast arg14
  let c16 : Index := 16#32
  ![v92.toNat, 16]
def k0_off58 (k0_t5 : Fin k0_t5_loop.trips) : Fin 1 → Nat :=
  let c12288_i32_76 : BitVec 32 := 12288#32
  let c0_i32_55 : BitVec 32 := 0#32
  let c1_i32_57 : BitVec 32 := 1#32
  let arg14 : BitVec 32 := Scf.iv c0_i32_55 c1_i32_57 k0_t5
  let c128_i32_75 : BitVec 32 := 128#32
  let v94 : BitVec 32 := Scalar.muli arg14 c128_i32_75
  let v95 : BitVec 32 := Scalar.addi c12288_i32_76 v94
  let c32_i32_77 : BitVec 32 := 32#32
  let v96 : BitVec 32 := Scalar.addi v95 c32_i32_77
  let v97 : Index := Scalar.indexCast v96
  ![v97.toNat]

def k0_chk27 (v98 : IVec S16 32) : Prop :=
  (∀ a x, ((![v98] : Fin 1 → IVec S16 32) a x).toNat < S100000.size a)
theorem k0_idx27_inb : ∀ (v98 : IVec S16 32) (k0_hw27 : k0_chk27 v98), ∀ a x, ((![v98] : Fin 1 → IVec S16 32) a x).toNat < S100000.size a := fun v98 k0_hw27 => k0_hw27
def k0_off59 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v100 : Index := Scalar.indexCast arg14
  let c32 : Index := 32#32
  ![v100.toNat, 32]
def k0_off60 (k0_t5 : Fin k0_t5_loop.trips) : Fin 1 → Nat :=
  let c12288_i32_79 : BitVec 32 := 12288#32
  let c0_i32_55 : BitVec 32 := 0#32
  let c1_i32_57 : BitVec 32 := 1#32
  let arg14 : BitVec 32 := Scf.iv c0_i32_55 c1_i32_57 k0_t5
  let c128_i32_78 : BitVec 32 := 128#32
  let v102 : BitVec 32 := Scalar.muli arg14 c128_i32_78
  let v103 : BitVec 32 := Scalar.addi c12288_i32_79 v102
  let c48_i32 : BitVec 32 := 48#32
  let v104 : BitVec 32 := Scalar.addi v103 c48_i32
  let v105 : Index := Scalar.indexCast v104
  ![v105.toNat]

def k0_chk28 (v106 : IVec S16 32) : Prop :=
  (∀ a x, ((![v106] : Fin 1 → IVec S16 32) a x).toNat < S100000.size a)
theorem k0_idx28_inb : ∀ (v106 : IVec S16 32) (k0_hw28 : k0_chk28 v106), ∀ a x, ((![v106] : Fin 1 → IVec S16 32) a x).toNat < S100000.size a := fun v106 k0_hw28 => k0_hw28
def k0_off61 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v108 : Index := Scalar.indexCast arg14
  let c48 : Index := 48#32
  ![v108.toNat, 48]
def k0_off62 (k0_t5 : Fin k0_t5_loop.trips) : Fin 1 → Nat :=
  let c12288_i32_81 : BitVec 32 := 12288#32
  let c0_i32_55 : BitVec 32 := 0#32
  let c1_i32_57 : BitVec 32 := 1#32
  let arg14 : BitVec 32 := Scf.iv c0_i32_55 c1_i32_57 k0_t5
  let c128_i32_80 : BitVec 32 := 128#32
  let v110 : BitVec 32 := Scalar.muli arg14 c128_i32_80
  let v111 : BitVec 32 := Scalar.addi c12288_i32_81 v110
  let c64_i32_82 : BitVec 32 := 64#32
  let v112 : BitVec 32 := Scalar.addi v111 c64_i32_82
  let v113 : Index := Scalar.indexCast v112
  ![v113.toNat]

def k0_chk29 (v114 : IVec S16 32) : Prop :=
  (∀ a x, ((![v114] : Fin 1 → IVec S16 32) a x).toNat < S100000.size a)
theorem k0_idx29_inb : ∀ (v114 : IVec S16 32) (k0_hw29 : k0_chk29 v114), ∀ a x, ((![v114] : Fin 1 → IVec S16 32) a x).toNat < S100000.size a := fun v114 k0_hw29 => k0_hw29
def k0_off63 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v116 : Index := Scalar.indexCast arg14
  let c64 : Index := 64#32
  ![v116.toNat, 64]
def k0_off64 (k0_t5 : Fin k0_t5_loop.trips) : Fin 1 → Nat :=
  let c12288_i32_84 : BitVec 32 := 12288#32
  let c0_i32_55 : BitVec 32 := 0#32
  let c1_i32_57 : BitVec 32 := 1#32
  let arg14 : BitVec 32 := Scf.iv c0_i32_55 c1_i32_57 k0_t5
  let c128_i32_83 : BitVec 32 := 128#32
  let v118 : BitVec 32 := Scalar.muli arg14 c128_i32_83
  let v119 : BitVec 32 := Scalar.addi c12288_i32_84 v118
  let c80_i32 : BitVec 32 := 80#32
  let v120 : BitVec 32 := Scalar.addi v119 c80_i32
  let v121 : Index := Scalar.indexCast v120
  ![v121.toNat]

def k0_chk30 (v122 : IVec S16 32) : Prop :=
  (∀ a x, ((![v122] : Fin 1 → IVec S16 32) a x).toNat < S100000.size a)
theorem k0_idx30_inb : ∀ (v122 : IVec S16 32) (k0_hw30 : k0_chk30 v122), ∀ a x, ((![v122] : Fin 1 → IVec S16 32) a x).toNat < S100000.size a := fun v122 k0_hw30 => k0_hw30
def k0_off65 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v124 : Index := Scalar.indexCast arg14
  let c80 : Index := 80#32
  ![v124.toNat, 80]
def k0_off66 (k0_t5 : Fin k0_t5_loop.trips) : Fin 1 → Nat :=
  let c12288_i32_86 : BitVec 32 := 12288#32
  let c0_i32_55 : BitVec 32 := 0#32
  let c1_i32_57 : BitVec 32 := 1#32
  let arg14 : BitVec 32 := Scf.iv c0_i32_55 c1_i32_57 k0_t5
  let c128_i32_85 : BitVec 32 := 128#32
  let v126 : BitVec 32 := Scalar.muli arg14 c128_i32_85
  let v127 : BitVec 32 := Scalar.addi c12288_i32_86 v126
  let c96_i32_87 : BitVec 32 := 96#32
  let v128 : BitVec 32 := Scalar.addi v127 c96_i32_87
  let v129 : Index := Scalar.indexCast v128
  ![v129.toNat]

def k0_chk31 (v130 : IVec S16 32) : Prop :=
  (∀ a x, ((![v130] : Fin 1 → IVec S16 32) a x).toNat < S100000.size a)
theorem k0_idx31_inb : ∀ (v130 : IVec S16 32) (k0_hw31 : k0_chk31 v130), ∀ a x, ((![v130] : Fin 1 → IVec S16 32) a x).toNat < S100000.size a := fun v130 k0_hw31 => k0_hw31
def k0_off67 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v132 : Index := Scalar.indexCast arg14
  let c96 : Index := 96#32
  ![v132.toNat, 96]
def k0_off68 (k0_t5 : Fin k0_t5_loop.trips) : Fin 1 → Nat :=
  let c12288_i32_89 : BitVec 32 := 12288#32
  let c0_i32_55 : BitVec 32 := 0#32
  let c1_i32_57 : BitVec 32 := 1#32
  let arg14 : BitVec 32 := Scf.iv c0_i32_55 c1_i32_57 k0_t5
  let c128_i32_88 : BitVec 32 := 128#32
  let v134 : BitVec 32 := Scalar.muli arg14 c128_i32_88
  let v135 : BitVec 32 := Scalar.addi c12288_i32_89 v134
  let c112_i32 : BitVec 32 := 112#32
  let v136 : BitVec 32 := Scalar.addi v135 c112_i32
  let v137 : Index := Scalar.indexCast v136
  ![v137.toNat]

def k0_chk32 (v138 : IVec S16 32) : Prop :=
  (∀ a x, ((![v138] : Fin 1 → IVec S16 32) a x).toNat < S100000.size a)
theorem k0_idx32_inb : ∀ (v138 : IVec S16 32) (k0_hw32 : k0_chk32 v138), ∀ a x, ((![v138] : Fin 1 → IVec S16 32) a x).toNat < S100000.size a := fun v138 k0_hw32 => k0_hw32
def k0_off69 (k0_t5 : Fin k0_t5_loop.trips) : Fin 2 → Nat :=
  let c0_i32_55 : BitVec 32 := 0#32
  let c1_i32_57 : BitVec 32 := 1#32
  let arg14 : BitVec 32 := Scf.iv c0_i32_55 c1_i32_57 k0_t5
  let v140 : Index := Scalar.indexCast arg14
  let c112 : Index := 112#32
  ![v140.toNat, 112]
def k0_off70 (i : grid0.Coords) (k0_t1 : Fin k0_t1_loop.trips) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v4 : BitVec 32 := Scalar.muli v1 c8_i32_2
  let v5 : BitVec 32 := Scalar.addi c0_i32_3 v4
  let c0_i32_0 : BitVec 32 := 0#32
  let c1_i32 : BitVec 32 := 1#32
  let arg13 : BitVec 32 := Scf.iv c0_i32_0 c1_i32 k0_t1
  let v6 : BitVec 32 := Scalar.addi v5 arg13
  let c0_i32_59 : BitVec 32 := 0#32
  let v65 : BitVec 32 := Scalar.subi v6 c0_i32_59
  let c96_i32 : BitVec 32 := 96#32
  let c0_i32_60 : BitVec 32 := 0#32
  ![v65.toNat, 96, 0]
abbrev grid1 : Pipeline.Grid := ⟨2, ![2, 16], ![false, false]⟩

@[reducible] def k1_t1_loop : Scf.Loop 32 :=
  let c0_i32_0 : BitVec 32 := 0#32
  let c5_i32 : BitVec 32 := 5#32
  let v3 : BitVec 32 := Scalar.addi c0_i32_0 c5_i32
  let c1_i32 : BitVec 32 := 1#32
  ⟨c0_i32_0, v3, c1_i32⟩
def k1_cond1 (i : grid1.Coords) (k1_t1 : Fin k1_t1_loop.trips) : BitVec 1 :=
  let c0_i32_0 : BitVec 32 := 0#32
  let c1_i32 : BitVec 32 := 1#32
  let arg13 : BitVec 32 := Scf.iv c0_i32_0 c1_i32 k1_t1
  let c0_i32_10 : BitVec 32 := 0#32
  let v25 : BitVec 1 := Scalar.cmpi .eq arg13 c0_i32_10
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let v6 : BitVec 32 := Scalar.addi v5 arg13
  let c16_i32_9 : BitVec 32 := 16#32
  let v24 : BitVec 32 := Scalar.remsi v6 c16_i32_9
  let c0_i32_11 : BitVec 32 := 0#32
  let v26 : BitVec 1 := Scalar.cmpi .eq v24 c0_i32_11
  let v27 : BitVec 1 := Scalar.ori v25 v26
  let v28 : BitVec 32 := Scalar.extui v27
  let c0_i32_12 : BitVec 32 := 0#32
  let v29 : BitVec 1 := Scalar.cmpi .ne v28 c0_i32_12
  v29

def k1_off1 (i : grid1.Coords) (k1_t1 : Fin k1_t1_loop.trips) : Fin 2 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c16_i32 : BitVec 32 := 16#32
  let c0_i32_5 : BitVec 32 := 0#32
  let v13 : BitVec 1 := Scalar.cmpi .sgt c16_i32 c0_i32_5
  let v14 : BitVec 32 := Scalar.extui v13
  let c0_i32_6 : BitVec 32 := 0#32
  let v15 : BitVec 1 := Scalar.cmpi .slt c16_i32 c0_i32_6
  let v16 : BitVec 32 := Scalar.extui v15
  let v17 : BitVec 32 := Scalar.subi v14 v16
  let v18 : BitVec 1 := Scalar.cmpi .ne v12 v17
  let v19 : BitVec 32 := Scalar.remsi v6 c16_i32
  let c0_i32_7 : BitVec 32 := 0#32
  let v20 : BitVec 1 := Scalar.cmpi .ne v19 c0_i32_7
  let v21 : BitVec 1 := Scalar.andi v18 v20
  let v7 : BitVec 32 := Scalar.divsi v6 c16_i32
  let c1_i32_8 : BitVec 32 := 1#32
  let v22 : BitVec 32 := Scalar.subi v7 c1_i32_8
  let v23 : BitVec 32 := Scalar.select v21 v22 v7
  let c0_i32_70 : BitVec 32 := 0#32
  ![v23.toNat, 0]
def k1_off2 (i : grid1.Coords) (k1_t1 : Fin k1_t1_loop.trips) : Fin 3 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c16_i32 : BitVec 32 := 16#32
  let c0_i32_5 : BitVec 32 := 0#32
  let v13 : BitVec 1 := Scalar.cmpi .sgt c16_i32 c0_i32_5
  let v14 : BitVec 32 := Scalar.extui v13
  let c0_i32_6 : BitVec 32 := 0#32
  let v15 : BitVec 1 := Scalar.cmpi .slt c16_i32 c0_i32_6
  let v16 : BitVec 32 := Scalar.extui v15
  let v17 : BitVec 32 := Scalar.subi v14 v16
  let v18 : BitVec 1 := Scalar.cmpi .ne v12 v17
  let v19 : BitVec 32 := Scalar.remsi v6 c16_i32
  let c0_i32_7 : BitVec 32 := 0#32
  let v20 : BitVec 1 := Scalar.cmpi .ne v19 c0_i32_7
  let v21 : BitVec 1 := Scalar.andi v18 v20
  let v7 : BitVec 32 := Scalar.divsi v6 c16_i32
  let c1_i32_8 : BitVec 32 := 1#32
  let v22 : BitVec 32 := Scalar.subi v7 c1_i32_8
  let v23 : BitVec 32 := Scalar.select v21 v22 v7
  let c16_i32_9 : BitVec 32 := 16#32
  let v24 : BitVec 32 := Scalar.remsi v6 c16_i32_9
  let c0_i32_13 : BitVec 32 := 0#32
  ![v23.toNat, v24.toNat, 0]
@[reducible] def k1_t2_loop : Scf.Loop 32 :=
  let c0_i32_18 : BitVec 32 := 0#32
  let c32_i32 : BitVec 32 := 32#32
  let v38 : BitVec 32 := Scalar.addi c0_i32_18 c32_i32
  let c1_i32_19 : BitVec 32 := 1#32
  ⟨c0_i32_18, v38, c1_i32_19⟩
def k1_off3 (k1_t2 : Fin k1_t2_loop.trips) : Fin 1 → Nat :=
  let c0_i32_70 : BitVec 32 := 0#32
  let c0_i32_18 : BitVec 32 := 0#32
  let c1_i32_19 : BitVec 32 := 1#32
  let arg14 : BitVec 32 := Scf.iv c0_i32_18 c1_i32_19 k1_t2
  let c128_i32 : BitVec 32 := 128#32
  let v78 : BitVec 32 := Scalar.muli arg14 c128_i32
  let v79 : BitVec 32 := Scalar.addi c0_i32_70 v78
  let c0_i32_71 : BitVec 32 := 0#32
  let v80 : BitVec 32 := Scalar.addi v79 c0_i32_71
  let v81 : Index := Scalar.indexCast v80
  ![v81.toNat]

def k1_chk1 (v82 : IVec S16 32) : Prop :=
  (∀ a x, ((![v82] : Fin 1 → IVec S16 32) a x).toNat < S100000.size a)
theorem k1_idx1_inb : ∀ (v82 : IVec S16 32) (k1_hw1 : k1_chk1 v82), ∀ a x, ((![v82] : Fin 1 → IVec S16 32) a x).toNat < S100000.size a := fun v82 k1_hw1 => k1_hw1
def k1_off4 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v84 : Index := Scalar.indexCast arg14
  let c0 : Index := 0#32
  ![v84.toNat, 0]
def k1_off5 (k1_t2 : Fin k1_t2_loop.trips) : Fin 1 → Nat :=
  let c0_i32_73 : BitVec 32 := 0#32
  let c0_i32_18 : BitVec 32 := 0#32
  let c1_i32_19 : BitVec 32 := 1#32
  let arg14 : BitVec 32 := Scf.iv c0_i32_18 c1_i32_19 k1_t2
  let c128_i32_72 : BitVec 32 := 128#32
  let v86 : BitVec 32 := Scalar.muli arg14 c128_i32_72
  let v87 : BitVec 32 := Scalar.addi c0_i32_73 v86
  let c16_i32_74 : BitVec 32 := 16#32
  let v88 : BitVec 32 := Scalar.addi v87 c16_i32_74
  let v89 : Index := Scalar.indexCast v88
  ![v89.toNat]

def k1_chk2 (v90 : IVec S16 32) : Prop :=
  (∀ a x, ((![v90] : Fin 1 → IVec S16 32) a x).toNat < S100000.size a)
theorem k1_idx2_inb : ∀ (v90 : IVec S16 32) (k1_hw2 : k1_chk2 v90), ∀ a x, ((![v90] : Fin 1 → IVec S16 32) a x).toNat < S100000.size a := fun v90 k1_hw2 => k1_hw2
def k1_off6 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v92 : Index := Scalar.indexCast arg14
  let c16 : Index := 16#32
  ![v92.toNat, 16]
def k1_off7 (k1_t2 : Fin k1_t2_loop.trips) : Fin 1 → Nat :=
  let c0_i32_76 : BitVec 32 := 0#32
  let c0_i32_18 : BitVec 32 := 0#32
  let c1_i32_19 : BitVec 32 := 1#32
  let arg14 : BitVec 32 := Scf.iv c0_i32_18 c1_i32_19 k1_t2
  let c128_i32_75 : BitVec 32 := 128#32
  let v94 : BitVec 32 := Scalar.muli arg14 c128_i32_75
  let v95 : BitVec 32 := Scalar.addi c0_i32_76 v94
  let c32_i32_77 : BitVec 32 := 32#32
  let v96 : BitVec 32 := Scalar.addi v95 c32_i32_77
  let v97 : Index := Scalar.indexCast v96
  ![v97.toNat]

def k1_chk3 (v98 : IVec S16 32) : Prop :=
  (∀ a x, ((![v98] : Fin 1 → IVec S16 32) a x).toNat < S100000.size a)
theorem k1_idx3_inb : ∀ (v98 : IVec S16 32) (k1_hw3 : k1_chk3 v98), ∀ a x, ((![v98] : Fin 1 → IVec S16 32) a x).toNat < S100000.size a := fun v98 k1_hw3 => k1_hw3
def k1_off8 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v100 : Index := Scalar.indexCast arg14
  let c32 : Index := 32#32
  ![v100.toNat, 32]
def k1_off9 (k1_t2 : Fin k1_t2_loop.trips) : Fin 1 → Nat :=
  let c0_i32_79 : BitVec 32 := 0#32
  let c0_i32_18 : BitVec 32 := 0#32
  let c1_i32_19 : BitVec 32 := 1#32
  let arg14 : BitVec 32 := Scf.iv c0_i32_18 c1_i32_19 k1_t2
  let c128_i32_78 : BitVec 32 := 128#32
  let v102 : BitVec 32 := Scalar.muli arg14 c128_i32_78
  let v103 : BitVec 32 := Scalar.addi c0_i32_79 v102
  let c48_i32 : BitVec 32 := 48#32
  let v104 : BitVec 32 := Scalar.addi v103 c48_i32
  let v105 : Index := Scalar.indexCast v104
  ![v105.toNat]

def k1_chk4 (v106 : IVec S16 32) : Prop :=
  (∀ a x, ((![v106] : Fin 1 → IVec S16 32) a x).toNat < S100000.size a)
theorem k1_idx4_inb : ∀ (v106 : IVec S16 32) (k1_hw4 : k1_chk4 v106), ∀ a x, ((![v106] : Fin 1 → IVec S16 32) a x).toNat < S100000.size a := fun v106 k1_hw4 => k1_hw4
def k1_off10 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v108 : Index := Scalar.indexCast arg14
  let c48 : Index := 48#32
  ![v108.toNat, 48]
def k1_off11 (k1_t2 : Fin k1_t2_loop.trips) : Fin 1 → Nat :=
  let c0_i32_81 : BitVec 32 := 0#32
  let c0_i32_18 : BitVec 32 := 0#32
  let c1_i32_19 : BitVec 32 := 1#32
  let arg14 : BitVec 32 := Scf.iv c0_i32_18 c1_i32_19 k1_t2
  let c128_i32_80 : BitVec 32 := 128#32
  let v110 : BitVec 32 := Scalar.muli arg14 c128_i32_80
  let v111 : BitVec 32 := Scalar.addi c0_i32_81 v110
  let c64_i32_82 : BitVec 32 := 64#32
  let v112 : BitVec 32 := Scalar.addi v111 c64_i32_82
  let v113 : Index := Scalar.indexCast v112
  ![v113.toNat]

def k1_chk5 (v114 : IVec S16 32) : Prop :=
  (∀ a x, ((![v114] : Fin 1 → IVec S16 32) a x).toNat < S100000.size a)
theorem k1_idx5_inb : ∀ (v114 : IVec S16 32) (k1_hw5 : k1_chk5 v114), ∀ a x, ((![v114] : Fin 1 → IVec S16 32) a x).toNat < S100000.size a := fun v114 k1_hw5 => k1_hw5
def k1_off12 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v116 : Index := Scalar.indexCast arg14
  let c64 : Index := 64#32
  ![v116.toNat, 64]
def k1_off13 (k1_t2 : Fin k1_t2_loop.trips) : Fin 1 → Nat :=
  let c0_i32_84 : BitVec 32 := 0#32
  let c0_i32_18 : BitVec 32 := 0#32
  let c1_i32_19 : BitVec 32 := 1#32
  let arg14 : BitVec 32 := Scf.iv c0_i32_18 c1_i32_19 k1_t2
  let c128_i32_83 : BitVec 32 := 128#32
  let v118 : BitVec 32 := Scalar.muli arg14 c128_i32_83
  let v119 : BitVec 32 := Scalar.addi c0_i32_84 v118
  let c80_i32 : BitVec 32 := 80#32
  let v120 : BitVec 32 := Scalar.addi v119 c80_i32
  let v121 : Index := Scalar.indexCast v120
  ![v121.toNat]

def k1_chk6 (v122 : IVec S16 32) : Prop :=
  (∀ a x, ((![v122] : Fin 1 → IVec S16 32) a x).toNat < S100000.size a)
theorem k1_idx6_inb : ∀ (v122 : IVec S16 32) (k1_hw6 : k1_chk6 v122), ∀ a x, ((![v122] : Fin 1 → IVec S16 32) a x).toNat < S100000.size a := fun v122 k1_hw6 => k1_hw6
def k1_off14 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v124 : Index := Scalar.indexCast arg14
  let c80 : Index := 80#32
  ![v124.toNat, 80]
def k1_off15 (k1_t2 : Fin k1_t2_loop.trips) : Fin 1 → Nat :=
  let c0_i32_86 : BitVec 32 := 0#32
  let c0_i32_18 : BitVec 32 := 0#32
  let c1_i32_19 : BitVec 32 := 1#32
  let arg14 : BitVec 32 := Scf.iv c0_i32_18 c1_i32_19 k1_t2
  let c128_i32_85 : BitVec 32 := 128#32
  let v126 : BitVec 32 := Scalar.muli arg14 c128_i32_85
  let v127 : BitVec 32 := Scalar.addi c0_i32_86 v126
  let c96_i32_87 : BitVec 32 := 96#32
  let v128 : BitVec 32 := Scalar.addi v127 c96_i32_87
  let v129 : Index := Scalar.indexCast v128
  ![v129.toNat]

def k1_chk7 (v130 : IVec S16 32) : Prop :=
  (∀ a x, ((![v130] : Fin 1 → IVec S16 32) a x).toNat < S100000.size a)
theorem k1_idx7_inb : ∀ (v130 : IVec S16 32) (k1_hw7 : k1_chk7 v130), ∀ a x, ((![v130] : Fin 1 → IVec S16 32) a x).toNat < S100000.size a := fun v130 k1_hw7 => k1_hw7
def k1_off16 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v132 : Index := Scalar.indexCast arg14
  let c96 : Index := 96#32
  ![v132.toNat, 96]
def k1_off17 (k1_t2 : Fin k1_t2_loop.trips) : Fin 1 → Nat :=
  let c0_i32_89 : BitVec 32 := 0#32
  let c0_i32_18 : BitVec 32 := 0#32
  let c1_i32_19 : BitVec 32 := 1#32
  let arg14 : BitVec 32 := Scf.iv c0_i32_18 c1_i32_19 k1_t2
  let c128_i32_88 : BitVec 32 := 128#32
  let v134 : BitVec 32 := Scalar.muli arg14 c128_i32_88
  let v135 : BitVec 32 := Scalar.addi c0_i32_89 v134
  let c112_i32 : BitVec 32 := 112#32
  let v136 : BitVec 32 := Scalar.addi v135 c112_i32
  let v137 : Index := Scalar.indexCast v136
  ![v137.toNat]

def k1_chk8 (v138 : IVec S16 32) : Prop :=
  (∀ a x, ((![v138] : Fin 1 → IVec S16 32) a x).toNat < S100000.size a)
theorem k1_idx8_inb : ∀ (v138 : IVec S16 32) (k1_hw8 : k1_chk8 v138), ∀ a x, ((![v138] : Fin 1 → IVec S16 32) a x).toNat < S100000.size a := fun v138 k1_hw8 => k1_hw8
def k1_off18 (k1_t2 : Fin k1_t2_loop.trips) : Fin 2 → Nat :=
  let c0_i32_18 : BitVec 32 := 0#32
  let c1_i32_19 : BitVec 32 := 1#32
  let arg14 : BitVec 32 := Scf.iv c0_i32_18 c1_i32_19 k1_t2
  let v140 : Index := Scalar.indexCast arg14
  let c112 : Index := 112#32
  ![v140.toNat, 112]
def k1_off19 (i : grid1.Coords) (k1_t1 : Fin k1_t1_loop.trips) : Fin 3 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c256_i32_21 : BitVec 32 := 256#32
  let v39 : BitVec 32 := Scalar.subi v6 c256_i32_21
  let c0_i32_22 : BitVec 32 := 0#32
  let c0_i32_23 : BitVec 32 := 0#32
  ![v39.toNat, 0, 0]
@[reducible] def k1_t3_loop : Scf.Loop 32 :=
  let c0_i32_27 : BitVec 32 := 0#32
  let c32_i32_28 : BitVec 32 := 32#32
  let v44 : BitVec 32 := Scalar.addi c0_i32_27 c32_i32_28
  let c1_i32_29 : BitVec 32 := 1#32
  ⟨c0_i32_27, v44, c1_i32_29⟩
def k1_off20 (k1_t3 : Fin k1_t3_loop.trips) : Fin 1 → Nat :=
  let c4096_i32 : BitVec 32 := 4096#32
  let c0_i32_27 : BitVec 32 := 0#32
  let c1_i32_29 : BitVec 32 := 1#32
  let arg14 : BitVec 32 := Scf.iv c0_i32_27 c1_i32_29 k1_t3
  let c128_i32 : BitVec 32 := 128#32
  let v78 : BitVec 32 := Scalar.muli arg14 c128_i32
  let v79 : BitVec 32 := Scalar.addi c4096_i32 v78
  let c0_i32_70 : BitVec 32 := 0#32
  let v80 : BitVec 32 := Scalar.addi v79 c0_i32_70
  let v81 : Index := Scalar.indexCast v80
  ![v81.toNat]

def k1_chk9 (v82 : IVec S16 32) : Prop :=
  (∀ a x, ((![v82] : Fin 1 → IVec S16 32) a x).toNat < S100000.size a)
theorem k1_idx9_inb : ∀ (v82 : IVec S16 32) (k1_hw9 : k1_chk9 v82), ∀ a x, ((![v82] : Fin 1 → IVec S16 32) a x).toNat < S100000.size a := fun v82 k1_hw9 => k1_hw9
def k1_off21 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v84 : Index := Scalar.indexCast arg14
  let c0 : Index := 0#32
  ![v84.toNat, 0]
def k1_off22 (k1_t3 : Fin k1_t3_loop.trips) : Fin 1 → Nat :=
  let c4096_i32_72 : BitVec 32 := 4096#32
  let c0_i32_27 : BitVec 32 := 0#32
  let c1_i32_29 : BitVec 32 := 1#32
  let arg14 : BitVec 32 := Scf.iv c0_i32_27 c1_i32_29 k1_t3
  let c128_i32_71 : BitVec 32 := 128#32
  let v86 : BitVec 32 := Scalar.muli arg14 c128_i32_71
  let v87 : BitVec 32 := Scalar.addi c4096_i32_72 v86
  let c16_i32_73 : BitVec 32 := 16#32
  let v88 : BitVec 32 := Scalar.addi v87 c16_i32_73
  let v89 : Index := Scalar.indexCast v88
  ![v89.toNat]

def k1_chk10 (v90 : IVec S16 32) : Prop :=
  (∀ a x, ((![v90] : Fin 1 → IVec S16 32) a x).toNat < S100000.size a)
theorem k1_idx10_inb : ∀ (v90 : IVec S16 32) (k1_hw10 : k1_chk10 v90), ∀ a x, ((![v90] : Fin 1 → IVec S16 32) a x).toNat < S100000.size a := fun v90 k1_hw10 => k1_hw10
def k1_off23 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v92 : Index := Scalar.indexCast arg14
  let c16 : Index := 16#32
  ![v92.toNat, 16]
def k1_off24 (k1_t3 : Fin k1_t3_loop.trips) : Fin 1 → Nat :=
  let c4096_i32_75 : BitVec 32 := 4096#32
  let c0_i32_27 : BitVec 32 := 0#32
  let c1_i32_29 : BitVec 32 := 1#32
  let arg14 : BitVec 32 := Scf.iv c0_i32_27 c1_i32_29 k1_t3
  let c128_i32_74 : BitVec 32 := 128#32
  let v94 : BitVec 32 := Scalar.muli arg14 c128_i32_74
  let v95 : BitVec 32 := Scalar.addi c4096_i32_75 v94
  let c32_i32_76 : BitVec 32 := 32#32
  let v96 : BitVec 32 := Scalar.addi v95 c32_i32_76
  let v97 : Index := Scalar.indexCast v96
  ![v97.toNat]

def k1_chk11 (v98 : IVec S16 32) : Prop :=
  (∀ a x, ((![v98] : Fin 1 → IVec S16 32) a x).toNat < S100000.size a)
theorem k1_idx11_inb : ∀ (v98 : IVec S16 32) (k1_hw11 : k1_chk11 v98), ∀ a x, ((![v98] : Fin 1 → IVec S16 32) a x).toNat < S100000.size a := fun v98 k1_hw11 => k1_hw11
def k1_off25 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v100 : Index := Scalar.indexCast arg14
  let c32 : Index := 32#32
  ![v100.toNat, 32]
def k1_off26 (k1_t3 : Fin k1_t3_loop.trips) : Fin 1 → Nat :=
  let c4096_i32_78 : BitVec 32 := 4096#32
  let c0_i32_27 : BitVec 32 := 0#32
  let c1_i32_29 : BitVec 32 := 1#32
  let arg14 : BitVec 32 := Scf.iv c0_i32_27 c1_i32_29 k1_t3
  let c128_i32_77 : BitVec 32 := 128#32
  let v102 : BitVec 32 := Scalar.muli arg14 c128_i32_77
  let v103 : BitVec 32 := Scalar.addi c4096_i32_78 v102
  let c48_i32 : BitVec 32 := 48#32
  let v104 : BitVec 32 := Scalar.addi v103 c48_i32
  let v105 : Index := Scalar.indexCast v104
  ![v105.toNat]

def k1_chk12 (v106 : IVec S16 32) : Prop :=
  (∀ a x, ((![v106] : Fin 1 → IVec S16 32) a x).toNat < S100000.size a)
theorem k1_idx12_inb : ∀ (v106 : IVec S16 32) (k1_hw12 : k1_chk12 v106), ∀ a x, ((![v106] : Fin 1 → IVec S16 32) a x).toNat < S100000.size a := fun v106 k1_hw12 => k1_hw12
def k1_off27 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v108 : Index := Scalar.indexCast arg14
  let c48 : Index := 48#32
  ![v108.toNat, 48]
def k1_off28 (k1_t3 : Fin k1_t3_loop.trips) : Fin 1 → Nat :=
  let c4096_i32_80 : BitVec 32 := 4096#32
  let c0_i32_27 : BitVec 32 := 0#32
  let c1_i32_29 : BitVec 32 := 1#32
  let arg14 : BitVec 32 := Scf.iv c0_i32_27 c1_i32_29 k1_t3
  let c128_i32_79 : BitVec 32 := 128#32
  let v110 : BitVec 32 := Scalar.muli arg14 c128_i32_79
  let v111 : BitVec 32 := Scalar.addi c4096_i32_80 v110
  let c64_i32_81 : BitVec 32 := 64#32
  let v112 : BitVec 32 := Scalar.addi v111 c64_i32_81
  let v113 : Index := Scalar.indexCast v112
  ![v113.toNat]

def k1_chk13 (v114 : IVec S16 32) : Prop :=
  (∀ a x, ((![v114] : Fin 1 → IVec S16 32) a x).toNat < S100000.size a)
theorem k1_idx13_inb : ∀ (v114 : IVec S16 32) (k1_hw13 : k1_chk13 v114), ∀ a x, ((![v114] : Fin 1 → IVec S16 32) a x).toNat < S100000.size a := fun v114 k1_hw13 => k1_hw13
def k1_off29 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v116 : Index := Scalar.indexCast arg14
  let c64 : Index := 64#32
  ![v116.toNat, 64]
def k1_off30 (k1_t3 : Fin k1_t3_loop.trips) : Fin 1 → Nat :=
  let c4096_i32_83 : BitVec 32 := 4096#32
  let c0_i32_27 : BitVec 32 := 0#32
  let c1_i32_29 : BitVec 32 := 1#32
  let arg14 : BitVec 32 := Scf.iv c0_i32_27 c1_i32_29 k1_t3
  let c128_i32_82 : BitVec 32 := 128#32
  let v118 : BitVec 32 := Scalar.muli arg14 c128_i32_82
  let v119 : BitVec 32 := Scalar.addi c4096_i32_83 v118
  let c80_i32 : BitVec 32 := 80#32
  let v120 : BitVec 32 := Scalar.addi v119 c80_i32
  let v121 : Index := Scalar.indexCast v120
  ![v121.toNat]

def k1_chk14 (v122 : IVec S16 32) : Prop :=
  (∀ a x, ((![v122] : Fin 1 → IVec S16 32) a x).toNat < S100000.size a)
theorem k1_idx14_inb : ∀ (v122 : IVec S16 32) (k1_hw14 : k1_chk14 v122), ∀ a x, ((![v122] : Fin 1 → IVec S16 32) a x).toNat < S100000.size a := fun v122 k1_hw14 => k1_hw14
def k1_off31 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v124 : Index := Scalar.indexCast arg14
  let c80 : Index := 80#32
  ![v124.toNat, 80]
def k1_off32 (k1_t3 : Fin k1_t3_loop.trips) : Fin 1 → Nat :=
  let c4096_i32_85 : BitVec 32 := 4096#32
  let c0_i32_27 : BitVec 32 := 0#32
  let c1_i32_29 : BitVec 32 := 1#32
  let arg14 : BitVec 32 := Scf.iv c0_i32_27 c1_i32_29 k1_t3
  let c128_i32_84 : BitVec 32 := 128#32
  let v126 : BitVec 32 := Scalar.muli arg14 c128_i32_84
  let v127 : BitVec 32 := Scalar.addi c4096_i32_85 v126
  let c96_i32_86 : BitVec 32 := 96#32
  let v128 : BitVec 32 := Scalar.addi v127 c96_i32_86
  let v129 : Index := Scalar.indexCast v128
  ![v129.toNat]

def k1_chk15 (v130 : IVec S16 32) : Prop :=
  (∀ a x, ((![v130] : Fin 1 → IVec S16 32) a x).toNat < S100000.size a)
theorem k1_idx15_inb : ∀ (v130 : IVec S16 32) (k1_hw15 : k1_chk15 v130), ∀ a x, ((![v130] : Fin 1 → IVec S16 32) a x).toNat < S100000.size a := fun v130 k1_hw15 => k1_hw15
def k1_off33 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v132 : Index := Scalar.indexCast arg14
  let c96 : Index := 96#32
  ![v132.toNat, 96]
def k1_off34 (k1_t3 : Fin k1_t3_loop.trips) : Fin 1 → Nat :=
  let c4096_i32_88 : BitVec 32 := 4096#32
  let c0_i32_27 : BitVec 32 := 0#32
  let c1_i32_29 : BitVec 32 := 1#32
  let arg14 : BitVec 32 := Scf.iv c0_i32_27 c1_i32_29 k1_t3
  let c128_i32_87 : BitVec 32 := 128#32
  let v134 : BitVec 32 := Scalar.muli arg14 c128_i32_87
  let v135 : BitVec 32 := Scalar.addi c4096_i32_88 v134
  let c112_i32 : BitVec 32 := 112#32
  let v136 : BitVec 32 := Scalar.addi v135 c112_i32
  let v137 : Index := Scalar.indexCast v136
  ![v137.toNat]

def k1_chk16 (v138 : IVec S16 32) : Prop :=
  (∀ a x, ((![v138] : Fin 1 → IVec S16 32) a x).toNat < S100000.size a)
theorem k1_idx16_inb : ∀ (v138 : IVec S16 32) (k1_hw16 : k1_chk16 v138), ∀ a x, ((![v138] : Fin 1 → IVec S16 32) a x).toNat < S100000.size a := fun v138 k1_hw16 => k1_hw16
def k1_off35 (k1_t3 : Fin k1_t3_loop.trips) : Fin 2 → Nat :=
  let c0_i32_27 : BitVec 32 := 0#32
  let c1_i32_29 : BitVec 32 := 1#32
  let arg14 : BitVec 32 := Scf.iv c0_i32_27 c1_i32_29 k1_t3
  let v140 : Index := Scalar.indexCast arg14
  let c112 : Index := 112#32
  ![v140.toNat, 112]
def k1_off36 (i : grid1.Coords) (k1_t1 : Fin k1_t1_loop.trips) : Fin 3 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c256_i32_31 : BitVec 32 := 256#32
  let v45 : BitVec 32 := Scalar.subi v6 c256_i32_31
  let c32_i32_32 : BitVec 32 := 32#32
  let c0_i32_33 : BitVec 32 := 0#32
  ![v45.toNat, 32, 0]
@[reducible] def k1_t4_loop : Scf.Loop 32 :=
  let c0_i32_41 : BitVec 32 := 0#32
  let c32_i32_42 : BitVec 32 := 32#32
  let v54 : BitVec 32 := Scalar.addi c0_i32_41 c32_i32_42
  let c1_i32_43 : BitVec 32 := 1#32
  ⟨c0_i32_41, v54, c1_i32_43⟩
def k1_off37 (k1_t4 : Fin k1_t4_loop.trips) : Fin 1 → Nat :=
  let c8192_i32 : BitVec 32 := 8192#32
  let c0_i32_41 : BitVec 32 := 0#32
  let c1_i32_43 : BitVec 32 := 1#32
  let arg14 : BitVec 32 := Scf.iv c0_i32_41 c1_i32_43 k1_t4
  let c128_i32 : BitVec 32 := 128#32
  let v78 : BitVec 32 := Scalar.muli arg14 c128_i32
  let v79 : BitVec 32 := Scalar.addi c8192_i32 v78
  let c0_i32_70 : BitVec 32 := 0#32
  let v80 : BitVec 32 := Scalar.addi v79 c0_i32_70
  let v81 : Index := Scalar.indexCast v80
  ![v81.toNat]

def k1_chk17 (v82 : IVec S16 32) : Prop :=
  (∀ a x, ((![v82] : Fin 1 → IVec S16 32) a x).toNat < S100000.size a)
theorem k1_idx17_inb : ∀ (v82 : IVec S16 32) (k1_hw17 : k1_chk17 v82), ∀ a x, ((![v82] : Fin 1 → IVec S16 32) a x).toNat < S100000.size a := fun v82 k1_hw17 => k1_hw17
def k1_off38 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v84 : Index := Scalar.indexCast arg14
  let c0 : Index := 0#32
  ![v84.toNat, 0]
def k1_off39 (k1_t4 : Fin k1_t4_loop.trips) : Fin 1 → Nat :=
  let c8192_i32_72 : BitVec 32 := 8192#32
  let c0_i32_41 : BitVec 32 := 0#32
  let c1_i32_43 : BitVec 32 := 1#32
  let arg14 : BitVec 32 := Scf.iv c0_i32_41 c1_i32_43 k1_t4
  let c128_i32_71 : BitVec 32 := 128#32
  let v86 : BitVec 32 := Scalar.muli arg14 c128_i32_71
  let v87 : BitVec 32 := Scalar.addi c8192_i32_72 v86
  let c16_i32_73 : BitVec 32 := 16#32
  let v88 : BitVec 32 := Scalar.addi v87 c16_i32_73
  let v89 : Index := Scalar.indexCast v88
  ![v89.toNat]

def k1_chk18 (v90 : IVec S16 32) : Prop :=
  (∀ a x, ((![v90] : Fin 1 → IVec S16 32) a x).toNat < S100000.size a)
theorem k1_idx18_inb : ∀ (v90 : IVec S16 32) (k1_hw18 : k1_chk18 v90), ∀ a x, ((![v90] : Fin 1 → IVec S16 32) a x).toNat < S100000.size a := fun v90 k1_hw18 => k1_hw18
def k1_off40 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v92 : Index := Scalar.indexCast arg14
  let c16 : Index := 16#32
  ![v92.toNat, 16]
def k1_off41 (k1_t4 : Fin k1_t4_loop.trips) : Fin 1 → Nat :=
  let c8192_i32_75 : BitVec 32 := 8192#32
  let c0_i32_41 : BitVec 32 := 0#32
  let c1_i32_43 : BitVec 32 := 1#32
  let arg14 : BitVec 32 := Scf.iv c0_i32_41 c1_i32_43 k1_t4
  let c128_i32_74 : BitVec 32 := 128#32
  let v94 : BitVec 32 := Scalar.muli arg14 c128_i32_74
  let v95 : BitVec 32 := Scalar.addi c8192_i32_75 v94
  let c32_i32_76 : BitVec 32 := 32#32
  let v96 : BitVec 32 := Scalar.addi v95 c32_i32_76
  let v97 : Index := Scalar.indexCast v96
  ![v97.toNat]

def k1_chk19 (v98 : IVec S16 32) : Prop :=
  (∀ a x, ((![v98] : Fin 1 → IVec S16 32) a x).toNat < S100000.size a)
theorem k1_idx19_inb : ∀ (v98 : IVec S16 32) (k1_hw19 : k1_chk19 v98), ∀ a x, ((![v98] : Fin 1 → IVec S16 32) a x).toNat < S100000.size a := fun v98 k1_hw19 => k1_hw19
def k1_off42 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v100 : Index := Scalar.indexCast arg14
  let c32 : Index := 32#32
  ![v100.toNat, 32]
def k1_off43 (k1_t4 : Fin k1_t4_loop.trips) : Fin 1 → Nat :=
  let c8192_i32_78 : BitVec 32 := 8192#32
  let c0_i32_41 : BitVec 32 := 0#32
  let c1_i32_43 : BitVec 32 := 1#32
  let arg14 : BitVec 32 := Scf.iv c0_i32_41 c1_i32_43 k1_t4
  let c128_i32_77 : BitVec 32 := 128#32
  let v102 : BitVec 32 := Scalar.muli arg14 c128_i32_77
  let v103 : BitVec 32 := Scalar.addi c8192_i32_78 v102
  let c48_i32 : BitVec 32 := 48#32
  let v104 : BitVec 32 := Scalar.addi v103 c48_i32
  let v105 : Index := Scalar.indexCast v104
  ![v105.toNat]

def k1_chk20 (v106 : IVec S16 32) : Prop :=
  (∀ a x, ((![v106] : Fin 1 → IVec S16 32) a x).toNat < S100000.size a)
theorem k1_idx20_inb : ∀ (v106 : IVec S16 32) (k1_hw20 : k1_chk20 v106), ∀ a x, ((![v106] : Fin 1 → IVec S16 32) a x).toNat < S100000.size a := fun v106 k1_hw20 => k1_hw20
def k1_off44 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v108 : Index := Scalar.indexCast arg14
  let c48 : Index := 48#32
  ![v108.toNat, 48]
def k1_off45 (k1_t4 : Fin k1_t4_loop.trips) : Fin 1 → Nat :=
  let c8192_i32_80 : BitVec 32 := 8192#32
  let c0_i32_41 : BitVec 32 := 0#32
  let c1_i32_43 : BitVec 32 := 1#32
  let arg14 : BitVec 32 := Scf.iv c0_i32_41 c1_i32_43 k1_t4
  let c128_i32_79 : BitVec 32 := 128#32
  let v110 : BitVec 32 := Scalar.muli arg14 c128_i32_79
  let v111 : BitVec 32 := Scalar.addi c8192_i32_80 v110
  let c64_i32_81 : BitVec 32 := 64#32
  let v112 : BitVec 32 := Scalar.addi v111 c64_i32_81
  let v113 : Index := Scalar.indexCast v112
  ![v113.toNat]

def k1_chk21 (v114 : IVec S16 32) : Prop :=
  (∀ a x, ((![v114] : Fin 1 → IVec S16 32) a x).toNat < S100000.size a)
theorem k1_idx21_inb : ∀ (v114 : IVec S16 32) (k1_hw21 : k1_chk21 v114), ∀ a x, ((![v114] : Fin 1 → IVec S16 32) a x).toNat < S100000.size a := fun v114 k1_hw21 => k1_hw21
def k1_off46 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v116 : Index := Scalar.indexCast arg14
  let c64 : Index := 64#32
  ![v116.toNat, 64]
def k1_off47 (k1_t4 : Fin k1_t4_loop.trips) : Fin 1 → Nat :=
  let c8192_i32_83 : BitVec 32 := 8192#32
  let c0_i32_41 : BitVec 32 := 0#32
  let c1_i32_43 : BitVec 32 := 1#32
  let arg14 : BitVec 32 := Scf.iv c0_i32_41 c1_i32_43 k1_t4
  let c128_i32_82 : BitVec 32 := 128#32
  let v118 : BitVec 32 := Scalar.muli arg14 c128_i32_82
  let v119 : BitVec 32 := Scalar.addi c8192_i32_83 v118
  let c80_i32 : BitVec 32 := 80#32
  let v120 : BitVec 32 := Scalar.addi v119 c80_i32
  let v121 : Index := Scalar.indexCast v120
  ![v121.toNat]

def k1_chk22 (v122 : IVec S16 32) : Prop :=
  (∀ a x, ((![v122] : Fin 1 → IVec S16 32) a x).toNat < S100000.size a)
theorem k1_idx22_inb : ∀ (v122 : IVec S16 32) (k1_hw22 : k1_chk22 v122), ∀ a x, ((![v122] : Fin 1 → IVec S16 32) a x).toNat < S100000.size a := fun v122 k1_hw22 => k1_hw22
def k1_off48 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v124 : Index := Scalar.indexCast arg14
  let c80 : Index := 80#32
  ![v124.toNat, 80]
def k1_off49 (k1_t4 : Fin k1_t4_loop.trips) : Fin 1 → Nat :=
  let c8192_i32_85 : BitVec 32 := 8192#32
  let c0_i32_41 : BitVec 32 := 0#32
  let c1_i32_43 : BitVec 32 := 1#32
  let arg14 : BitVec 32 := Scf.iv c0_i32_41 c1_i32_43 k1_t4
  let c128_i32_84 : BitVec 32 := 128#32
  let v126 : BitVec 32 := Scalar.muli arg14 c128_i32_84
  let v127 : BitVec 32 := Scalar.addi c8192_i32_85 v126
  let c96_i32_86 : BitVec 32 := 96#32
  let v128 : BitVec 32 := Scalar.addi v127 c96_i32_86
  let v129 : Index := Scalar.indexCast v128
  ![v129.toNat]

def k1_chk23 (v130 : IVec S16 32) : Prop :=
  (∀ a x, ((![v130] : Fin 1 → IVec S16 32) a x).toNat < S100000.size a)
theorem k1_idx23_inb : ∀ (v130 : IVec S16 32) (k1_hw23 : k1_chk23 v130), ∀ a x, ((![v130] : Fin 1 → IVec S16 32) a x).toNat < S100000.size a := fun v130 k1_hw23 => k1_hw23
def k1_off50 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v132 : Index := Scalar.indexCast arg14
  let c96 : Index := 96#32
  ![v132.toNat, 96]
def k1_off51 (k1_t4 : Fin k1_t4_loop.trips) : Fin 1 → Nat :=
  let c8192_i32_88 : BitVec 32 := 8192#32
  let c0_i32_41 : BitVec 32 := 0#32
  let c1_i32_43 : BitVec 32 := 1#32
  let arg14 : BitVec 32 := Scf.iv c0_i32_41 c1_i32_43 k1_t4
  let c128_i32_87 : BitVec 32 := 128#32
  let v134 : BitVec 32 := Scalar.muli arg14 c128_i32_87
  let v135 : BitVec 32 := Scalar.addi c8192_i32_88 v134
  let c112_i32 : BitVec 32 := 112#32
  let v136 : BitVec 32 := Scalar.addi v135 c112_i32
  let v137 : Index := Scalar.indexCast v136
  ![v137.toNat]

def k1_chk24 (v138 : IVec S16 32) : Prop :=
  (∀ a x, ((![v138] : Fin 1 → IVec S16 32) a x).toNat < S100000.size a)
theorem k1_idx24_inb : ∀ (v138 : IVec S16 32) (k1_hw24 : k1_chk24 v138), ∀ a x, ((![v138] : Fin 1 → IVec S16 32) a x).toNat < S100000.size a := fun v138 k1_hw24 => k1_hw24
def k1_off52 (k1_t4 : Fin k1_t4_loop.trips) : Fin 2 → Nat :=
  let c0_i32_41 : BitVec 32 := 0#32
  let c1_i32_43 : BitVec 32 := 1#32
  let arg14 : BitVec 32 := Scf.iv c0_i32_41 c1_i32_43 k1_t4
  let v140 : Index := Scalar.indexCast arg14
  let c112 : Index := 112#32
  ![v140.toNat, 112]
def k1_off53 (i : grid1.Coords) (k1_t1 : Fin k1_t1_loop.trips) : Fin 3 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c256_i32_45 : BitVec 32 := 256#32
  let v55 : BitVec 32 := Scalar.subi v6 c256_i32_45
  let c64_i32 : BitVec 32 := 64#32
  let c0_i32_46 : BitVec 32 := 0#32
  ![v55.toNat, 64, 0]
@[reducible] def k1_t5_loop : Scf.Loop 32 :=
  let c0_i32_54 : BitVec 32 := 0#32
  let c32_i32_55 : BitVec 32 := 32#32
  let v64 : BitVec 32 := Scalar.addi c0_i32_54 c32_i32_55
  let c1_i32_56 : BitVec 32 := 1#32
  ⟨c0_i32_54, v64, c1_i32_56⟩
def k1_off54 (k1_t5 : Fin k1_t5_loop.trips) : Fin 1 → Nat :=
  let c12288_i32 : BitVec 32 := 12288#32
  let c0_i32_54 : BitVec 32 := 0#32
  let c1_i32_56 : BitVec 32 := 1#32
  let arg14 : BitVec 32 := Scf.iv c0_i32_54 c1_i32_56 k1_t5
  let c128_i32 : BitVec 32 := 128#32
  let v78 : BitVec 32 := Scalar.muli arg14 c128_i32
  let v79 : BitVec 32 := Scalar.addi c12288_i32 v78
  let c0_i32_70 : BitVec 32 := 0#32
  let v80 : BitVec 32 := Scalar.addi v79 c0_i32_70
  let v81 : Index := Scalar.indexCast v80
  ![v81.toNat]

def k1_chk25 (v82 : IVec S16 32) : Prop :=
  (∀ a x, ((![v82] : Fin 1 → IVec S16 32) a x).toNat < S100000.size a)
theorem k1_idx25_inb : ∀ (v82 : IVec S16 32) (k1_hw25 : k1_chk25 v82), ∀ a x, ((![v82] : Fin 1 → IVec S16 32) a x).toNat < S100000.size a := fun v82 k1_hw25 => k1_hw25
def k1_off55 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v84 : Index := Scalar.indexCast arg14
  let c0 : Index := 0#32
  ![v84.toNat, 0]
def k1_off56 (k1_t5 : Fin k1_t5_loop.trips) : Fin 1 → Nat :=
  let c12288_i32_72 : BitVec 32 := 12288#32
  let c0_i32_54 : BitVec 32 := 0#32
  let c1_i32_56 : BitVec 32 := 1#32
  let arg14 : BitVec 32 := Scf.iv c0_i32_54 c1_i32_56 k1_t5
  let c128_i32_71 : BitVec 32 := 128#32
  let v86 : BitVec 32 := Scalar.muli arg14 c128_i32_71
  let v87 : BitVec 32 := Scalar.addi c12288_i32_72 v86
  let c16_i32_73 : BitVec 32 := 16#32
  let v88 : BitVec 32 := Scalar.addi v87 c16_i32_73
  let v89 : Index := Scalar.indexCast v88
  ![v89.toNat]

def k1_chk26 (v90 : IVec S16 32) : Prop :=
  (∀ a x, ((![v90] : Fin 1 → IVec S16 32) a x).toNat < S100000.size a)
theorem k1_idx26_inb : ∀ (v90 : IVec S16 32) (k1_hw26 : k1_chk26 v90), ∀ a x, ((![v90] : Fin 1 → IVec S16 32) a x).toNat < S100000.size a := fun v90 k1_hw26 => k1_hw26
def k1_off57 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v92 : Index := Scalar.indexCast arg14
  let c16 : Index := 16#32
  ![v92.toNat, 16]
def k1_off58 (k1_t5 : Fin k1_t5_loop.trips) : Fin 1 → Nat :=
  let c12288_i32_75 : BitVec 32 := 12288#32
  let c0_i32_54 : BitVec 32 := 0#32
  let c1_i32_56 : BitVec 32 := 1#32
  let arg14 : BitVec 32 := Scf.iv c0_i32_54 c1_i32_56 k1_t5
  let c128_i32_74 : BitVec 32 := 128#32
  let v94 : BitVec 32 := Scalar.muli arg14 c128_i32_74
  let v95 : BitVec 32 := Scalar.addi c12288_i32_75 v94
  let c32_i32_76 : BitVec 32 := 32#32
  let v96 : BitVec 32 := Scalar.addi v95 c32_i32_76
  let v97 : Index := Scalar.indexCast v96
  ![v97.toNat]

def k1_chk27 (v98 : IVec S16 32) : Prop :=
  (∀ a x, ((![v98] : Fin 1 → IVec S16 32) a x).toNat < S100000.size a)
theorem k1_idx27_inb : ∀ (v98 : IVec S16 32) (k1_hw27 : k1_chk27 v98), ∀ a x, ((![v98] : Fin 1 → IVec S16 32) a x).toNat < S100000.size a := fun v98 k1_hw27 => k1_hw27
def k1_off59 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v100 : Index := Scalar.indexCast arg14
  let c32 : Index := 32#32
  ![v100.toNat, 32]
def k1_off60 (k1_t5 : Fin k1_t5_loop.trips) : Fin 1 → Nat :=
  let c12288_i32_78 : BitVec 32 := 12288#32
  let c0_i32_54 : BitVec 32 := 0#32
  let c1_i32_56 : BitVec 32 := 1#32
  let arg14 : BitVec 32 := Scf.iv c0_i32_54 c1_i32_56 k1_t5
  let c128_i32_77 : BitVec 32 := 128#32
  let v102 : BitVec 32 := Scalar.muli arg14 c128_i32_77
  let v103 : BitVec 32 := Scalar.addi c12288_i32_78 v102
  let c48_i32 : BitVec 32 := 48#32
  let v104 : BitVec 32 := Scalar.addi v103 c48_i32
  let v105 : Index := Scalar.indexCast v104
  ![v105.toNat]

def k1_chk28 (v106 : IVec S16 32) : Prop :=
  (∀ a x, ((![v106] : Fin 1 → IVec S16 32) a x).toNat < S100000.size a)
theorem k1_idx28_inb : ∀ (v106 : IVec S16 32) (k1_hw28 : k1_chk28 v106), ∀ a x, ((![v106] : Fin 1 → IVec S16 32) a x).toNat < S100000.size a := fun v106 k1_hw28 => k1_hw28
def k1_off61 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v108 : Index := Scalar.indexCast arg14
  let c48 : Index := 48#32
  ![v108.toNat, 48]
def k1_off62 (k1_t5 : Fin k1_t5_loop.trips) : Fin 1 → Nat :=
  let c12288_i32_80 : BitVec 32 := 12288#32
  let c0_i32_54 : BitVec 32 := 0#32
  let c1_i32_56 : BitVec 32 := 1#32
  let arg14 : BitVec 32 := Scf.iv c0_i32_54 c1_i32_56 k1_t5
  let c128_i32_79 : BitVec 32 := 128#32
  let v110 : BitVec 32 := Scalar.muli arg14 c128_i32_79
  let v111 : BitVec 32 := Scalar.addi c12288_i32_80 v110
  let c64_i32_81 : BitVec 32 := 64#32
  let v112 : BitVec 32 := Scalar.addi v111 c64_i32_81
  let v113 : Index := Scalar.indexCast v112
  ![v113.toNat]

def k1_chk29 (v114 : IVec S16 32) : Prop :=
  (∀ a x, ((![v114] : Fin 1 → IVec S16 32) a x).toNat < S100000.size a)
theorem k1_idx29_inb : ∀ (v114 : IVec S16 32) (k1_hw29 : k1_chk29 v114), ∀ a x, ((![v114] : Fin 1 → IVec S16 32) a x).toNat < S100000.size a := fun v114 k1_hw29 => k1_hw29
def k1_off63 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v116 : Index := Scalar.indexCast arg14
  let c64 : Index := 64#32
  ![v116.toNat, 64]
def k1_off64 (k1_t5 : Fin k1_t5_loop.trips) : Fin 1 → Nat :=
  let c12288_i32_83 : BitVec 32 := 12288#32
  let c0_i32_54 : BitVec 32 := 0#32
  let c1_i32_56 : BitVec 32 := 1#32
  let arg14 : BitVec 32 := Scf.iv c0_i32_54 c1_i32_56 k1_t5
  let c128_i32_82 : BitVec 32 := 128#32
  let v118 : BitVec 32 := Scalar.muli arg14 c128_i32_82
  let v119 : BitVec 32 := Scalar.addi c12288_i32_83 v118
  let c80_i32 : BitVec 32 := 80#32
  let v120 : BitVec 32 := Scalar.addi v119 c80_i32
  let v121 : Index := Scalar.indexCast v120
  ![v121.toNat]

def k1_chk30 (v122 : IVec S16 32) : Prop :=
  (∀ a x, ((![v122] : Fin 1 → IVec S16 32) a x).toNat < S100000.size a)
theorem k1_idx30_inb : ∀ (v122 : IVec S16 32) (k1_hw30 : k1_chk30 v122), ∀ a x, ((![v122] : Fin 1 → IVec S16 32) a x).toNat < S100000.size a := fun v122 k1_hw30 => k1_hw30
def k1_off65 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v124 : Index := Scalar.indexCast arg14
  let c80 : Index := 80#32
  ![v124.toNat, 80]
def k1_off66 (k1_t5 : Fin k1_t5_loop.trips) : Fin 1 → Nat :=
  let c12288_i32_85 : BitVec 32 := 12288#32
  let c0_i32_54 : BitVec 32 := 0#32
  let c1_i32_56 : BitVec 32 := 1#32
  let arg14 : BitVec 32 := Scf.iv c0_i32_54 c1_i32_56 k1_t5
  let c128_i32_84 : BitVec 32 := 128#32
  let v126 : BitVec 32 := Scalar.muli arg14 c128_i32_84
  let v127 : BitVec 32 := Scalar.addi c12288_i32_85 v126
  let c96_i32_86 : BitVec 32 := 96#32
  let v128 : BitVec 32 := Scalar.addi v127 c96_i32_86
  let v129 : Index := Scalar.indexCast v128
  ![v129.toNat]

def k1_chk31 (v130 : IVec S16 32) : Prop :=
  (∀ a x, ((![v130] : Fin 1 → IVec S16 32) a x).toNat < S100000.size a)
theorem k1_idx31_inb : ∀ (v130 : IVec S16 32) (k1_hw31 : k1_chk31 v130), ∀ a x, ((![v130] : Fin 1 → IVec S16 32) a x).toNat < S100000.size a := fun v130 k1_hw31 => k1_hw31
def k1_off67 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v132 : Index := Scalar.indexCast arg14
  let c96 : Index := 96#32
  ![v132.toNat, 96]
def k1_off68 (k1_t5 : Fin k1_t5_loop.trips) : Fin 1 → Nat :=
  let c12288_i32_88 : BitVec 32 := 12288#32
  let c0_i32_54 : BitVec 32 := 0#32
  let c1_i32_56 : BitVec 32 := 1#32
  let arg14 : BitVec 32 := Scf.iv c0_i32_54 c1_i32_56 k1_t5
  let c128_i32_87 : BitVec 32 := 128#32
  let v134 : BitVec 32 := Scalar.muli arg14 c128_i32_87
  let v135 : BitVec 32 := Scalar.addi c12288_i32_88 v134
  let c112_i32 : BitVec 32 := 112#32
  let v136 : BitVec 32 := Scalar.addi v135 c112_i32
  let v137 : Index := Scalar.indexCast v136
  ![v137.toNat]

def k1_chk32 (v138 : IVec S16 32) : Prop :=
  (∀ a x, ((![v138] : Fin 1 → IVec S16 32) a x).toNat < S100000.size a)
theorem k1_idx32_inb : ∀ (v138 : IVec S16 32) (k1_hw32 : k1_chk32 v138), ∀ a x, ((![v138] : Fin 1 → IVec S16 32) a x).toNat < S100000.size a := fun v138 k1_hw32 => k1_hw32
def k1_off69 (k1_t5 : Fin k1_t5_loop.trips) : Fin 2 → Nat :=
  let c0_i32_54 : BitVec 32 := 0#32
  let c1_i32_56 : BitVec 32 := 1#32
  let arg14 : BitVec 32 := Scf.iv c0_i32_54 c1_i32_56 k1_t5
  let v140 : Index := Scalar.indexCast arg14
  let c112 : Index := 112#32
  ![v140.toNat, 112]
def k1_off70 (i : grid1.Coords) (k1_t1 : Fin k1_t1_loop.trips) : Fin 3 → Nat :=
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_2 : BitVec 32 := 5#32
  let v4 : BitVec 32 := Scalar.muli v1 c5_i32_2
  let v5 : BitVec 32 := Scalar.addi c256_i32 v4
  let c0_i32_0 : BitVec 32 := 0#32
  let c1_i32 : BitVec 32 := 1#32
  let arg13 : BitVec 32 := Scf.iv c0_i32_0 c1_i32 k1_t1
  let v6 : BitVec 32 := Scalar.addi v5 arg13
  let c256_i32_58 : BitVec 32 := 256#32
  let v65 : BitVec 32 := Scalar.subi v6 c256_i32_58
  let c96_i32 : BitVec 32 := 96#32
  let c0_i32_59 : BitVec 32 := 0#32
  ![v65.toNat, 96, 0]
abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S13x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x200 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S13x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S160x8x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x200 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S160x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S200x5 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x5 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x5 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S16384x13 : Shape := ⟨2, ![16384, 13]⟩
abbrev S26x100000x16 : Shape := ⟨3, ![26, 100000, 16]⟩
abbrev S429x200 : Shape := ⟨2, ![429, 200]⟩
abbrev S200 : Shape := ⟨1, ![200]⟩
abbrev S200x5 : Shape := ⟨2, ![200, 5]⟩
abbrev S5 : Shape := ⟨1, ![5]⟩
abbrev S13 : Shape := ⟨1, ![13]⟩
abbrev S_ : Shape := ⟨0, ![]⟩
abbrev S26x16384 : Shape := ⟨2, ![26, 16384]⟩
abbrev S26x16384x1 : Shape := ⟨3, ![26, 16384, 1]⟩
abbrev S1 : Shape := ⟨1, ![1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S1x13 : Shape := ⟨2, ![1, 13]⟩
abbrev S16384x429 : Shape := ⟨2, ![16384, 429]⟩
abbrev S16384x200 : Shape := ⟨2, ![16384, 200]⟩
abbrev S1x200 : Shape := ⟨2, ![1, 200]⟩
abbrev S16384x5 : Shape := ⟨2, ![16384, 5]⟩
abbrev S1x5 : Shape := ⟨2, ![1, 5]⟩

abbrev nBuf : Space → Nat
  | .hbm => 85
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x200, .f32⟩
  | .hbm, ⟨4, _⟩ => ⟨S200, .f32⟩
  | .hbm, ⟨5, _⟩ => ⟨S200x5, .f32⟩
  | .hbm, ⟨6, _⟩ => ⟨S5, .f32⟩
  | .hbm, ⟨7, _⟩ => ⟨S13, .f32⟩
  | .hbm, ⟨8, _⟩ => ⟨S13, .f32⟩
  | .hbm, ⟨9, _⟩ => ⟨S13, .f32⟩
  | .hbm, ⟨10, _⟩ => ⟨S13, .f32⟩
  | .hbm, ⟨11, _⟩ => ⟨S200, .f32⟩
  | .hbm, ⟨12, _⟩ => ⟨S200, .f32⟩
  | .hbm, ⟨13, _⟩ => ⟨S200, .f32⟩
  | .hbm, ⟨14, _⟩ => ⟨S200, .f32⟩
  | .hbm, ⟨15, _⟩ => ⟨S_, .i32⟩
  | .hbm, ⟨16, _⟩ => ⟨S16384x26, .i32⟩
  | .hbm, ⟨17, _⟩ => ⟨S16384x26, .i1⟩
  | .hbm, ⟨18, _⟩ => ⟨S_, .i32⟩
  | .hbm, ⟨19, _⟩ => ⟨S16384x26, .i32⟩
  | .hbm, ⟨20, _⟩ => ⟨S16384x26, .i32⟩
  | .hbm, ⟨21, _⟩ => ⟨S16384x26, .i32⟩
  | .hbm, ⟨22, _⟩ => ⟨S26x16384, .i32⟩
  | .hbm, ⟨23, _⟩ => ⟨S26x16384x1, .i32⟩
  | .hbm, ⟨24, _⟩ => ⟨S1, .i32⟩
  | .hbm, ⟨25, _⟩ => ⟨S_, .i32⟩
  | .hbm, ⟨26, _⟩ => ⟨S26x16384x1, .i32⟩
  | .hbm, ⟨27, _⟩ => ⟨S26x16384x1, .i1⟩
  | .hbm, ⟨28, _⟩ => ⟨S1x1x1, .i32⟩
  | .hbm, ⟨29, _⟩ => ⟨S26x16384x1, .i32⟩
  | .hbm, ⟨30, _⟩ => ⟨S26x16384x1, .i1⟩
  | .hbm, ⟨31, _⟩ => ⟨S26x16384x1, .i1⟩
  | .hbm, ⟨32, _⟩ => ⟨S_, .i1⟩
  | .hbm, ⟨33, _⟩ => ⟨S26x16384, .i1⟩
  | .hbm, ⟨34, _⟩ => ⟨S26x16384x16, .f32⟩
  | .hbm, ⟨35, _⟩ => ⟨S26x16384x16, .i1⟩
  | .hbm, ⟨36, _⟩ => ⟨S_, .f32⟩
  | .hbm, ⟨37, _⟩ => ⟨S26x16384x16, .f32⟩
  | .hbm, ⟨38, _⟩ => ⟨S26x16384x16, .f32⟩
  | .hbm, ⟨39, _⟩ => ⟨S16384x26x16, .f32⟩
  | .hbm, ⟨40, _⟩ => ⟨S16384x416, .f32⟩
  | .hbm, ⟨41, _⟩ => ⟨S1x13, .f32⟩
  | .hbm, ⟨42, _⟩ => ⟨S16384x13, .f32⟩
  | .hbm, ⟨43, _⟩ => ⟨S16384x13, .f32⟩
  | .hbm, ⟨44, _⟩ => ⟨S_, .f32⟩
  | .hbm, ⟨45, _⟩ => ⟨S13, .f32⟩
  | .hbm, ⟨46, _⟩ => ⟨S13, .f32⟩
  | .hbm, ⟨47, _⟩ => ⟨S13, .f32⟩
  | .hbm, ⟨48, _⟩ => ⟨S1x13, .f32⟩
  | .hbm, ⟨49, _⟩ => ⟨S16384x13, .f32⟩
  | .hbm, ⟨50, _⟩ => ⟨S16384x13, .f32⟩
  | .hbm, ⟨51, _⟩ => ⟨S1x13, .f32⟩
  | .hbm, ⟨52, _⟩ => ⟨S16384x13, .f32⟩
  | .hbm, ⟨53, _⟩ => ⟨S16384x13, .f32⟩
  | .hbm, ⟨54, _⟩ => ⟨S1x13, .f32⟩
  | .hbm, ⟨55, _⟩ => ⟨S16384x13, .f32⟩
  | .hbm, ⟨56, _⟩ => ⟨S16384x13, .f32⟩
  | .hbm, ⟨57, _⟩ => ⟨S16384x429, .f32⟩
  | .hbm, ⟨58, _⟩ => ⟨S16384x200, .f32⟩
  | .hbm, ⟨59, _⟩ => ⟨S1x200, .f32⟩
  | .hbm, ⟨60, _⟩ => ⟨S16384x200, .f32⟩
  | .hbm, ⟨61, _⟩ => ⟨S16384x200, .f32⟩
  | .hbm, ⟨62, _⟩ => ⟨S_, .f32⟩
  | .hbm, ⟨63, _⟩ => ⟨S16384x200, .f32⟩
  | .hbm, ⟨64, _⟩ => ⟨S16384x200, .f32⟩
  | .hbm, ⟨65, _⟩ => ⟨S1x200, .f32⟩
  | .hbm, ⟨66, _⟩ => ⟨S16384x200, .f32⟩
  | .hbm, ⟨67, _⟩ => ⟨S16384x200, .f32⟩
  | .hbm, ⟨68, _⟩ => ⟨S_, .f32⟩
  | .hbm, ⟨69, _⟩ => ⟨S200, .f32⟩
  | .hbm, ⟨70, _⟩ => ⟨S200, .f32⟩
  | .hbm, ⟨71, _⟩ => ⟨S200, .f32⟩
  | .hbm, ⟨72, _⟩ => ⟨S1x200, .f32⟩
  | .hbm, ⟨73, _⟩ => ⟨S16384x200, .f32⟩
  | .hbm, ⟨74, _⟩ => ⟨S16384x200, .f32⟩
  | .hbm, ⟨75, _⟩ => ⟨S1x200, .f32⟩
  | .hbm, ⟨76, _⟩ => ⟨S16384x200, .f32⟩
  | .hbm, ⟨77, _⟩ => ⟨S16384x200, .f32⟩
  | .hbm, ⟨78, _⟩ => ⟨S1x200, .f32⟩
  | .hbm, ⟨79, _⟩ => ⟨S16384x200, .f32⟩
  | .hbm, ⟨80, _⟩ => ⟨S16384x200, .f32⟩
  | .hbm, ⟨81, _⟩ => ⟨S16384x5, .f32⟩
  | .hbm, ⟨82, _⟩ => ⟨S1x5, .f32⟩
  | .hbm, ⟨83, _⟩ => ⟨S16384x5, .f32⟩
  | .hbm, ⟨84, _⟩ => ⟨S16384x5, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_c_1 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_c_3 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_cst : Ref sig .tc := ⟨.hbm, 36, rfl⟩
abbrev main_call0_v16 : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_call1_cst : Ref sig .tc := ⟨.hbm, 62, rfl⟩
abbrev main_call1_v0 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_cst_0 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩

abbrev nD : Nat := 1
abbrev τ : Topo := Topo.v7x

variable {F : FTy → Type} [FloatOps F]
-- ==== Proof.Common.lean ====
/-
  The set-up of the proof: the program as the SparseCore launch theorem sees it (its body table, its two calls), the
  resource algebra (the handshakes' rounds, the TensorCore pipelines' rounds, the tiles' transfer counters), and the
  arrays as memory locations.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, -/
abbrev UH : Type := URounds (GSem nD τ sig) ℕ
/-- the pipelines' rounds, -/
abbrev UP : Type := URounds (GSem nD τ sig) Unit
/-- and, beside the two, the counters of the tiles' own transfers. -/
abbrev UU : Type := UH × (UP × Counters)

abbrev MM (F : FTy → Type) : Type := MT nD τ sig (HIx 2) (Elt F) ℕ UU ℕ

def EH : Emb UH (MM F) :=
  (Emb.inl : Emb UH UU).trans (uEmb (nD := nD) (sig := sig) (Ix := HIx 2) (Val := Elt F) (Name := ℕ) (U := UU) (Lvl := ℕ)).toEmb
def EP : Emb UP (MM F) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-- One program after another: the first's outcome is what the second runs from. -/
theorem wp_then {Λ : Labels} {defs : Defs nD τ sig (Elt F) Λ} {𝒱 : Variants} {thr : Thread nD τ} {E : Set ℕ} {bd : Option 𝒱.V} {α β : Type}
    {p : Prog (TpuEff nD τ sig (Elt F) Λ thr.2) α} {k : α → Prog (TpuEff nD τ sig (Elt F) Λ thr.2) β} {A : sProp (MM F)} {B : α → sProp (MM F)} {C : β → sProp (MM F)}
    (h : A ⊢ wp frame (wpE defs 𝒱 thr bd) E p B) (h' : ∀ x, B x ⊢ wp frame (wpE defs 𝒱 thr bd) E (k x) C) :
    A ⊢ wp frame (wpE defs 𝒱 thr bd) E (p >>= k) C := by
  rw [wp_bind]
  exact h.trans (wp_mono frame _ _ h')

end Cert.Proof

end
-- ==== Proof.Gather.lean ====
/-
  The gather of one 16-lane group, of one 128-lane row of a chunk, and of a 32-row chunk: sixteen indices are read from the
  index row, checked, looked up in the table row, and the sixteen values stored. Stated once, over any buffers and any offsets
  that the two calls' four loops each instantiate.
-/
module

public import proofs.«01_k».proof.Proof.Common
public import Idealize.ShloMosaic.Lib.ValueLayout
public import Idealize.ShloMosaic.Lib.WritesUnit
public import Idealize.ShloMosaic.Lib.ViewIndex

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

/-! ## The programs -/

/-- One group: sixteen indices at `oi` of the index row, the look-ups, and the sixteen values stored at `oo` of the chunk. -/
def grp (c : Fin τ.nSC) (s : Fin τ.nSub) (trow : Memref sig .scVector .vmem S100000 .f32) (idxb : Memref sig .scVector .vmem S16384 .i32)
    (ob : Memref sig .scVector .vmem S32x128 .f32) (oi : Fin 1 → ℕ) (hi : ∀ a, oi a + S16.size a ≤ S16384.size a)
    (oo : Fin 2 → ℕ) (ho : ∀ a, oo a + S1x16.size a ≤ S32x128.size a) : Prog (TpuEff nD τ sig (Elt F) Λ₀ (.scVector c s)) PUnit := do
  let v : Vec F S16 .i32 ← Prog.lift (.load idxb (Rect.unit (s := S16384) oi S16.size hi).toLoadRect (View.loadsAt_vmem h_S16))
  have hw : k0_chk1 v := (← Prog.lift (TpuEff.assume (k0_chk1 v) (k0_chk1.dec v))).down
  let w : Vec F S16 .f32 ← SparseCore.vectorLoadIdx trow ![v] (k0_idx1_inb v hw) (View.loads_vmem h_S100000)
  let _ : Vec F S1x16 .f32 ← Prog.lift (.load ob (Rect.unit (s := S32x128) oo S1x16.size ho).toLoadRect (View.loadsAt_vmem h_S1x16))
  Prog.lift (.store ob (Rect.unit (s := S32x128) oo S1x16.size ho) (shapeCast S1x16 w shapeCasts_S16_S1x16) Finset.univ (View.stores_vmem_bits_univ h_S1x16 rfl) (.inl rfl))

/-- The offsets of one chunk's loop: per trip and group, where the indices are read and where the values are stored. -/
structure Offs where
  oi : Fin 8 → Fin k0_t2_loop.trips → Fin 1 → ℕ
  oo : Fin 8 → Fin k0_t2_loop.trips → Fin 2 → ℕ
  hi : ∀ u t a, oi u t a + S16.size a ≤ S16384.size a
  ho : ∀ u t a, oo u t a + S1x16.size a ≤ S32x128.size a

/-- One trip of a chunk's loop: the eight groups of a 128-lane row. -/
def trip (c : Fin τ.nSC) (s : Fin τ.nSub) (trow : Memref sig .scVector .vmem S100000 .f32) (idxb : Memref sig .scVector .vmem S16384 .i32)
    (ob : Memref sig .scVector .vmem S32x128 .f32) (o : Offs) (t : Fin k0_t2_loop.trips) : Prog (TpuEff nD τ sig (Elt F) Λ₀ (.scVector c s)) PUnit := do
  grp c s trow idxb ob (o.oi 0 t) (o.hi 0 t) (o.oo 0 t) (o.ho 0 t)
  grp c s trow idxb ob (o.oi 1 t) (o.hi 1 t) (o.oo 1 t) (o.ho 1 t)
  grp c s trow idxb ob (o.oi 2 t) (o.hi 2 t) (o.oo 2 t) (o.ho 2 t)
  grp c s trow idxb ob (o.oi 3 t) (o.hi 3 t) (o.oo 3 t) (o.ho 3 t)
  grp c s trow idxb ob (o.oi 4 t) (o.hi 4 t) (o.oo 4 t) (o.ho 4 t)
  grp c s trow idxb ob (o.oi 5 t) (o.hi 5 t) (o.oo 5 t) (o.ho 5 t)
  grp c s trow idxb ob (o.oi 6 t) (o.hi 6 t) (o.oo 6 t) (o.ho 6 t)
  grp c s trow idxb ob (o.oi 7 t) (o.hi 7 t) (o.oo 7 t) (o.ho 7 t)
  pure ⟨⟩

/-- A chunk's loop. -/
def chunk (c : Fin τ.nSC) (s : Fin τ.nSub) (trow : Memref sig .scVector .vmem S100000 .f32) (idxb : Memref sig .scVector .vmem S16384 .i32)
    (ob : Memref sig .scVector .vmem S32x128 .f32) (o : Offs) : Prog (TpuEff nD τ sig (Elt F) Λ₀ (.scVector c s)) PUnit :=
  Scf.Loop.for k0_t2_loop k0_t2_ok ⟨⟩ fun t _ => trip c s trow idxb ob o t

/-! ## What they leave -/

section Wp

variable (d : Dev nD) (c : Fin τ.nSC) (s : Fin τ.nSub)
variable (trow : Memref sig .scVector .vmem S100000 .f32) (htrow : trow.IsWhole) (idxb : Memref sig .scVector .vmem S16384 .i32) (hidxb : idxb.IsWhole)
  (ob : Memref sig .scVector .vmem S32x128 .f32) (hob : ob.IsWhole)

/-- Lane `y` of chunk `q` of a row: the table row `T` at the index the index row `X` holds at flat position `4096 q + 128 y₀ + y₁`. -/
def lane (T : S100000.Idx → F .f32) (X : S16384.Idx → BitVec 32) (q : ℕ) (y : S32x128.Idx) : F .f32 :=
  T (ix1 ⟨(X (ix1 ⟨(q * 4096 + (y 0).val * 128 + (y 1).val) % 16384, Nat.mod_lt _ (by decide)⟩)).toNat % 100000, Nat.mod_lt _ (by decide)⟩)

/-- What holds after the first `n` lanes of a chunk, in flat order. -/
def lanes (fr : Buf (Elt F) (trow.view.loc (V d c s))) (fi : Buf (Elt F) (idxb.view.loc (V d c s))) (q n : ℕ) : sProp 𝕄 :=
  iprop((idxb.view.loc (V d c s) ↦{fullShare} fi) ∗ (trow.view.loc (V d c s) ↦{fullShare} fr)
    ∗ ∃ g : Buf (Elt F) (ob.view.loc (V d c s)), ⌜∀ y : S32x128.Idx, (y 0).val * 128 + (y 1).val < n →
        ob.view.read (Elt F) g y = lane (trow.view.read (Elt F) fr) (idxb.view.read (Elt F) fi) q y⌝ ∗ (ob.view.loc (V d c s) ↦{fullShare} g))

theorem wp_grp (fr : Buf (Elt F) (trow.view.loc (V d c s))) (fi : Buf (Elt F) (idxb.view.loc (V d c s)))
    (hX : ∀ y, (idxb.view.read (Elt F) fi y : BitVec 32).toNat < 100000) (q n : ℕ) (hq : q < 4) (hn : n < 4096) (hn' : n % 16 = 0)
    (oi : Fin 1 → ℕ) (hi : ∀ a, oi a + S16.size a ≤ S16384.size a) (oo : Fin 2 → ℕ) (ho : ∀ a, oo a + S1x16.size a ≤ S32x128.size a)
    (hoi : oi = ![q * 4096 + n]) (hoo : oo = ![n / 128, n % 128]) :
    lanes d c s trow idxb ob fr fi q n ⊢ wp frame (wpE (defs₀ (F := F)) 𝒱₀ (V d c s) none) Set.univ
      (grp c s trow idxb ob oi hi oo ho) fun _ => lanes d c s trow idxb ob fr fi q (n + 16) := by
  unfold grp lanes
  simp only [Prog.lift, Prog.bind_op, Prog.bind_ret, Prog.pure_eq_ret]
  iintro ⟨Hi, Hr, %g, %hg, Ho⟩
  iapply (wp_load 𝒱₀ (V d c s) none Set.univ (m := idxb) (S := Finset.univ) (Finset.subset_univ _)) $$ Hi; iintro Hi
  have hchk : k0_chk1 (idxb.view.readAt (Elt F) (Rect.unit (s := S16384) oi S16.size hi).toLoadRect fi) := by
    intro a x
    obtain rfl : a = 0 := Subsingleton.elim _ _
    exact hX _
  rw [wp_assume_of _ _ _ _ hchk]
  iapply (SparseCore.wp_vectorLoadIdx 𝒱₀ (V d c s) none Set.univ (base := trow) (S := Finset.univ) (q := fullShare) (Finset.subset_univ _)) $$ Hr; iintro Hr
  iapply (wp_load 𝒱₀ (V d c s) none Set.univ (m := ob) (S := Finset.univ) (Finset.subset_univ _)) $$ Ho; iintro Ho
  iapply (wp_store 𝒱₀ (V d c s) none Set.univ (m := ob) (r := Rect.unit (s := S32x128) oo S1x16.size ho) (Mk := Finset.univ) (S := Finset.univ) (Finset.subset_univ _)) $$ Ho; iintro Ho
  rw [wp_ret]; imodintro
  isplitl [Hi]; · iexact Hi
  isplitl [Hr]; · iexact Hr
  iexists _; isplitr; swap
  · iexact Ho
  ipureintro
  intro y hy
  subst hoi hoo
  have hy0 : (y 0).val < 32 := (y 0).isLt
  have hy1 : (y 1).val < 128 := (y 1).isLt
  by_cases hlt : (y 0).val * 128 + (y 1).val < n
  · refine Eq.trans ?_ (hg y hlt)
    by_cases h0 : (y 0).val < n / 128
    · exact View.read_writes_cons_unit_of_not_mem ob.view g ho _ [] y rfl 0 (Or.inl h0)
    · refine View.read_writes_cons_unit_of_not_mem ob.view g ho _ [] y rfl 1 (Or.inl ?_)
      show (y 1).val < n % 128
      omega
  · have hx : (y 1).val - n % 128 < 16 := by omega
    have hn0 : (y 0).val = n / 128 := by omega
    have hpos : q * 4096 + (y 0).val * 128 + (y 1).val < 16384 := by
      generalize (y 0).val = a at hy0
      generalize (y 1).val = b at hy1
      omega
    refine (View.read_writes_cons_unit_of_mem ob.view g ho _ [] y (ix2 (0 : Fin 1) ⟨(y 1).val - n % 128, hx⟩) rfl ?_).trans ?_
    · refine Fin.forall_fin_two.mpr ⟨?_, ?_⟩
      · show (y 0).val = n / 128 + 0
        omega
      · show (y 1).val = n % 128 + ((y 1).val - n % 128)
        omega
    · refine (shapeCast_a_1a_apply (a := 16) (loadIdx ((trow.access (.whole S100000)).read (Elt F) fr)
        ![idxb.view.readAt (Elt F) (Rect.unit (s := S16384) ![q * 4096 + n] S16.size hi).toLoadRect fi] (k0_idx1_inb _ hchk))
        shapeCasts_S16_S1x16 (0 : Fin 1) ⟨(y 1).val - n % 128, hx⟩).trans ?_
      unfold lane
      show trow.view.read (Elt F) fr ((Rect.whole S100000).emb _) = _
      rw [Rect.emb_whole_apply]
      refine congrArg (trow.view.read (Elt F) fr) (Shape.idx1_ext ?_)
      show (idxb.view.read (Elt F) fi _ : BitVec 32).toNat = (idxb.view.read (Elt F) fi _ : BitVec 32).toNat % 100000
      rw [Nat.mod_eq_of_lt (hX _)]
      refine congrArg (fun z => (idxb.view.read (Elt F) fi z : BitVec 32).toNat) (Shape.idx1_ext ?_)
      show q * 4096 + n + 1 * ((y 1).val - n % 128) = (q * 4096 + (y 0).val * 128 + (y 1).val) % 16384
      rw [Nat.mod_eq_of_lt hpos, hn0]
      omega

/-- One 128-lane row of a chunk: its eight groups in turn. -/
theorem wp_trip (fr : Buf (Elt F) (trow.view.loc (V d c s))) (fi : Buf (Elt F) (idxb.view.loc (V d c s)))
    (hX : ∀ y, (idxb.view.read (Elt F) fi y : BitVec 32).toNat < 100000) (q : ℕ) (hq : q < 4) (o : Offs)
    (hoi : ∀ u t, o.oi u t = ![q * 4096 + 128 * t.val + 16 * u.val]) (hoo : ∀ u t, o.oo u t = ![t.val, 16 * u.val]) (t : Fin k0_t2_loop.trips) :
    lanes d c s trow idxb ob fr fi q (128 * t.val) ⊢ wp frame (wpE (defs₀ (F := F)) 𝒱₀ (V d c s) none) Set.univ
      (trip c s trow idxb ob o t) fun _ => lanes d c s trow idxb ob fr fi q (128 * (t.val + 1)) := by
  have ht : t.val < 32 := t.isLt
  have hstep : ∀ u : Fin 8, lanes d c s trow idxb ob fr fi q (128 * t.val + 16 * u.val) ⊢ wp frame (wpE (defs₀ (F := F)) 𝒱₀ (V d c s) none) Set.univ
      (grp c s trow idxb ob (o.oi u t) (o.hi u t) (o.oo u t) (o.ho u t)) fun _ => lanes d c s trow idxb ob fr fi q (128 * t.val + 16 * (u.val + 1)) := by
    intro u
    have hu := u.isLt
    have h := wp_grp (F := F) d c s trow idxb ob fr fi hX q (128 * t.val + 16 * u.val) hq (by omega) (by omega) (o.oi u t) (o.hi u t) (o.oo u t) (o.ho u t)
      ((hoi u t).trans (by rw [Nat.add_assoc])) ((hoo u t).trans (by
        rw [show (128 * t.val + 16 * u.val) / 128 = t.val by omega, show (128 * t.val + 16 * u.val) % 128 = 16 * u.val by omega]))
    rw [show 128 * t.val + 16 * (u.val + 1) = 128 * t.val + 16 * u.val + 16 by omega]
    exact h
  unfold trip
  refine wp_then (hstep 0) fun _ => wp_then (hstep 1) fun _ => wp_then (hstep 2) fun _ => wp_then (hstep 3) fun _ => wp_then (hstep 4) fun _ =>
    wp_then (hstep 5) fun _ => wp_then (hstep 6) fun _ => wp_then (hstep 7) fun _ => ?_
  rw [Prog.pure_eq_ret, wp_ret]
  exact fupd_intro

/-- A chunk's loop leaves all its lanes. -/
theorem wp_chunk (fr : Buf (Elt F) (trow.view.loc (V d c s))) (fi : Buf (Elt F) (idxb.view.loc (V d c s)))
    (hX : ∀ y, (idxb.view.read (Elt F) fi y : BitVec 32).toNat < 100000) (q : ℕ) (hq : q < 4) (o : Offs)
    (hoi : ∀ u t, o.oi u t = ![q * 4096 + 128 * t.val + 16 * u.val]) (hoo : ∀ u t, o.oo u t = ![t.val, 16 * u.val]) :
    lanes d c s trow idxb ob fr fi q 0 ⊢ wp frame (wpE (defs₀ (F := F)) 𝒱₀ (V d c s) none) Set.univ
      (chunk c s trow idxb ob o) fun _ => lanes d c s trow idxb ob fr fi q 4096 := by
  refine BIBase.Entails.trans ?_ (Scf.wp_for frame (wpE (defs₀ (F := F)) 𝒱₀ (V d c s) none) Set.univ k0_t2_loop.lb k0_t2_loop.ub k0_t2_loop.st k0_t2_ok ⟨⟩
    (fun t _ => trip c s trow idxb ob o t) (fun k _ => lanes d c s trow idxb ob fr fi q (128 * k)) fun t _ => wp_trip (F := F) d c s trow idxb ob fr fi hX q hq o hoi hoo t)
  iintro H
  isplitl
  · iexact H
  · iintro %_ H
    iexact H

end Wp

end Cert.Proof

end
-- ==== Proof.Row.lean ====
/-
  One embedding row on one tile: the index row fetched when the row opens a feature, the table row fetched, and the four
  chunks gathered and written back, two buffers and two semaphores in turn. Stated once over the array's extent and the
  offsets, which the two gather calls instantiate.
-/
module

public import proofs.«01_k».proof.Proof.Gather
public import Idealize.ShloMosaic.Lib.SparseCore.ProtocolKit

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

/-! ## The program -/

/-- The shape of a gathered array of `N` rows, each a folded batch. -/
abbrev SN (N : ℕ) : Shape := ⟨3, ![N, 128, 128]⟩

/-- One feature's index row. -/
abbrev xctRow (xct : Memref sig .scVector .hbm S26x16384 .i32) (o : Fin 2 → ℕ) (h : ∀ a, o a + S1x16384.size a ≤ S26x16384.size a) :
    Memref sig .scVector .hbm S16384 .i32 :=
  (xct.slice (Rect.unit (s := S26x16384) o S1x16384.size h) (fun _ => rfl)).squeeze S16384 squeezes_S1x16384_S16384
/-- One row of the tables. -/
abbrev tblRow (tbl : Memref sig .scVector .hbm S26x16x100000 .f32) (o : Fin 3 → ℕ) (h : ∀ a, o a + S1x1x100000.size a ≤ S26x16x100000.size a) :
    Memref sig .scVector .hbm S100000 .f32 :=
  (tbl.slice (Rect.unit (s := S26x16x100000) o S1x1x100000.size h) (fun _ => rfl)).squeeze S100000 squeezes_S1x1x100000_S100000
/-- One chunk of one gathered row. -/
abbrev outPiece {N : ℕ} (out : Memref sig .scVector .hbm (SN N) .f32) (o : Fin 3 → ℕ) (h : ∀ a, o a + S1x32x128.size a ≤ (SN N).size a) :
    Memref sig .scVector .hbm S32x128 .f32 :=
  (out.slice (Rect.unit (s := SN N) o S1x32x128.size h) (fun _ => rfl)).squeeze S32x128 squeezes_S1x32x128_S32x128

section Prog

variable (c : Fin τ.nSC) (s : Fin τ.nSub) {N : ℕ} (tbl : Memref sig .scVector .hbm S26x16x100000 .f32) (xct : Memref sig .scVector .hbm S26x16384 .i32)
  (out : Memref sig .scVector .hbm (SN N) .f32) (trow : Memref sig .scVector .vmem S100000 .f32) (htrow : trow.IsWhole)
  (idxb : Memref sig .scVector .vmem S16384 .i32) (hidxb : idxb.IsWhole)
  (ob0 : Memref sig .scVector .vmem S32x128 .f32) (hob0 : ob0.IsWhole) (ob1 : Memref sig .scVector .vmem S32x128 .f32) (hob1 : ob1.IsWhole)
  (semr semi sem0 sem1 : DmaSems sig S_)

/-- Where one row's copies go: its condition for fetching the index row, and the offsets of its slices. -/
structure RowOffs (N : ℕ) where
  cond : BitVec 1
  o1 : Fin 2 → ℕ
  h1 : cond = 1#1 → ∀ a, o1 a + S1x16384.size a ≤ S26x16384.size a
  o2 : Fin 3 → ℕ
  h2 : ∀ a, o2 a + S1x1x100000.size a ≤ S26x16x100000.size a
  p : Fin 4 → Fin 3 → ℕ
  hp : ∀ q a, p q a + S1x32x128.size a ≤ (SN N).size a

/-- The index row's fetch, taken where the condition holds. -/
def fetchIdx (r : RowOffs N) : Prog (TpuEff nD τ sig (Elt F) Λ₀ (.scVector c s)) PUnit :=
  if h : r.cond = 1#1 then do
    Prog.lift (.enqueueDma (xctRow xct r.o1 (r.h1 h)) (.here idxb) (.dma semi.sem) ((View.wordExact_bits rfl).reshape _ _) hidxb.wordExact ⟨Or.inl rfl, trivial⟩)
    Prog.lift (.waitDma2 semi.sem (xctRow xct r.o1 (r.h1 h)) idxb ((View.wordExact_bits rfl).reshape _ _) hidxb.wordExact)
    pure ⟨⟩
  else do
    pure ⟨⟩

/-- The table row's fetch. -/
def fetchTbl (r : RowOffs N) : Prog (TpuEff nD τ sig (Elt F) Λ₀ (.scVector c s)) PUnit := do
  Prog.lift (.enqueueDma (tblRow tbl r.o2 r.h2) (.here trow) (.dma semr.sem) ((View.wordExact_bits rfl).reshape _ _) htrow.wordExact ⟨Or.inl rfl, trivial⟩)
  Prog.lift (.waitDma2 semr.sem (tblRow tbl r.o2 r.h2) trow ((View.wordExact_bits rfl).reshape _ _) htrow.wordExact)

/-- A chunk's write-back started, -/
def putStart (ob : Memref sig .scVector .vmem S32x128 .f32) (hob : ob.IsWhole) (sem : DmaSems sig S_) (o : Fin 3 → ℕ)
    (h : ∀ a, o a + S1x32x128.size a ≤ (SN N).size a) : Prog (TpuEff nD τ sig (Elt F) Λ₀ (.scVector c s)) PUnit :=
  Prog.lift (.enqueueDma ob (.here (outPiece out o h)) (.dma sem.sem) hob.wordExact ((View.wordExact_bits rfl).reshape _ _) ⟨Or.inl rfl, trivial⟩)
/-- and waited for. -/
def putWait (ob : Memref sig .scVector .vmem S32x128 .f32) (hob : ob.IsWhole) (sem : DmaSems sig S_) (o : Fin 3 → ℕ)
    (h : ∀ a, o a + S1x32x128.size a ≤ (SN N).size a) : Prog (TpuEff nD τ sig (Elt F) Λ₀ (.scVector c s)) PUnit :=
  Prog.lift (.waitDma2 sem.sem ob (outPiece out o h) hob.wordExact ((View.wordExact_bits rfl).reshape _ _))

/-- The row's four chunks. -/
def puts (r : RowOffs N) (os : Fin 4 → Offs) : Prog (TpuEff nD τ sig (Elt F) Λ₀ (.scVector c s)) PUnit := do
  chunk c s trow idxb ob0 (os 0)
  putStart c s out ob0 hob0 sem0 (r.p 0) (r.hp 0)
  chunk c s trow idxb ob1 (os 1)
  putStart c s out ob1 hob1 sem1 (r.p 1) (r.hp 1)
  putWait c s out ob0 hob0 sem0 (r.p 0) (r.hp 0)
  chunk c s trow idxb ob0 (os 2)
  putStart c s out ob0 hob0 sem0 (r.p 2) (r.hp 2)
  putWait c s out ob1 hob1 sem1 (r.p 1) (r.hp 1)
  chunk c s trow idxb ob1 (os 3)
  putStart c s out ob1 hob1 sem1 (r.p 3) (r.hp 3)
  putWait c s out ob0 hob0 sem0 (r.p 2) (r.hp 2)
  putWait c s out ob1 hob1 sem1 (r.p 3) (r.hp 3)
  pure ⟨⟩

/-- One row. -/
def rowProg (r : RowOffs N) (os : Fin 4 → Offs) : Prog (TpuEff nD τ sig (Elt F) Λ₀ (.scVector c s)) PUnit := do
  fetchIdx c s xct idxb hidxb semi r
  fetchTbl c s tbl trow htrow semr r
  puts c s out trow idxb ob0 hob0 ob1 hob1 sem0 sem1 r os

end Prog

/-! ## The two calls' bodies are that program -/

/-- The four chunks' offsets. -/
def chunkOffs : Fin 4 → Offs := ![
  ⟨![k0_off3, k0_off5, k0_off7, k0_off9, k0_off11, k0_off13, k0_off15, k0_off17], ![k0_off4, k0_off6, k0_off8, k0_off10, k0_off12, k0_off14, k0_off16, k0_off18],
    fun u => by fin_cases u <;> intro t; exacts [k0_off3_inb t, k0_off5_inb t, k0_off7_inb t, k0_off9_inb t, k0_off11_inb t, k0_off13_inb t, k0_off15_inb t, k0_off17_inb t],
    fun u => by fin_cases u <;> intro t; exacts [k0_off4_inb t, k0_off6_inb t, k0_off8_inb t, k0_off10_inb t, k0_off12_inb t, k0_off14_inb t, k0_off16_inb t, k0_off18_inb t]⟩,
  ⟨![k0_off20, k0_off22, k0_off24, k0_off26, k0_off28, k0_off30, k0_off32, k0_off34], ![k0_off21, k0_off23, k0_off25, k0_off27, k0_off29, k0_off31, k0_off33, k0_off35],
    fun u => by fin_cases u <;> intro t; exacts [k0_off20_inb t, k0_off22_inb t, k0_off24_inb t, k0_off26_inb t, k0_off28_inb t, k0_off30_inb t, k0_off32_inb t, k0_off34_inb t],
    fun u => by fin_cases u <;> intro t; exacts [k0_off21_inb t, k0_off23_inb t, k0_off25_inb t, k0_off27_inb t, k0_off29_inb t, k0_off31_inb t, k0_off33_inb t, k0_off35_inb t]⟩,
  ⟨![k0_off37, k0_off39, k0_off41, k0_off43, k0_off45, k0_off47, k0_off49, k0_off51], ![k0_off38, k0_off40, k0_off42, k0_off44, k0_off46, k0_off48, k0_off50, k0_off52],
    fun u => by fin_cases u <;> intro t; exacts [k0_off37_inb t, k0_off39_inb t, k0_off41_inb t, k0_off43_inb t, k0_off45_inb t, k0_off47_inb t, k0_off49_inb t, k0_off51_inb t],
    fun u => by fin_cases u <;> intro t; exacts [k0_off38_inb t, k0_off40_inb t, k0_off42_inb t, k0_off44_inb t, k0_off46_inb t, k0_off48_inb t, k0_off50_inb t, k0_off52_inb t]⟩,
  ⟨![k0_off54, k0_off56, k0_off58, k0_off60, k0_off62, k0_off64, k0_off66, k0_off68], ![k0_off55, k0_off57, k0_off59, k0_off61, k0_off63, k0_off65, k0_off67, k0_off69],
    fun u => by fin_cases u <;> intro t; exacts [k0_off54_inb t, k0_off56_inb t, k0_off58_inb t, k0_off60_inb t, k0_off62_inb t, k0_off64_inb t, k0_off66_inb t, k0_off68_inb t],
    fun u => by fin_cases u <;> intro t; exacts [k0_off55_inb t, k0_off57_inb t, k0_off59_inb t, k0_off61_inb t, k0_off63_inb t, k0_off65_inb t, k0_off67_inb t, k0_off69_inb t]⟩]

/-- The first call's rows. -/
def rowOffs0 (i : grid0.Coords) (t : Fin k0_t1_loop.trips) : RowOffs 256 where
  cond := k0_cond1 i t
  o1 := k0_off1 i t
  h1 := k0_off1_inb i t
  o2 := k0_off2 i t
  h2 := k0_off2_inb i t
  p := ![k0_off19 i t, k0_off36 i t, k0_off53 i t, k0_off70 i t]
  hp := fun q => by fin_cases q; exacts [k0_off19_inb i t, k0_off36_inb i t, k0_off53_inb i t, k0_off70_inb i t]

/-- The second call's rows. -/
def rowOffs1 (i : grid1.Coords) (t : Fin k1_t1_loop.trips) : RowOffs 160 where
  cond := k1_cond1 i t
  o1 := k1_off1 i t
  h1 := k1_off1_inb i t
  o2 := k1_off2 i t
  h2 := k1_off2_inb i t
  p := ![k1_off19 i t, k1_off36 i t, k1_off53 i t, k1_off70 i t]
  hp := fun q => by fin_cases q; exacts [k1_off19_inb i t, k1_off36_inb i t, k1_off53_inb i t, k1_off70_inb i t]

end Cert.Proof

end
-- ==== Proof.RowWp.lean ====
/-
  What one row leaves: the index buffer at the row's feature, and the row's four chunks of the gathered array at the looked-up
  values.
-/
module

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

/-! ## The values -/

/-- The gathered value at row `x₀` of an array whose first row is embedding row `k0`, batch position `128 x₁ + x₂`: the table
    entry of feature `k / 16` and component `k % 16` at the feature's index there. -/
def gval {N : ℕ} (T : S26x16x100000.Idx → F .f32) (X : S26x16384.Idx → BitVec 32) (k0 : ℕ) (x : (SN N).Idx) : F .f32 :=
  T (ix3 ⟨(k0 + (x 0).val) / 16 % 26, Nat.mod_lt _ (by decide)⟩ ⟨(k0 + (x 0).val) % 16, Nat.mod_lt _ (by decide)⟩
    ⟨(X (ix2 ⟨(k0 + (x 0).val) / 16 % 26, Nat.mod_lt _ (by decide)⟩
      ⟨((x 1).val * 128 + (x 2).val) % 16384, Nat.mod_lt _ (by decide)⟩)).toNat % 100000, Nat.mod_lt _ (by decide)⟩)

/-! ## The slices' readings -/

theorem pair_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem reshapeEquiv_ix1_1a {a : ℕ} (h : (⟨1, ![a]⟩ : Shape).numel = (⟨2, ![1, a]⟩ : Shape).numel) (y : Fin a) :
    Shape.reshapeEquiv h (ix1 y) = ix2 (0 : Fin 1) y :=
  Shape.reshapeEquiv_eq_of_rowMajor h (by
    rw [Shape.rowMajor_val_two, Shape.rowMajor_val_one]
    show 0 * a + y.val = y.val
    rw [Nat.zero_mul, Nat.zero_add])

theorem reshapeEquiv_ix1_11a {a : ℕ} (h : (⟨1, ![a]⟩ : Shape).numel = (⟨3, ![1, 1, a]⟩ : Shape).numel) (y : Fin a) :
    Shape.reshapeEquiv h (ix1 y) = ix3 (0 : Fin 1) (0 : Fin 1) y :=
  Shape.reshapeEquiv_eq_of_rowMajor h (by
    rw [Shape.rowMajor_val_three, Shape.rowMajor_val_one]
    show (0 * 1 + 0) * a + y.val = y.val
    omega)

theorem read_xctRow (xct : Memref sig .scVector .hbm S26x16384 .i32) {o : Fin 2 → ℕ} (h : ∀ a, o a + S1x16384.size a ≤ S26x16384.size a)
    (f : xct.view.ty.Contents (Elt F)) (k : Fin 26) (e : o = ![k.val, 0]) (y : S16384.Idx) :
    (xctRow xct o h).view.read (Elt F) f y = xct.view.read (Elt F) f (ix2 k (y 0)) := by
  subst e
  obtain ⟨y0, rfl⟩ : ∃ y0 : Fin 16384, y = ix1 y0 := ⟨y 0, eq_ix1 y⟩
  show xct.view.read (Elt F) f ((Rect.unit (s := S26x16384) ![k.val, 0] S1x16384.size h).emb (Shape.reshapeEquiv _ (ix1 y0))) = _
  rw [reshapeEquiv_ix1_1a]
  refine congrArg _ (pair_ext ?_ ?_)
  · show k.val + 1 * 0 = k.val
    omega
  · show 0 + 1 * y0.val = y0.val
    omega

theorem read_tblRow (tbl : Memref sig .scVector .hbm S26x16x100000 .f32) {o : Fin 3 → ℕ} (h : ∀ a, o a + S1x1x100000.size a ≤ S26x16x100000.size a)
    (f : tbl.view.ty.Contents (Elt F)) (k : Fin 26) (m : Fin 16) (e : o = ![k.val, m.val, 0]) (y : S100000.Idx) :
    (tblRow tbl o h).view.read (Elt F) f y = tbl.view.read (Elt F) f (ix3 k m (y 0)) := by
  subst e
  obtain ⟨y0, rfl⟩ : ∃ y0 : Fin 100000, y = ix1 y0 := ⟨y 0, eq_ix1 y⟩
  show tbl.view.read (Elt F) f ((Rect.unit (s := S26x16x100000) ![k.val, m.val, 0] S1x1x100000.size h).emb (Shape.reshapeEquiv _ (ix1 y0))) = _
  rw [reshapeEquiv_ix1_11a]
  refine congrArg _ (Shape.idx3_ext ?_ ?_ ?_)
  · show k.val + 1 * 0 = k.val
    omega
  · show m.val + 1 * 0 = m.val
    omega
  · show 0 + 1 * y0.val = y0.val
    omega

variable {N : ℕ}

theorem read_outPiece (out : Memref sig .scVector .hbm (SN N) .f32) {o : Fin 3 → ℕ} (h : ∀ a, o a + S1x32x128.size a ≤ (SN N).size a)
    (f : out.view.ty.Contents (Elt F)) (r : Fin N) (q : Fin 4) (e : o = ![r.val, 32 * q.val, 0]) (y : S32x128.Idx) :
    (outPiece out o h).view.read (Elt F) f y
      = out.view.read (Elt F) f (ix3 r ⟨32 * q.val + (y 0).val, by have h0 : (y 0).val < 32 := (y 0).isLt; have := q.isLt; omega⟩ (y 1)) := by
  subst e
  obtain ⟨y0, y1, rfl⟩ : ∃ (y0 : Fin 32) (y1 : Fin 128), y = ix2 y0 y1 := ⟨y 0, y 1, eq_ix2 y⟩
  show out.view.read (Elt F) f ((Rect.unit (s := SN N) ![r.val, 32 * q.val, 0] S1x32x128.size h).emb (Shape.reshapeEquiv _ (ix2 y0 y1))) = _
  rw [reshapeEquiv_ix2_1ab]
  refine congrArg _ (Shape.idx3_ext ?_ ?_ ?_)
  · show r.val + 1 * 0 = r.val
    omega
  · show 32 * q.val + 1 * y0.val = 32 * q.val + y0.val
    omega
  · show 0 + 1 * y1.val = y1.val
    omega

/-- The elements of one chunk of one row. -/
def pset (out : Memref sig .scVector .hbm (SN N) .f32) (r : ℕ) (q : Fin 4) : Finset out.view.ty.Idx :=
  (Finset.univ.filter fun x : (SN N).Idx => (x 0).val = r ∧ (x 1).val / 32 = q.val).map out.view.emb

theorem set_outPiece (out : Memref sig .scVector .hbm (SN N) .f32) {o : Fin 3 → ℕ} (h : ∀ a, o a + S1x32x128.size a ≤ (SN N).size a)
    (r : ℕ) (q : Fin 4) (e : o = ![r, 32 * q.val, 0]) : (outPiece out o h).view.set = pset out r q := by
  subst e
  show ((out.view.slice (Rect.unit (s := SN N) ![r, 32 * q.val, 0] S1x32x128.size h)).reshape S32x128 _).set = _
  rw [View.set_reshape, View.set_slice]
  unfold pset
  refine congrArg (Finset.map out.view.emb) (Finset.ext fun x => ?_)
  have h1 : (x 1).val < 128 := (x 1).isLt
  have h2 : (x 2).val < 128 := (x 2).isLt
  rw [Rect.mem_set_unit, Finset.mem_filter]
  constructor
  · intro hx
    have a0 : r ≤ (x 0).val ∧ (x 0).val < r + 1 := hx 0
    have a1 : 32 * q.val ≤ (x 1).val ∧ (x 1).val < 32 * q.val + 32 := hx 1
    exact ⟨Finset.mem_univ _, by omega, by omega⟩
  · rintro ⟨-, a0, a1⟩ a
    match a with
    | ⟨0, _⟩ => exact (show r ≤ (x 0).val ∧ (x 0).val < r + 1 by omega)
    | ⟨1, _⟩ => exact (show 32 * q.val ≤ (x 1).val ∧ (x 1).val < 32 * q.val + 32 by omega)
    | ⟨2, _⟩ => exact (show 0 ≤ (x 2).val ∧ (x 2).val < 0 + 128 by omega)

/-! ## The copies -/

section Wp

variable (d : Dev nD) (c : Fin τ.nSC) (s : Fin τ.nSub)
variable (tbl : Memref sig .scVector .hbm S26x16x100000 .f32) (xct : Memref sig .scVector .hbm S26x16384 .i32)
  (out : Memref sig .scVector .hbm (SN N) .f32) (trow : Memref sig .scVector .vmem S100000 .f32) (htrow : trow.IsWhole)
  (idxb : Memref sig .scVector .vmem S16384 .i32) (hidxb : idxb.IsWhole)
  (ob0 : Memref sig .scVector .vmem S32x128 .f32) (hob0 : ob0.IsWhole) (ob1 : Memref sig .scVector .vmem S32x128 .f32) (hob1 : ob1.IsWhole)
  (semr semi sem0 sem1 : DmaSems sig S_)

variable (O : CellTallies nD τ sig (HIx 2)) (W : Waits sig (HIx 2))

/-- What the tile owes, every wait it has recorded since it started being its own transfers'. -/
def owed : sProp 𝕄 := iprop(∃ W', ⌜∀ p ∈ W', p ∈ W ∨ p.2 = none⌝ ∗ owes (V d c s) O W')

/-- A wait for one of the tile's own transfers, at the head of a program. -/
theorem wp_waitOwn {sp sp' : Space} {s₀ s₁ : Shape} {e₀ e₁ : EltTy} {α : Type} {Q : α → sProp 𝕄} (sem : DmaSem sig)
    {srcw : Memref sig .scVector sp s₀ e₀} {dstw : Memref sig .scVector sp' s₁ e₁} {hsrc : srcw.view.WordExact} {hdst : dstw.view.WordExact}
    {k : PUnit → Prog (TpuEff nD τ sig (Elt F) Λ₀ (V d c s).2) α} {B : sProp 𝕄} :
    iprop(Transfers.MayWaits (V d c s) none O ∗ Transfers.Flight countersEmb (V d c s) (.dma sem) none dstw.view.dmaCredit B ∗ owed d c s O W)
      ⊢ iprop((B ∗ semVal (V d c s, .dma sem) 0 ∗ owed d c s O W -∗ wp frame (wpE (defs₀ (F := F)) 𝒱₀ (V d c s) none) Set.univ (k ⟨⟩) Q)
          -∗ wp frame (wpE (defs₀ (F := F)) 𝒱₀ (V d c s) none) Set.univ (.op (.waitDma2 sem srcw dstw hsrc hdst) k) Q) := by
  unfold owed
  iintro ⟨Hmw, Hf, %W', %hW', HO⟩ Hk
  iapply (Transfers.wp_waitLocalO countersEmb 𝒱₀ (V d c s) none none rfl) $$ [Hmw Hf HO]
  · isplitl [Hf]; · iexact Hf
    isplitl [HO]; · iexact HO
    iapply (Transfers.MayWaits.elim (SemLoc.dma sem)) $$ Hmw
  iintro ⟨HB, Hv, HO⟩
  iapply Hk
  isplitl [HB]; · iexact HB
  isplitl [Hv]; · iexact Hv
  iexists _; isplitr; swap
  · iexact HO
  ipureintro
  intro p hp
  rcases Finset.mem_insert.mp hp with rfl | hp
  · exact .inr rfl
  · exact hW' p hp

/-- A program that takes `A` to `B`, before the rest. -/
theorem wp_seq {α β : Type} {p : Prog (TpuEff nD τ sig (Elt F) Λ₀ (V d c s).2) α} {k : α → Prog (TpuEff nD τ sig (Elt F) Λ₀ (V d c s).2) β}
    {A : sProp 𝕄} {B : sProp 𝕄} {Q : β → sProp 𝕄}
    (h : A ⊢ wp frame (wpE (defs₀ (F := F)) 𝒱₀ (V d c s) none) Set.univ p fun _ => B) :
    A ⊢ iprop((∀ x, B -∗ wp frame (wpE (defs₀ (F := F)) 𝒱₀ (V d c s) none) Set.univ (k x) Q)
      -∗ wp frame (wpE (defs₀ (F := F)) 𝒱₀ (V d c s) none) Set.univ (p >>= k) Q) := by
  rw [wp_bind]
  exact h.trans (wp_wand frame _ _)

/-- A fetch: the destination, whole, reads as the source did. -/
theorem wp_fetch {sp sp' : Space} {s₀ : Shape} {e₀ : EltTy} (src : Memref sig .scVector sp s₀ e₀) (dst : Memref sig .scVector sp' s₀ e₀) (hdst : dst.IsWhole)
    (sem : DmaSem sig) {h1 : src.view.WordExact} {h2 : dst.view.WordExact} {h3} (hpos : 0 < dst.view.amount (.dma sem))
    (q : PosShare TreeShare) (fs : Buf (Elt F) (src.view.loc (V d c s))) :
    iprop(Transfers.MayWaits (V d c s) none O ∗ (src.view.loc (V d c s) ↦[src.view.set]{q} fs) ∗ (∃ fd, dst.view.loc (V d c s) ↦{fullShare} fd)
        ∗ semVal (V d c s, .dma sem) 0 ∗ owed d c s O W)
      ⊢ wp frame (wpE (defs₀ (F := F)) 𝒱₀ (V d c s) none) Set.univ (do
          Prog.lift (.enqueueDma src (.here dst) (.dma sem) h1 h2 h3)
          Prog.lift (.waitDma2 sem src dst h1 h2)) fun _ =>
        iprop((src.view.loc (V d c s) ↦[src.view.set]{q} fs)
          ∗ (∃ fd, ⌜∀ y, dst.view.read (Elt F) fd y = src.view.read (Elt F) fs y⌝ ∗ (dst.view.loc (V d c s) ↦{fullShare} fd))
          ∗ semVal (V d c s, .dma sem) 0 ∗ owed d c s O W) := by
  simp only [Prog.lift, Prog.bind_op, Prog.bind_ret, Prog.pure_eq_ret]
  iintro ⟨Hmw, Hs, ⟨%fd, Hd⟩, Hv, HO⟩
  iapply (Transfers.wp_dmaLocal countersEmb 𝒱₀ (V d c s) none none (dst.view.amount (.dma sem)) rfl hpos (Finset.subset_univ _)) $$ [Hs Hd Hv]
  · isplitl [Hs]; · iexact Hs
    isplitl [Hd]; · iexact Hd
    iexact Hv
  iintro Hf
  iapply (wp_waitOwn d c s O W sem) $$ [Hmw Hf HO]
  · isplitl [Hmw]; · iexact Hmw
    isplitl [Hf]; · iexact Hf
    iexact HO
  iintro ⟨⟨Hd, Hs⟩, Hv, HO⟩
  rw [wp_ret]; imodintro
  isplitl [Hs]; · iexact Hs
  isplitl [Hd]
  · iexists _; isplitr; swap
    · iexact Hd
    ipureintro
    intro y
    rw [View.read_write_univ]
  isplitl [Hv]; · iexact Hv
  iexact HO

/-- A write-back started: in flight, it delivers the chunk at the target and the buffer back. -/
theorem wp_putStart {α : Type} {Q : α → sProp 𝕄} (ob : Memref sig .scVector .vmem S32x128 .f32) (hob : ob.IsWhole) (sem : DmaSems sig S_) {o : Fin 3 → ℕ}
    (h : ∀ a, o a + S1x32x128.size a ≤ (SN N).size a) (r : Fin N) (q : Fin 4) (e : o = ![r.val, 32 * q.val, 0])
    (g : Buf (Elt F) (ob.view.loc (V d c s))) (tgt : Buf (Elt F) (out.view.loc (V d c s)))
    (hg : ∀ y : S32x128.Idx, ob.view.read (Elt F) g y = out.view.read (Elt F) tgt
      (ix3 r ⟨32 * q.val + (y 0).val, by have h0 : (y 0).val < 32 := (y 0).isLt; have := q.isLt; omega⟩ (y 1)))
    {k : PUnit → Prog (TpuEff nD τ sig (Elt F) Λ₀ (V d c s).2) α} :
    iprop((ob.view.loc (V d c s) ↦{fullShare} g) ∗ (∃ f, out.view.loc (V d c s) ↦[pset out r.val q]{fullShare} f) ∗ semVal (V d c s, .dma sem.sem) 0)
      ⊢ iprop((Transfers.Flight countersEmb (V d c s) (.dma sem.sem) none (outPiece out o h).view.dmaCredit
            iprop((out.view.loc (V d c s) ↦[pset out r.val q]{fullShare} tgt) ∗ (ob.view.loc (V d c s) ↦{fullShare} g))
          -∗ wp frame (wpE (defs₀ (F := F)) 𝒱₀ (V d c s) none) Set.univ (k ⟨⟩) Q)
        -∗ wp frame (wpE (defs₀ (F := F)) 𝒱₀ (V d c s) none) Set.univ (putStart c s out ob hob sem o h >>= k) Q) := by
  unfold putStart
  simp only [Prog.lift, Prog.bind_op, Prog.bind_ret, Prog.pure_eq_ret]
  rw [← set_outPiece out h r.val q e, show (ob.view.loc (V d c s) ↦{fullShare} g : sProp 𝕄) = (ob.view.loc (V d c s) ↦[ob.view.set]{fullShare} g) by rw [hob.set_eq_univ]]
  iintro ⟨Hb, ⟨%f, Ho⟩, Hv⟩ Hk
  iapply (Transfers.wp_dmaLocal countersEmb 𝒱₀ (V d c s) none none (outPiece out o h).view.dmaCredit rfl
    (View.dmaCredit_pos _ (by decide)) (dst := outPiece out o h) (Sd := (outPiece out o h).view.set) subset_rfl) $$ [Hb Ho Hv]
  · isplitl [Hb]; · iexact Hb
    isplitl [Ho]; · iexact Ho
    iexact Hv
  iintro Hf
  iapply Hk
  iapply (Transfers.Flight_mono countersEmb (V d c s) ?_) $$ Hf
  refine sep_mono ?_ .rfl
  refine Entails.of_eq (pointsTo_congr fun i hi => ?_)
  obtain ⟨y, -, rfl⟩ := Finset.mem_map.mp hi
  refine View.eq_of_read_eq (v := (outPiece out o h).view) ?_
  rw [View.read_write_univ, read_outPiece out h tgt r q e y]
  exact hg y

/-- A write-back waited for. -/
theorem wp_putWait {α : Type} {Q : α → sProp 𝕄} (ob : Memref sig .scVector .vmem S32x128 .f32) (hob : ob.IsWhole) (sem : DmaSems sig S_) {o : Fin 3 → ℕ}
    (h : ∀ a, o a + S1x32x128.size a ≤ (SN N).size a) {k : PUnit → Prog (TpuEff nD τ sig (Elt F) Λ₀ (V d c s).2) α} {B : sProp 𝕄} :
    iprop(Transfers.MayWaits (V d c s) none O ∗ Transfers.Flight countersEmb (V d c s) (.dma sem.sem) none (outPiece out o h).view.dmaCredit B ∗ owed d c s O W)
      ⊢ iprop((B ∗ semVal (V d c s, .dma sem.sem) 0 ∗ owed d c s O W -∗ wp frame (wpE (defs₀ (F := F)) 𝒱₀ (V d c s) none) Set.univ (k ⟨⟩) Q)
          -∗ wp frame (wpE (defs₀ (F := F)) 𝒱₀ (V d c s) none) Set.univ (putWait c s out ob hob sem o h >>= k) Q) := by
  unfold putWait
  simp only [Prog.lift, Prog.bind_op, Prog.bind_ret, Prog.pure_eq_ret]
  exact wp_waitOwn d c s O W sem.sem

end Wp

end Cert.Proof

end
-- ==== Proof.RowTriple.lean ====
/-
  One row of the gather, from its buffers in any state to its four chunks at the looked-up values.
-/
module

public import proofs.«01_k».proof.Proof.RowWp

@[expose] public section

noncomputable section

namespace Cert.Proof

open Cert.KernelIdeal Cert.KernelIdeal.Gen

open Idealize.ShloMosaic
open Idealize.ShloMosaic.SparseCore (S V T)
open Idealize.ShloMosaic.SparseCore.ProtocolKit (finUpTo finFrom bigSep_finUpTo_zero bigSep_finFrom_zero bigSep_finUpTo_self bigSep_finUpTo_succ bigSep_finFrom_succ)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

variable {N : ℕ}

section Wp

variable (d : Dev nD) (c : Fin τ.nSC) (s : Fin τ.nSub)
variable (tbl : Memref sig .scVector .hbm S26x16x100000 .f32) (xct : Memref sig .scVector .hbm S26x16384 .i32)
  (out : Memref sig .scVector .hbm (SN N) .f32) (trow : Memref sig .scVector .vmem S100000 .f32) (htrow : trow.IsWhole)
  (idxb : Memref sig .scVector .vmem S16384 .i32) (hidxb : idxb.IsWhole)
  (ob0 : Memref sig .scVector .vmem S32x128 .f32) (hob0 : ob0.IsWhole) (ob1 : Memref sig .scVector .vmem S32x128 .f32) (hob1 : ob1.IsWhole)
  (semr semi sem0 sem1 : DmaSems sig S_)

variable (O : CellTallies nD τ sig (HIx 2)) (W : Waits sig (HIx 2))

/-- A buffer of the tile's, whole, in some state. -/
def anyBuf {s₀ : Shape} {e₀ : EltTy} (m : Memref sig .scVector .vmem s₀ e₀) : sProp 𝕄 := iprop(∃ f, m.view.loc (V d c s) ↦{fullShare} f)

/-- The elements of one row of the output. -/
def rset (out : Memref sig .scVector .hbm (SN N) .f32) (r : ℕ) : Finset out.view.ty.Idx :=
  (Finset.univ.filter fun x : (SN N).Idx => (x 0).val = r).map out.view.emb

/-- A row is its four chunks. -/
theorem rset_split (r : ℕ) (g : Buf (Elt F) (out.view.loc (V d c s))) :
    (out.view.loc (V d c s) ↦[rset out r]{fullShare} g : sProp 𝕄)
      = iprop((out.view.loc (V d c s) ↦[pset out r 0]{fullShare} g) ∗ (out.view.loc (V d c s) ↦[pset out r 1]{fullShare} g)
        ∗ (out.view.loc (V d c s) ↦[pset out r 2]{fullShare} g) ∗ (out.view.loc (V d c s) ↦[pset out r 3]{fullShare} g)) := by
  have e : rset out r = (Finset.univ : Finset (Fin 4)).biUnion (pset out r) := by
    ext x
    simp only [rset, pset, Finset.mem_map, Finset.mem_filter, Finset.mem_univ, true_and, Finset.mem_biUnion]
    constructor
    · rintro ⟨y, hy, rfl⟩
      have h1 : (y 1).val < 128 := (y 1).isLt
      exact ⟨⟨(y 1).val / 32, by omega⟩, y, ⟨hy, rfl⟩, rfl⟩
    · rintro ⟨q, y, ⟨hy, -⟩, rfl⟩
      exact ⟨y, hy, rfl⟩
  have hd : ∀ q ∈ (Finset.univ : Finset (Fin 4)), ∀ q' ∈ (Finset.univ : Finset (Fin 4)), q ≠ q' → Disjoint (pset out r q) (pset out r q') := by
    intro q _ q' _ hne
    unfold pset
    rw [Finset.disjoint_map]
    refine Finset.disjoint_filter.mpr fun x _ h h' => hne (Fin.ext (h.2.symm.trans h'.2))
  rw [e, pointsTo_biUnion _ _ hd]
  exact bigSep_univ_eq_bigSepL [(0 : Fin 4), (1 : Fin 4), (2 : Fin 4), (3 : Fin 4)] (by decide) (by decide) _

/-- A chunk gathered into a buffer in any state. -/
theorem wp_chunkAny {α : Type} {Q : α → sProp 𝕄} (ob : Memref sig .scVector .vmem S32x128 .f32)
    (fr : Buf (Elt F) (trow.view.loc (V d c s))) (fi : Buf (Elt F) (idxb.view.loc (V d c s)))
    (hX : ∀ y, (idxb.view.read (Elt F) fi y : BitVec 32).toNat < 100000) (q : Fin 4) (o : Offs)
    (hoi : ∀ u t, o.oi u t = ![q.val * 4096 + 128 * t.val + 16 * u.val]) (hoo : ∀ u t, o.oo u t = ![t.val, 16 * u.val])
    {k : PUnit → Prog (TpuEff nD τ sig (Elt F) Λ₀ (V d c s).2) α} :
    iprop((idxb.view.loc (V d c s) ↦{fullShare} fi) ∗ (trow.view.loc (V d c s) ↦{fullShare} fr) ∗ anyBuf d c s ob)
      ⊢ iprop((∀ g : Buf (Elt F) (ob.view.loc (V d c s)),
          ⌜∀ y : S32x128.Idx, ob.view.read (Elt F) g y = lane (trow.view.read (Elt F) fr) (idxb.view.read (Elt F) fi) q.val y⌝
            -∗ (idxb.view.loc (V d c s) ↦{fullShare} fi) -∗ (trow.view.loc (V d c s) ↦{fullShare} fr) -∗ (ob.view.loc (V d c s) ↦{fullShare} g)
            -∗ wp frame (wpE (defs₀ (F := F)) 𝒱₀ (V d c s) none) Set.univ (k ⟨⟩) Q)
        -∗ wp frame (wpE (defs₀ (F := F)) 𝒱₀ (V d c s) none) Set.univ (chunk c s trow idxb ob o >>= k) Q) := by
  iintro ⟨Hi, Hr, Hb⟩ Hk
  unfold anyBuf
  icases Hb with ⟨%f, Hb⟩
  iapply (wp_seq d c s (wp_chunk (F := F) d c s trow idxb ob fr fi hX q.val q.isLt o hoi hoo)) $$ [Hi Hr Hb]
  · unfold lanes
    isplitl [Hi]; · iexact Hi
    isplitl [Hr]; · iexact Hr
    iexists f
    isplitr
    · ipureintro; intro y hy; exact absurd hy (Nat.not_lt_zero _)
    iexact Hb
  unfold lanes
  iintro %_ ⟨Hi, Hr, %g, %hg, Hb⟩
  ispecialize Hk $$ %g %(fun y => hg y (by have h0 : (y 0).val < 32 := (y 0).isLt; have h1 : (y 1).val < 128 := (y 1).isLt; omega))
  iapply Hk $$ Hi Hr Hb

/-- The four chunks of row `r`. -/
theorem wp_puts (r : RowOffs N) (os : Fin 4 → Offs) (rn : Fin N)
    (hoi : ∀ (q : Fin 4) u t, (os q).oi u t = ![q.val * 4096 + 128 * t.val + 16 * u.val]) (hoo : ∀ q u t, (os q).oo u t = ![t.val, 16 * u.val])
    (hp : ∀ q : Fin 4, r.p q = ![rn.val, 32 * q.val, 0])
    (fr : Buf (Elt F) (trow.view.loc (V d c s))) (fi : Buf (Elt F) (idxb.view.loc (V d c s)))
    (hX : ∀ y, (idxb.view.read (Elt F) fi y : BitVec 32).toNat < 100000) (tgt : Buf (Elt F) (out.view.loc (V d c s)))
    (ht : ∀ (q : Fin 4) (y : S32x128.Idx), lane (trow.view.read (Elt F) fr) (idxb.view.read (Elt F) fi) q.val y = out.view.read (Elt F) tgt
      (ix3 rn ⟨32 * q.val + (y 0).val, by have h0 : (y 0).val < 32 := (y 0).isLt; have := q.isLt; omega⟩ (y 1))) :
    iprop(Transfers.MayWaits (V d c s) none O ∗ (idxb.view.loc (V d c s) ↦{fullShare} fi) ∗ (trow.view.loc (V d c s) ↦{fullShare} fr)
        ∗ anyBuf d c s ob0 ∗ anyBuf d c s ob1 ∗ semVal (V d c s, .dma sem0.sem) 0 ∗ semVal (V d c s, .dma sem1.sem) 0
        ∗ (∃ f, out.view.loc (V d c s) ↦[pset out rn.val 0]{fullShare} f) ∗ (∃ f, out.view.loc (V d c s) ↦[pset out rn.val 1]{fullShare} f)
        ∗ (∃ f, out.view.loc (V d c s) ↦[pset out rn.val 2]{fullShare} f) ∗ (∃ f, out.view.loc (V d c s) ↦[pset out rn.val 3]{fullShare} f)
        ∗ owed d c s O W)
      ⊢ wp frame (wpE (defs₀ (F := F)) 𝒱₀ (V d c s) none) Set.univ (puts c s out trow idxb ob0 hob0 ob1 hob1 sem0 sem1 r os) fun _ =>
        iprop((idxb.view.loc (V d c s) ↦{fullShare} fi) ∗ (trow.view.loc (V d c s) ↦{fullShare} fr)
          ∗ anyBuf d c s ob0 ∗ anyBuf d c s ob1 ∗ semVal (V d c s, .dma sem0.sem) 0 ∗ semVal (V d c s, .dma sem1.sem) 0
          ∗ (out.view.loc (V d c s) ↦[pset out rn.val 0]{fullShare} tgt) ∗ (out.view.loc (V d c s) ↦[pset out rn.val 1]{fullShare} tgt)
          ∗ (out.view.loc (V d c s) ↦[pset out rn.val 2]{fullShare} tgt) ∗ (out.view.loc (V d c s) ↦[pset out rn.val 3]{fullShare} tgt)
          ∗ owed d c s O W) := by
  unfold puts
  iintro ⟨#Hmw, Hi, Hr, Hb0, Hb1, Hv0, Hv1, Ho0, Ho1, Ho2, Ho3, HO⟩
  iapply (wp_chunkAny d c s trow idxb ob0 fr fi hX 0 (os 0) (hoi 0) (hoo 0)) $$ [Hi Hr Hb0]
  · isplitl [Hi]; · iexact Hi
    isplitl [Hr] <;> iassumption
  iintro %g0 %hg0 Hi Hr Hb0
  iapply (wp_putStart d c s out ob0 hob0 sem0 (r.hp 0) rn 0 (hp 0) g0 tgt (fun y => (hg0 y).trans (ht 0 y))) $$ [Hb0 Ho0 Hv0]
  · isplitl [Hb0]; · iexact Hb0
    isplitl [Ho0] <;> iassumption
  iintro Hf0
  iapply (wp_chunkAny d c s trow idxb ob1 fr fi hX 1 (os 1) (hoi 1) (hoo 1)) $$ [Hi Hr Hb1]
  · isplitl [Hi]; · iexact Hi
    isplitl [Hr] <;> iassumption
  iintro %g1 %hg1 Hi Hr Hb1
  iapply (wp_putStart d c s out ob1 hob1 sem1 (r.hp 1) rn 1 (hp 1) g1 tgt (fun y => (hg1 y).trans (ht 1 y))) $$ [Hb1 Ho1 Hv1]
  · isplitl [Hb1]; · iexact Hb1
    isplitl [Ho1] <;> iassumption
  iintro Hf1
  iapply (wp_putWait d c s out O W ob0 hob0 sem0 (r.hp 0)) $$ [Hf0 HO]
  · isplitr; · iexact Hmw
    isplitl [Hf0] <;> iassumption
  iintro ⟨⟨Ho0, Hb0⟩, Hv0, HO⟩
  iapply (wp_chunkAny d c s trow idxb ob0 fr fi hX 2 (os 2) (hoi 2) (hoo 2)) $$ [Hi Hr Hb0]
  · isplitl [Hi]; · iexact Hi
    isplitl [Hr]; · iexact Hr
    unfold anyBuf; iexists _; iexact Hb0
  iintro %g2 %hg2 Hi Hr Hb0
  iapply (wp_putStart d c s out ob0 hob0 sem0 (r.hp 2) rn 2 (hp 2) g2 tgt (fun y => (hg2 y).trans (ht 2 y))) $$ [Hb0 Ho2 Hv0]
  · isplitl [Hb0]; · iexact Hb0
    isplitl [Ho2] <;> iassumption
  iintro Hf2
  iapply (wp_putWait d c s out O W ob1 hob1 sem1 (r.hp 1)) $$ [Hf1 HO]
  · isplitr; · iexact Hmw
    isplitl [Hf1] <;> iassumption
  iintro ⟨⟨Ho1, Hb1⟩, Hv1, HO⟩
  iapply (wp_chunkAny d c s trow idxb ob1 fr fi hX 3 (os 3) (hoi 3) (hoo 3)) $$ [Hi Hr Hb1]
  · isplitl [Hi]; · iexact Hi
    isplitl [Hr]; · iexact Hr
    unfold anyBuf; iexists _; iexact Hb1
  iintro %g3 %hg3 Hi Hr Hb1
  iapply (wp_putStart d c s out ob1 hob1 sem1 (r.hp 3) rn 3 (hp 3) g3 tgt (fun y => (hg3 y).trans (ht 3 y))) $$ [Hb1 Ho3 Hv1]
  · isplitl [Hb1]; · iexact Hb1
    isplitl [Ho3] <;> iassumption
  iintro Hf3
  iapply (wp_putWait d c s out O W ob0 hob0 sem0 (r.hp 2)) $$ [Hf2 HO]
  · isplitr; · iexact Hmw
    isplitl [Hf2] <;> iassumption
  iintro ⟨⟨Ho2, Hb0⟩, Hv0, HO⟩
  iapply (wp_putWait d c s out O W ob1 hob1 sem1 (r.hp 3)) $$ [Hf3 HO]
  · isplitr; · iexact Hmw
    isplitl [Hf3] <;> iassumption
  iintro ⟨⟨Ho3, Hb1⟩, Hv1, HO⟩
  rw [Prog.pure_eq_ret, wp_ret]; imodintro
  isplitl [Hi]; · iexact Hi
  isplitl [Hr]; · iexact Hr
  isplitl [Hb0]; · unfold anyBuf; iexists _; iexact Hb0
  isplitl [Hb1]; · unfold anyBuf; iexists _; iexact Hb1
  isplitl [Hv0]; · iexact Hv0
  isplitl [Hv1]; · iexact Hv1
  isplitl [Ho0]; · iexact Ho0
  isplitl [Ho1]; · iexact Ho1
  isplitl [Ho2]; · iexact Ho2
  isplitl [Ho3]; · iexact Ho3
  iexact HO

/-- The index buffer holding feature `f`'s row. -/
def idxAt (fx : Buf (Elt F) (xct.view.loc (V d c s))) (f : Fin 26) : sProp 𝕄 :=
  iprop(∃ fi, ⌜∀ y : S16384.Idx, idxb.view.read (Elt F) fi y = xct.view.read (Elt F) fx (ix2 f (y 0))⌝ ∗ (idxb.view.loc (V d c s) ↦{fullShare} fi))

/-- The index fetch: whether taken or not, the buffer holds the row's feature after it. -/
theorem wp_fetchIdx (r : RowOffs N) (f : Fin 26) (h1 : r.cond = 1#1 → r.o1 = ![f.val, 0]) (q : PosShare TreeShare)
    (fx : Buf (Elt F) (xct.view.loc (V d c s))) :
    iprop(Transfers.MayWaits (V d c s) none O ∗ (xct.view.loc (V d c s) ↦{q} fx) ∗ (anyBuf d c s idxb ∧ (⌜r.cond ≠ 1#1⌝ → idxAt d c s xct idxb fx f))
        ∗ semVal (V d c s, .dma semi.sem) 0 ∗ owed d c s O W)
      ⊢ wp frame (wpE (defs₀ (F := F)) 𝒱₀ (V d c s) none) Set.univ (fetchIdx c s xct idxb hidxb semi r) fun _ =>
        iprop((xct.view.loc (V d c s) ↦{q} fx) ∗ idxAt d c s xct idxb fx f ∗ semVal (V d c s, .dma semi.sem) 0 ∗ owed d c s O W) := by
  unfold fetchIdx
  by_cases h : r.cond = 1#1
  · rw [dif_pos h]
    iintro ⟨Hmw, Hx, Hi, Hv, HO⟩
    icases Hi with ⟨Hi, -⟩
    ihave Hx' := (pointsTo_split_subset (Finset.subset_univ (xctRow xct r.o1 (r.h1 h)).view.set)).1 $$ Hx
    icases Hx' with ⟨Hx, Hxr⟩
    simp only [← bind_assoc]
    iapply (wp_seq d c s (wp_fetch d c s O W (xctRow xct r.o1 (r.h1 h)) idxb hidxb semi.sem (View.amount_pos _ _ (by decide)) q fx)) $$ [Hmw Hx Hi Hv HO]
    · isplitl [Hmw]; · iexact Hmw
      isplitl [Hx]; · iexact Hx
      isplitl [Hi]; · unfold anyBuf; iexact Hi
      isplitl [Hv] <;> iassumption
    iintro %_ ⟨Hx, ⟨%fi, %hfi, Hi⟩, Hv, HO⟩
    rw [Prog.pure_eq_ret, wp_ret]; imodintro
    isplitl [Hx Hxr]
    · iapply (pointsTo_split_subset (Finset.subset_univ (xctRow xct r.o1 (r.h1 h)).view.set)).2
      isplitl [Hx] <;> iassumption
    isplitl [Hi]
    · unfold idxAt
      iexists fi; isplitr; swap
      · iexact Hi
      ipureintro
      intro y
      rw [hfi, read_xctRow xct (r.h1 h) fx f (h1 h) y]
    isplitl [Hv] <;> iassumption
  · rw [dif_neg h]
    iintro ⟨Hmw, Hx, Hi, Hv, HO⟩
    icases Hi with ⟨-, Hi⟩
    rw [Prog.pure_eq_ret, wp_ret]; imodintro
    isplitl [Hx]; · iexact Hx
    isplitl [Hi]; · iapply Hi; ipureintro; exact h
    isplitl [Hv] <;> iassumption

/-- The table row's fetch. -/
theorem wp_fetchTbl (r : RowOffs N) (f : Fin 26) (m : Fin 16) (h2 : r.o2 = ![f.val, m.val, 0]) (q : PosShare TreeShare)
    (ft : Buf (Elt F) (tbl.view.loc (V d c s))) :
    iprop(Transfers.MayWaits (V d c s) none O ∗ (tbl.view.loc (V d c s) ↦{q} ft) ∗ anyBuf d c s trow
        ∗ semVal (V d c s, .dma semr.sem) 0 ∗ owed d c s O W)
      ⊢ wp frame (wpE (defs₀ (F := F)) 𝒱₀ (V d c s) none) Set.univ (fetchTbl c s tbl trow htrow semr r) fun _ =>
        iprop((tbl.view.loc (V d c s) ↦{q} ft)
          ∗ (∃ fr, ⌜∀ y : S100000.Idx, trow.view.read (Elt F) fr y = tbl.view.read (Elt F) ft (ix3 f m (y 0))⌝ ∗ (trow.view.loc (V d c s) ↦{fullShare} fr))
          ∗ semVal (V d c s, .dma semr.sem) 0 ∗ owed d c s O W) := by
  unfold fetchTbl
  iintro ⟨Hmw, Ht, Hr, Hv, HO⟩
  ihave Ht' := (pointsTo_split_subset (Finset.subset_univ (tblRow tbl r.o2 r.h2).view.set)).1 $$ Ht
  icases Ht' with ⟨Ht, Htr⟩
  iapply (wp_wand frame _ _) $$ [Hmw Ht Hr Hv HO]
  · iapply (wp_fetch d c s O W (tblRow tbl r.o2 r.h2) trow htrow semr.sem (View.amount_pos _ _ (by decide)) q ft)
    isplitl [Hmw]; · iexact Hmw
    isplitl [Ht]; · iexact Ht
    isplitl [Hr]; · unfold anyBuf; iexact Hr
    isplitl [Hv] <;> iassumption
  iintro %_ ⟨Ht, ⟨%fr, %hfr, Hr⟩, Hv, HO⟩
  isplitl [Ht Htr]
  · iapply (pointsTo_split_subset (Finset.subset_univ (tblRow tbl r.o2 r.h2).view.set)).2
    isplitl [Ht] <;> iassumption
  isplitl [Hr]
  · iexists fr; isplitr; swap
    · iexact Hr
    ipureintro
    intro y
    rw [hfr, read_tblRow tbl r.h2 ft f m h2 y]
  isplitl [Hv] <;> iassumption

/-- One row written to the target. -/
theorem wp_row (r : RowOffs N) (os : Fin 4 → Offs) (rn : Fin N) (k0 : ℕ) (f : Fin 26) (m : Fin 16) (hk : k0 + rn.val = 16 * f.val + m.val)
    (hoi : ∀ (q : Fin 4) u t, (os q).oi u t = ![q.val * 4096 + 128 * t.val + 16 * u.val]) (hoo : ∀ q u t, (os q).oo u t = ![t.val, 16 * u.val])
    (h1 : r.cond = 1#1 → r.o1 = ![f.val, 0]) (h2 : r.o2 = ![f.val, m.val, 0]) (hp : ∀ q : Fin 4, r.p q = ![rn.val, 32 * q.val, 0])
    (qt qx : PosShare TreeShare) (ft : Buf (Elt F) (tbl.view.loc (V d c s))) (fx : Buf (Elt F) (xct.view.loc (V d c s)))
    (hX : ∀ y, (xct.view.read (Elt F) fx y : BitVec 32).toNat < 100000) (tgt : Buf (Elt F) (out.view.loc (V d c s)))
    (ht : ∀ x, out.view.read (Elt F) tgt x = gval (tbl.view.read (Elt F) ft) (xct.view.read (Elt F) fx) k0 x) :
    iprop(Transfers.MayWaits (V d c s) none O ∗ (tbl.view.loc (V d c s) ↦{qt} ft) ∗ (xct.view.loc (V d c s) ↦{qx} fx)
        ∗ (anyBuf d c s idxb ∧ (⌜r.cond ≠ 1#1⌝ → idxAt d c s xct idxb fx f)) ∗ anyBuf d c s trow ∗ anyBuf d c s ob0 ∗ anyBuf d c s ob1
        ∗ semVal (V d c s, .dma semr.sem) 0 ∗ semVal (V d c s, .dma semi.sem) 0 ∗ semVal (V d c s, .dma sem0.sem) 0 ∗ semVal (V d c s, .dma sem1.sem) 0
        ∗ (∃ g, out.view.loc (V d c s) ↦[rset out rn.val]{fullShare} g) ∗ owed d c s O W)
      ⊢ wp frame (wpE (defs₀ (F := F)) 𝒱₀ (V d c s) none) Set.univ
        (rowProg c s tbl xct out trow htrow idxb hidxb ob0 hob0 ob1 hob1 semr semi sem0 sem1 r os) fun _ =>
        iprop((tbl.view.loc (V d c s) ↦{qt} ft) ∗ (xct.view.loc (V d c s) ↦{qx} fx)
          ∗ idxAt d c s xct idxb fx f ∗ anyBuf d c s trow ∗ anyBuf d c s ob0 ∗ anyBuf d c s ob1
          ∗ semVal (V d c s, .dma semr.sem) 0 ∗ semVal (V d c s, .dma semi.sem) 0 ∗ semVal (V d c s, .dma sem0.sem) 0 ∗ semVal (V d c s, .dma sem1.sem) 0
          ∗ (out.view.loc (V d c s) ↦[rset out rn.val]{fullShare} tgt) ∗ owed d c s O W) := by
  unfold rowProg
  iintro ⟨#Hmw, Ht, Hx, Hi, Hr, Hb0, Hb1, Hvr, Hvi, Hv0, Hv1, ⟨%g, Ho⟩, HO⟩
  iapply (wp_seq d c s (wp_fetchIdx d c s xct idxb hidxb semi O W r f h1 qx fx)) $$ [Hx Hi Hvi HO]
  · isplitr; · iexact Hmw
    isplitl [Hx]; · iexact Hx
    isplitl [Hi]; · iexact Hi
    isplitl [Hvi] <;> iassumption
  iintro %_ ⟨Hx, Hi, Hvi, HO⟩
  iapply (wp_seq d c s (wp_fetchTbl d c s tbl trow htrow semr O W r f m h2 qt ft)) $$ [Ht Hr Hvr HO]
  · isplitr; · iexact Hmw
    isplitl [Ht]; · iexact Ht
    isplitl [Hr]; · iexact Hr
    isplitl [Hvr] <;> iassumption
  iintro %_ ⟨Ht, ⟨%fr, %hfr, Hr⟩, Hvr, HO⟩
  unfold idxAt
  icases Hi with ⟨%fi, %hfi, Hi⟩
  ihave Ho := (BIBase.Entails.of_eq (rset_split d c s out rn.val g)) $$ Ho
  icases Ho with ⟨Ho0, Ho1, Ho2, Ho3⟩
  iapply (wp_wand frame _ _) $$ [Hi Hr Hb0 Hb1 Hv0 Hv1 Ho0 Ho1 Ho2 Ho3 HO]
  · iapply (wp_puts d c s out trow idxb ob0 hob0 ob1 hob1 sem0 sem1 O W r os rn hoi hoo hp fr fi (fun y => by rw [hfi]; exact hX _) tgt ?_)
    · intro q y
      obtain ⟨y0, y1, rfl⟩ : ∃ (y0 : Fin 32) (y1 : Fin 128), y = ix2 y0 y1 := ⟨y 0, y 1, eq_ix2 y⟩
      have hq := q.isLt
      have h0 := y0.isLt
      have h1 := y1.isLt
      have hf := f.isLt
      have hm := m.isLt
      rw [ht]
      unfold lane gval
      rw [hfr]
      have e1 : (k0 + rn.val) / 16 % 26 = f.val := by omega
      have e2 : (k0 + rn.val) % 16 = m.val := by omega
      refine congrArg _ (Shape.idx3_ext e1.symm e2.symm ?_)
      show (idxb.view.read (Elt F) fi (ix1 _) : BitVec 32).toNat % 100000 = BitVec.toNat (xct.view.read (Elt F) fx (ix2 _ _)) % 100000
      rw [hfi]
      refine congrArg (fun z => (xct.view.read (Elt F) fx z : BitVec 32).toNat % 100000) (pair_ext e1.symm ?_)
      show (q.val * 4096 + y0.val * 128 + y1.val) % 16384 = ((32 * q.val + y0.val) * 128 + y1.val) % 16384
      congr 1
      omega
    isplitr; · iexact Hmw
    isplitl [Hi]; · iexact Hi
    isplitl [Hr]; · iexact Hr
    isplitl [Hb0]; · iexact Hb0
    isplitl [Hb1]; · iexact Hb1
    isplitl [Hv0]; · iexact Hv0
    isplitl [Hv1]; · iexact Hv1
    isplitl [Ho0]; · iexists g; iexact Ho0
    isplitl [Ho1]; · iexists g; iexact Ho1
    isplitl [Ho2]; · iexists g; iexact Ho2
    isplitl [Ho3]; · iexists g; iexact Ho3
    iexact HO
  iintro %_ ⟨Hi, Hr, Hb0, Hb1, Hv0, Hv1, Ho0, Ho1, Ho2, Ho3, HO⟩
  isplitl [Ht]; · iexact Ht
  isplitl [Hx]; · iexact Hx
  isplitl [Hi]
  · iexists fi; isplitr; swap
    · iexact Hi
    ipureintro; exact hfi
  isplitl [Hr]; · unfold anyBuf; iexists fr; iexact Hr
  isplitl [Hb0]; · iexact Hb0
  isplitl [Hb1]; · iexact Hb1
  isplitl [Hvr]; · iexact Hvr
  isplitl [Hvi]; · iexact Hvi
  isplitl [Hv0]; · iexact Hv0
  isplitl [Hv1]; · iexact Hv1
  isplitl [Ho0 Ho1 Ho2 Ho3]
  · iapply (BIBase.Entails.of_eq (rset_split d c s out rn.val tgt).symm)
    isplitl [Ho0]; · iexact Ho0
    isplitl [Ho1]; · iexact Ho1
    isplitl [Ho2] <;> iassumption
  iexact HO

/-- What a tile holds while it works, beside its rows of the output. -/
def tileHeld (qt qx : PosShare TreeShare) (ft : Buf (Elt F) (tbl.view.loc (V d c s))) (fx : Buf (Elt F) (xct.view.loc (V d c s))) : sProp 𝕄 :=
  iprop((tbl.view.loc (V d c s) ↦{qt} ft) ∗ (xct.view.loc (V d c s) ↦{qx} fx) ∗ anyBuf d c s trow ∗ anyBuf d c s ob0 ∗ anyBuf d c s ob1
    ∗ semVal (V d c s, .dma semr.sem) 0 ∗ semVal (V d c s, .dma semi.sem) 0 ∗ semVal (V d c s, .dma sem0.sem) 0 ∗ semVal (V d c s, .dma sem1.sem) 0
    ∗ owed d c s O W)

/-- The index buffer between two rows: after one it holds that one's feature. -/
def idxSt (fx : Buf (Elt F) (xct.view.loc (V d c s))) (fam : ℕ → Fin 26) : ℕ → sProp 𝕄
  | 0 => anyBuf d c s idxb
  | j + 1 => idxAt d c s xct idxb fx (fam j)

theorem idxSt_any (fx : Buf (Elt F) (xct.view.loc (V d c s))) (fam : ℕ → Fin 26) (j : ℕ) :
    idxSt d c s xct idxb fx fam j ⊢ anyBuf d c s idxb := by
  cases j with
  | zero => exact .rfl
  | succ j =>
    show idxAt d c s xct idxb fx (fam j) ⊢ _
    unfold idxAt anyBuf
    iintro ⟨%fi, -, Hi⟩
    iexists fi; iexact Hi

/-- The tile's loop over its rows. -/
theorem wp_rows (l : Scf.Loop 32) (hl : l.OK) (r : Fin l.trips → RowOffs N) (os : Fin 4 → Offs) (w k0 : ℕ) (hN : w + l.trips ≤ N) (hK : k0 + N ≤ 416)
    (hoi : ∀ (q : Fin 4) u t, (os q).oi u t = ![q.val * 4096 + 128 * t.val + 16 * u.val]) (hoo : ∀ q u t, (os q).oo u t = ![t.val, 16 * u.val])
    (hc : ∀ t, (r t).cond ≠ 1#1 → 0 < t.val ∧ (k0 + w + t.val) / 16 = (k0 + w + (t.val - 1)) / 16)
    (h1 : ∀ t, (r t).cond = 1#1 → (r t).o1 = ![(k0 + w + t.val) / 16, 0]) (h2 : ∀ t, (r t).o2 = ![(k0 + w + t.val) / 16, (k0 + w + t.val) % 16, 0])
    (hp : ∀ t, ∀ q : Fin 4, (r t).p q = ![w + t.val, 32 * q.val, 0])
    (qt qx : PosShare TreeShare) (ft : Buf (Elt F) (tbl.view.loc (V d c s))) (fx : Buf (Elt F) (xct.view.loc (V d c s)))
    (hX : ∀ y, (xct.view.read (Elt F) fx y : BitVec 32).toNat < 100000) (tgt : Buf (Elt F) (out.view.loc (V d c s)))
    (ht : ∀ x, out.view.read (Elt F) tgt x = gval (tbl.view.read (Elt F) ft) (xct.view.read (Elt F) fx) k0 x) :
    iprop(Transfers.MayWaits (V d c s) none O ∗ tileHeld d c s tbl xct trow ob0 ob1 semr semi sem0 sem1 O W qt qx ft fx ∗ anyBuf d c s idxb
        ∗ bigSep Finset.univ fun t : Fin l.trips => iprop(∃ g, out.view.loc (V d c s) ↦[rset out (w + t.val)]{fullShare} g))
      ⊢ wp frame (wpE (defs₀ (F := F)) 𝒱₀ (V d c s) none) Set.univ
        (Scf.Loop.for l hl ⟨⟩ fun t _ => rowProg c s tbl xct out trow htrow idxb hidxb ob0 hob0 ob1 hob1 semr semi sem0 sem1 (r t) os) fun _ =>
        iprop(tileHeld d c s tbl xct trow ob0 ob1 semr semi sem0 sem1 O W qt qx ft fx ∗ anyBuf d c s idxb
          ∗ bigSep Finset.univ fun t : Fin l.trips => (out.view.loc (V d c s) ↦[rset out (w + t.val)]{fullShare} tgt)) := by
  let fam : ℕ → Fin 26 := fun j => ⟨(k0 + w + j) / 16 % 26, Nat.mod_lt _ (by decide)⟩
  let I : ℕ → PUnit → sProp 𝕄 := fun j _ =>
    iprop(Transfers.MayWaits (V d c s) none O ∗ tileHeld d c s tbl xct trow ob0 ob1 semr semi sem0 sem1 O W qt qx ft fx ∗ idxSt d c s xct idxb fx fam j
      ∗ bigSep (finUpTo l.trips j) (fun t => (out.view.loc (V d c s) ↦[rset out (w + t.val)]{fullShare} tgt))
      ∗ bigSep (finFrom l.trips j) fun t => iprop(∃ g, out.view.loc (V d c s) ↦[rset out (w + t.val)]{fullShare} g))
  refine BIBase.Entails.trans ?_ (Scf.wp_for frame (wpE (defs₀ (F := F)) 𝒱₀ (V d c s) none) Set.univ l.lb l.ub l.st hl ⟨⟩
    (fun t _ => rowProg c s tbl xct out trow htrow idxb hidxb ob0 hob0 ob1 hob1 semr semi sem0 sem1 (r t) os) I fun t _ => ?_)
  · have e0 : I 0 ⟨⟩ = iprop(Transfers.MayWaits (V d c s) none O ∗ tileHeld d c s tbl xct trow ob0 ob1 semr semi sem0 sem1 O W qt qx ft fx ∗ anyBuf d c s idxb
        ∗ emp ∗ bigSep Finset.univ fun t : Fin l.trips => iprop(∃ g, out.view.loc (V d c s) ↦[rset out (w + t.val)]{fullShare} g)) := by
      show iprop(_ ∗ _ ∗ anyBuf d c s idxb ∗ _ ∗ _) = _
      rw [bigSep_finUpTo_zero, bigSep_finFrom_zero]
    have e1 : I l.trips ⟨⟩ = iprop(Transfers.MayWaits (V d c s) none O ∗ tileHeld d c s tbl xct trow ob0 ob1 semr semi sem0 sem1 O W qt qx ft fx
        ∗ idxSt d c s xct idxb fx fam l.trips
        ∗ (bigSep Finset.univ fun t : Fin l.trips => (out.view.loc (V d c s) ↦[rset out (w + t.val)]{fullShare} tgt))
        ∗ bigSep (finFrom l.trips l.trips) fun t => iprop(∃ g, out.view.loc (V d c s) ↦[rset out (w + t.val)]{fullShare} g)) := by
      show iprop(_ ∗ _ ∗ _ ∗ _ ∗ _) = _
      rw [bigSep_finUpTo_self]
    iintro ⟨#Hmw, Hh, Hi, Ho⟩
    isplitl
    · iapply (BIBase.Entails.of_eq e0.symm)
      isplitr; · iexact Hmw
      isplitl [Hh]; · iexact Hh
      isplitl [Hi]; · iexact Hi
      isplitr
      · iempintro
      iexact Ho
    · iintro %_ H
      ihave H := (BIBase.Entails.of_eq e1) $$ H
      icases H with ⟨-, Hh, Hi, Ho, -⟩
      isplitl [Hh]; · iexact Hh
      isplitl [Hi]; · iapply (idxSt_any d c s xct idxb fx fam _) $$ Hi
      iexact Ho
  · have htl := t.isLt
    have htr : w + t.val < N := by have : t.val < l.trips := htl; omega
    show iprop(_ ∗ _ ∗ idxSt d c s xct idxb fx fam t.val ∗ _ ∗ _) ⊢ _
    rw [show bigSep (finFrom l.trips t.val) (fun t : Fin l.trips => iprop(∃ g, out.view.loc (V d c s) ↦[rset out (w + t.val)]{fullShare} g))
      = iprop((∃ g, out.view.loc (V d c s) ↦[rset out (w + t.val)]{fullShare} g)
        ∗ bigSep (finFrom l.trips (t.val + 1)) (fun t : Fin l.trips => iprop(∃ g, out.view.loc (V d c s) ↦[rset out (w + t.val)]{fullShare} g)))
      from bigSep_finFrom_succ htl _]
    have hrow := wp_row d c s tbl xct out trow htrow idxb hidxb ob0 hob0 ob1 hob1 semr semi sem0 sem1 O W (r t) os ⟨w + t.val, htr⟩ k0 (fam t.val)
      ⟨(k0 + w + t.val) % 16, Nat.mod_lt _ (by decide)⟩ (by show k0 + (w + t.val) = 16 * ((k0 + w + t.val) / 16 % 26) + (k0 + w + t.val) % 16; omega) hoi hoo
      (fun e => (h1 t e).trans (by show _ = ![(k0 + w + t.val) / 16 % 26, 0]; rw [Nat.mod_eq_of_lt (show (k0 + w + t.val) / 16 < 26 by omega)]))
      ((h2 t).trans (by show _ = ![(k0 + w + t.val) / 16 % 26, _, 0]; rw [Nat.mod_eq_of_lt (show (k0 + w + t.val) / 16 < 26 by omega)]))
      (hp t) qt qx ft fx hX tgt ht
    have hidx : idxSt d c s xct idxb fx fam t.val ⊢ iprop(anyBuf d c s idxb ∧ (⌜(r t).cond ≠ 1#1⌝ → idxAt d c s xct idxb fx (fam t.val))) := by
      refine BIClass.and_intro (idxSt_any d c s xct idxb fx fam _) ?_
      iintro H %hne
      obtain ⟨hpos, hsame⟩ := hc t hne
      obtain ⟨j, hj⟩ : ∃ j, t.val = j + 1 := ⟨t.val - 1, by omega⟩
      have e : fam t.val = fam j := Fin.ext (by
        show (k0 + w + t.val) / 16 % 26 = (k0 + w + j) / 16 % 26
        rw [hsame, hj, Nat.add_sub_cancel])
      ihave H := (BIBase.Entails.of_eq (show idxSt d c s xct idxb fx fam t.val = idxAt d c s xct idxb fx (fam t.val) by rw [e, hj]; rfl)) $$ H
      iexact H
    have hI1 : I (t.val + 1) ⟨⟩ = iprop(Transfers.MayWaits (V d c s) none O ∗ tileHeld d c s tbl xct trow ob0 ob1 semr semi sem0 sem1 O W qt qx ft fx
        ∗ idxAt d c s xct idxb fx (fam t.val)
        ∗ ((out.view.loc (V d c s) ↦[rset out (w + t.val)]{fullShare} tgt)
          ∗ bigSep (finUpTo l.trips t.val) (fun t => (out.view.loc (V d c s) ↦[rset out (w + t.val)]{fullShare} tgt)))
        ∗ bigSep (finFrom l.trips (t.val + 1)) fun t => iprop(∃ g, out.view.loc (V d c s) ↦[rset out (w + t.val)]{fullShare} g)) := by
      show iprop(_ ∗ _ ∗ idxAt d c s xct idxb fx (fam t.val) ∗ _ ∗ _) = _
      rw [show bigSep (finUpTo l.trips (t.val + 1)) (fun t : Fin l.trips => (out.view.loc (V d c s) ↦[rset out (w + t.val)]{fullShare} tgt : sProp 𝕄))
        = iprop((out.view.loc (V d c s) ↦[rset out (w + t.val)]{fullShare} tgt)
          ∗ bigSep (finUpTo l.trips t.val) (fun t : Fin l.trips => (out.view.loc (V d c s) ↦[rset out (w + t.val)]{fullShare} tgt))) from bigSep_finUpTo_succ htl _]
    iintro ⟨#Hmw, Hh, Hi, Hd, Ho, Hrest⟩
    ihave Hi := hidx $$ Hi
    unfold tileHeld
    icases Hh with ⟨Ht, Hx, Hr, Hb0, Hb1, Hvr, Hvi, Hv0, Hv1, HO⟩
    iapply (wp_wand frame _ _) $$ [Ht Hx Hr Hb0 Hb1 Hvr Hvi Hv0 Hv1 HO Hi Ho]
    · iapply hrow
      isplitr; · iexact Hmw
      isplitl [Ht]; · iexact Ht
      isplitl [Hx]; · iexact Hx
      isplitl [Hi]; · iexact Hi
      isplitl [Hr]; · iexact Hr
      isplitl [Hb0]; · iexact Hb0
      isplitl [Hb1]; · iexact Hb1
      isplitl [Hvr]; · iexact Hvr
      isplitl [Hvi]; · iexact Hvi
      isplitl [Hv0]; · iexact Hv0
      isplitl [Hv1]; · iexact Hv1
      isplitl [Ho]; · iexact Ho
      iexact HO
    iintro %_ ⟨Ht, Hx, Hi, Hr, Hb0, Hb1, Hvr, Hvi, Hv0, Hv1, Ho, HO⟩
    iapply (BIBase.Entails.of_eq hI1.symm)
    unfold tileHeld
    isplitr; · iexact Hmw
    isplitl [Ht Hx Hr Hb0 Hb1 Hvr Hvi Hv0 Hv1 HO]
    · isplitl [Ht]; · iexact Ht
      isplitl [Hx]; · iexact Hx
      isplitl [Hr]; · iexact Hr
      isplitl [Hb0]; · iexact Hb0
      isplitl [Hb1]; · iexact Hb1
      isplitl [Hvr]; · iexact Hvr
      isplitl [Hvi]; · iexact Hvi
      isplitl [Hv0]; · iexact Hv0
      isplitl [Hv1]; · iexact Hv1
      iexact HO
    isplitl [Hi]; · iexact Hi
    isplitl [Hd Ho]
    · isplitl [Ho] <;> iassumption
    iexact Hrest

end Wp

end Cert.Proof

end
-- ==== Proof.Offsets.lean ====
/-
  Where the rows and the chunks lie, in closed form: tile `(c, s)` takes the rows from `(2 s + c)` times its count on.
-/
module

public import proofs.«01_k».proof.Proof.Row

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

/-- The coordinates of tile `(c, s)` of the first call's grid, -/
def coords0 (c : Fin 2) (s : Fin 16) : grid0.Coords :=
  fun | 0 => c | 1 => s | ⟨_ + 2, h⟩ => absurd h (Nat.not_lt.2 (Nat.le_add_left _ _))
/-- of the second's. -/
def coords1 (c : Fin 2) (s : Fin 16) : grid1.Coords :=
  fun | 0 => c | 1 => s | ⟨_ + 2, h⟩ => absurd h (Nat.not_lt.2 (Nat.le_add_left _ _))

theorem chunkOffs_oi : ∀ (q : Fin 4) (u : Fin 8) (t : Fin k0_t2_loop.trips), (chunkOffs q).oi u t = ![q.val * 4096 + 128 * t.val + 16 * u.val] := by
  decide +kernel
theorem chunkOffs_oo : ∀ (q : Fin 4) (u : Fin 8) (t : Fin k0_t2_loop.trips), (chunkOffs q).oo u t = ![t.val, 16 * u.val] := by
  decide +kernel

theorem rowOffs0_cond : ∀ (c : Fin 2) (s : Fin 16) (t : Fin k0_t1_loop.trips), (rowOffs0 (coords0 c s) t).cond ≠ 1#1 →
    0 < t.val ∧ (0 + (8 * (2 * s.val + c.val)) + t.val) / 16 = (0 + (8 * (2 * s.val + c.val)) + (t.val - 1)) / 16 := by
  decide +kernel
theorem rowOffs0_o1 : ∀ (c : Fin 2) (s : Fin 16) (t : Fin k0_t1_loop.trips),
    (rowOffs0 (coords0 c s) t).o1 = ![(0 + (8 * (2 * s.val + c.val)) + t.val) / 16, 0] := by
  decide +kernel
theorem rowOffs0_o2 : ∀ (c : Fin 2) (s : Fin 16) (t : Fin k0_t1_loop.trips),
    (rowOffs0 (coords0 c s) t).o2 = ![(0 + (8 * (2 * s.val + c.val)) + t.val) / 16, (0 + (8 * (2 * s.val + c.val)) + t.val) % 16, 0] := by
  decide +kernel
theorem rowOffs0_p : ∀ (c : Fin 2) (s : Fin 16) (t : Fin k0_t1_loop.trips) (q : Fin 4),
    (rowOffs0 (coords0 c s) t).p q = ![(8 * (2 * s.val + c.val)) + t.val, 32 * q.val, 0] := by
  decide +kernel

theorem rowOffs1_cond : ∀ (c : Fin 2) (s : Fin 16) (t : Fin k1_t1_loop.trips), (rowOffs1 (coords1 c s) t).cond ≠ 1#1 →
    0 < t.val ∧ (256 + (5 * (2 * s.val + c.val)) + t.val) / 16 = (256 + (5 * (2 * s.val + c.val)) + (t.val - 1)) / 16 := by
  decide +kernel
theorem rowOffs1_o1 : ∀ (c : Fin 2) (s : Fin 16) (t : Fin k1_t1_loop.trips),
    (rowOffs1 (coords1 c s) t).o1 = ![(256 + (5 * (2 * s.val + c.val)) + t.val) / 16, 0] := by
  decide +kernel
theorem rowOffs1_o2 : ∀ (c : Fin 2) (s : Fin 16) (t : Fin k1_t1_loop.trips),
    (rowOffs1 (coords1 c s) t).o2 = ![(256 + (5 * (2 * s.val + c.val)) + t.val) / 16, (256 + (5 * (2 * s.val + c.val)) + t.val) % 16, 0] := by
  decide +kernel
theorem rowOffs1_p : ∀ (c : Fin 2) (s : Fin 16) (t : Fin k1_t1_loop.trips) (q : Fin 4),
    (rowOffs1 (coords1 c s) t).p q = ![(5 * (2 * s.val + c.val)) + t.val, 32 * q.val, 0] := by
  decide +kernel

end Cert.Proof

end
-- ==== Proof.Tile.lean ====
/-
  A tile's whole task, for either call: its rows gathered, its scratch and its semaphores as they were.
-/
module

public import proofs.«01_k».proof.Proof.RowTriple
public import proofs.«01_k».proof.Proof.Offsets

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

variable {N : ℕ}

/-! ## A tile's own buffers and cells, four of each named -/

theorem ownBufs_four (d : Dev nD) (c : Fin τ.nSC) (s : Fin τ.nSub) (a b e f : Ref sig .scVector)
    (ha : ((Proc.scVector c s).devRef a : DevRef τ sig).owner = .proc (.scVector c s)) (hb : ((Proc.scVector c s).devRef b : DevRef τ sig).owner = .proc (.scVector c s))
    (he : ((Proc.scVector c s).devRef e : DevRef τ sig).owner = .proc (.scVector c s)) (hf : ((Proc.scVector c s).devRef f : DevRef τ sig).owner = .proc (.scVector c s))
    (hn : [a, b, e, f].Nodup) :
    ∃ R : sProp 𝕄, SparseCore.Cfg.ownBufs (V d c s) = iprop((∃ g, (V d c s).loc a ↦{fullShare} g) ∗ (∃ g, (V d c s).loc b ↦{fullShare} g)
      ∗ (∃ g, (V d c s).loc e ↦{fullShare} g) ∗ (∃ g, (V d c s).loc f ↦{fullShare} g) ∗ R) := by
  simp only [List.nodup_cons, List.mem_cons, List.not_mem_nil, or_false, not_or, not_false_eq_true, List.nodup_nil, and_true] at hn
  obtain ⟨⟨hab, hae, haf⟩, ⟨hbe, hbf⟩, hef⟩ := hn
  apply Exists.intro
  unfold SparseCore.Cfg.ownBufs
  have inj : ∀ {x y : Ref sig .scVector}, x ≠ y → (Proc.scVector c s).devRef (τ := τ) x ≠ (Proc.scVector c s).devRef y := fun h e => h (Proc.devRef_injective _ e)
  refine (SparseCore.bigSep_erase' (SparseCore.Cfg.mem_ownRefs_of_owner ha)).trans ?_
  rw [SparseCore.bigSep_erase' (Finset.mem_erase.mpr ⟨inj (Ne.symm hab), SparseCore.Cfg.mem_ownRefs_of_owner hb⟩),
    SparseCore.bigSep_erase' (Finset.mem_erase.mpr ⟨inj (Ne.symm hbe), Finset.mem_erase.mpr ⟨inj (Ne.symm hae), SparseCore.Cfg.mem_ownRefs_of_owner he⟩⟩),
    SparseCore.bigSep_erase' (Finset.mem_erase.mpr ⟨inj (Ne.symm hef), Finset.mem_erase.mpr ⟨inj (Ne.symm hbf), Finset.mem_erase.mpr ⟨inj (Ne.symm haf),
      SparseCore.Cfg.mem_ownRefs_of_owner hf⟩⟩⟩)]

theorem ownSems0_four (d : Dev nD) (c : Fin τ.nSC) (s : Fin τ.nSub) (a b e f : DmaSem sig)
    (ha : (SemLoc.dma a : SemLoc sig).isScoped .scVector = true) (hb : (SemLoc.dma b : SemLoc sig).isScoped .scVector = true)
    (he : (SemLoc.dma e : SemLoc sig).isScoped .scVector = true) (hf : (SemLoc.dma f : SemLoc sig).isScoped .scVector = true)
    (hn : [a, b, e, f].Nodup) :
    ∃ R : sProp 𝕄, SparseCore.Cfg.ownSems0 (V d c s) = iprop(semVal (V d c s, .dma a) 0 ∗ semVal (V d c s, .dma b) 0
      ∗ semVal (V d c s, .dma e) 0 ∗ semVal (V d c s, .dma f) 0 ∗ R) := by
  simp only [List.nodup_cons, List.mem_cons, List.not_mem_nil, or_false, not_or, not_false_eq_true, List.nodup_nil, and_true] at hn
  obtain ⟨⟨hab, hae, haf⟩, ⟨hbe, hbf⟩, hef⟩ := hn
  apply Exists.intro
  unfold SparseCore.Cfg.ownSems0
  have inj : ∀ {x y : DmaSem sig}, x ≠ y → ((V d c s, .dma x) : GSem nD τ sig) ≠ (V d c s, .dma y) :=
    fun h e => h (SemLoc.dma.inj (Prod.mk.inj e).2)
  have mem : ∀ {x : DmaSem sig}, (SemLoc.dma x : SemLoc sig).isScoped .scVector = true → ((V d c s, .dma x) : GSem nD τ sig) ∈ SparseCore.Cfg.ownCells (V d c s) :=
    fun h => SparseCore.Cfg.mem_ownCells.mpr ⟨rfl, h⟩
  refine (SparseCore.bigSep_erase' (mem ha)).trans ?_
  rw [SparseCore.bigSep_erase' (Finset.mem_erase.mpr ⟨inj (Ne.symm hab), mem hb⟩),
    SparseCore.bigSep_erase' (Finset.mem_erase.mpr ⟨inj (Ne.symm hbe), Finset.mem_erase.mpr ⟨inj (Ne.symm hae), mem he⟩⟩),
    SparseCore.bigSep_erase' (Finset.mem_erase.mpr ⟨inj (Ne.symm hef), Finset.mem_erase.mpr ⟨inj (Ne.symm hbf), Finset.mem_erase.mpr ⟨inj (Ne.symm haf), mem hf⟩⟩⟩)]

/-! ## A tile's rows -/

/-- The elements of the `n` rows from `w` on. -/
def tset (out : Memref sig .scVector .hbm (SN N) .f32) (w n : ℕ) : Finset out.view.ty.Idx :=
  (Finset.univ.filter fun x : (SN N).Idx => w ≤ (x 0).val ∧ (x 0).val < w + n).map out.view.emb

theorem tset_split (d : Dev nD) (c : Fin τ.nSC) (s : Fin τ.nSub) (out : Memref sig .scVector .hbm (SN N) .f32) (w n : ℕ) (g : Buf (Elt F) (out.view.loc (V d c s))) :
    (out.view.loc (V d c s) ↦[tset out w n]{fullShare} g : sProp 𝕄)
      = bigSep Finset.univ fun t : Fin n => out.view.loc (V d c s) ↦[rset out (w + t.val)]{fullShare} g := by
  have e : tset out w n = (Finset.univ : Finset (Fin n)).biUnion fun t => rset out (w + t.val) := by
    ext x
    simp only [tset, rset, Finset.mem_map, Finset.mem_filter, Finset.mem_univ, true_and, Finset.mem_biUnion]
    constructor
    · rintro ⟨y, ⟨h1, h2⟩, rfl⟩
      exact ⟨⟨(y 0).val - w, by omega⟩, y, by show (y 0).val = w + ((y 0).val - w); omega, rfl⟩
    · rintro ⟨t, y, hy, rfl⟩
      have := t.isLt
      exact ⟨y, ⟨by omega, by omega⟩, rfl⟩
  have hd : ∀ t ∈ (Finset.univ : Finset (Fin n)), ∀ t' ∈ (Finset.univ : Finset (Fin n)), t ≠ t' → Disjoint (rset out (w + t.val)) (rset out (w + t'.val)) := by
    intro t _ t' _ hne
    unfold rset
    rw [Finset.disjoint_map]
    refine Finset.disjoint_filter.mpr fun x _ h h' => hne (Fin.ext (by omega))
  rw [e, pointsTo_biUnion _ _ hd]

section Tile

variable (d : Dev nD) (c : Fin τ.nSC) (s : Fin τ.nSub)
variable (tbl : Memref sig .scVector .hbm S26x16x100000 .f32) (xct : Memref sig .scVector .hbm S26x16384 .i32)
  (out : Memref sig .scVector .hbm (SN N) .f32) (trow : Memref sig .scVector .vmem S100000 .f32) (htrow : trow.IsWhole)
  (idxb : Memref sig .scVector .vmem S16384 .i32) (hidxb : idxb.IsWhole)
  (ob0 : Memref sig .scVector .vmem S32x128 .f32) (hob0 : ob0.IsWhole) (ob1 : Memref sig .scVector .vmem S32x128 .f32) (hob1 : ob1.IsWhole)
  (semr semi sem0 sem1 : DmaSems sig S_)

variable (O : CellTallies nD τ sig (HIx 2)) (W : Waits sig (HIx 2))

/-- The task: from shares of the table and of the indices and the tile's own rows of the output in any state, to those rows at the target. -/
theorem wp_task (hO : ∀ g, O g none = 0) {Rb Rs : sProp 𝕄}
    (hbufs : SparseCore.Cfg.ownBufs (V d c s) = iprop(anyBuf d c s trow ∗ anyBuf d c s idxb ∗ anyBuf d c s ob0 ∗ anyBuf d c s ob1 ∗ Rb))
    (hsems : SparseCore.Cfg.ownSems0 (V d c s) = iprop(semVal (V d c s, .dma semr.sem) 0 ∗ semVal (V d c s, .dma semi.sem) 0
      ∗ semVal (V d c s, .dma sem0.sem) 0 ∗ semVal (V d c s, .dma sem1.sem) 0 ∗ Rs))
    (l : Scf.Loop 32) (hl : l.OK) (r : Fin l.trips → RowOffs N) (os : Fin 4 → Offs) (w k0 : ℕ) (hN : w + l.trips ≤ N) (hK : k0 + N ≤ 416)
    (hoi : ∀ (q : Fin 4) u t, (os q).oi u t = ![q.val * 4096 + 128 * t.val + 16 * u.val]) (hoo : ∀ q u t, (os q).oo u t = ![t.val, 16 * u.val])
    (hc : ∀ t, (r t).cond ≠ 1#1 → 0 < t.val ∧ (k0 + w + t.val) / 16 = (k0 + w + (t.val - 1)) / 16)
    (h1 : ∀ t, (r t).cond = 1#1 → (r t).o1 = ![(k0 + w + t.val) / 16, 0]) (h2 : ∀ t, (r t).o2 = ![(k0 + w + t.val) / 16, (k0 + w + t.val) % 16, 0])
    (hp : ∀ t, ∀ q : Fin 4, (r t).p q = ![w + t.val, 32 * q.val, 0])
    (qt qx : PosShare TreeShare) (ft : Buf (Elt F) (tbl.view.loc (V d c s))) (fx : Buf (Elt F) (xct.view.loc (V d c s)))
    (hX : ∀ y, (xct.view.read (Elt F) fx y : BitVec 32).toNat < 100000) (tgt : Buf (Elt F) (out.view.loc (V d c s)))
    (ht : ∀ x, out.view.read (Elt F) tgt x = gval (tbl.view.read (Elt F) ft) (xct.view.read (Elt F) fx) k0 x) :
    (iprop(levAts (K (F := F)).L (K (F := F)).lev
        ∗ ((tbl.view.loc (V d c s) ↦{qt} ft) ∗ (xct.view.loc (V d c s) ↦{qx} fx) ∗ ∃ g, out.view.loc (V d c s) ↦[tset out w l.trips]{fullShare} g)
        ∗ scopedBufs (V d c s) ∗ scopedSems0 (V d c s) ∗ owes (V d c s) O W) : sProp 𝕄)
      ⊢ wp frame (wpE (defs₀ (F := F)) 𝒱₀ (V d c s) none) Set.univ
        ((Scf.Loop.for l hl ⟨⟩ fun t _ => rowProg c s tbl xct out trow htrow idxb hidxb ob0 hob0 ob1 hob1 semr semi sem0 sem1 (r t) os) >>= fun _ => pure (PUnit.unit : PUnit.{1})) fun _ =>
        iprop(((tbl.view.loc (V d c s) ↦{qt} ft) ∗ (xct.view.loc (V d c s) ↦{qx} fx) ∗ (out.view.loc (V d c s) ↦[tset out w l.trips]{fullShare} tgt))
          ∗ scopedBufs (V d c s) ∗ scopedSems0 (V d c s) ∗ ∃ W', ⌜∀ p ∈ W', p ∈ W ∨ p.2 = none⌝ ∗ owes (V d c s) O W') := by
  rw [(K (F := F)).scopedBufs_V facts d c s, SparseCore.Cfg.scopedSems0_V (Val := Elt F) d c s, hbufs, hsems]
  have hone : ∀ {g}, ∀ t ∈ (Finset.univ : Finset (Fin l.trips)), (out.view.loc (V d c s) ↦[rset out (w + t.val)]{fullShare} g : sProp 𝕄)
      ⊢ iprop(∃ g, out.view.loc (V d c s) ↦[rset out (w + t.val)]{fullShare} g) := by
    intro g t _
    iintro H; iexists g; iexact H
  have hall : ∀ g, (out.view.loc (V d c s) ↦[tset out w l.trips]{fullShare} g : sProp 𝕄)
      ⊢ (bigSep Finset.univ fun t : Fin l.trips => iprop(∃ g, out.view.loc (V d c s) ↦[rset out (w + t.val)]{fullShare} g) : sProp 𝕄) :=
    fun g => (BIBase.Entails.of_eq (tset_split d c s out w l.trips g)).trans (bigSep_mono (hone (g := g)))
  iintro ⟨#Hlv, ⟨Ht, Hx, Ho⟩, ⟨Hr, Hi, Hb0, Hb1, HRb⟩, ⟨Hvr, Hvi, Hv0, Hv1, HRs⟩, HO⟩
  ihave Hmw := ((K (F := F)).mayWaits_none (thr := V d c s) hO) $$ Hlv
  icases Ho with ⟨%g, Ho⟩
  ihave Ho := (hall g) $$ Ho
  iapply (wp_seq d c s (wp_rows d c s tbl xct out trow htrow idxb hidxb ob0 hob0 ob1 hob1 semr semi sem0 sem1 O W l hl r os w k0 hN hK hoi hoo hc h1 h2 hp qt qx ft fx hX tgt ht))
    $$ [Hmw Ht Hx Ho Hr Hi Hb0 Hb1 Hvr Hvi Hv0 Hv1 HO]
  · unfold tileHeld owed
    isplitl [Hmw]; · iexact Hmw
    isplitl [Ht Hx Hr Hb0 Hb1 Hvr Hvi Hv0 Hv1 HO]
    · isplitl [Ht]; · iexact Ht
      isplitl [Hx]; · iexact Hx
      isplitl [Hr]; · iexact Hr
      isplitl [Hb0]; · iexact Hb0
      isplitl [Hb1]; · iexact Hb1
      isplitl [Hvr]; · iexact Hvr
      isplitl [Hvi]; · iexact Hvi
      isplitl [Hv0]; · iexact Hv0
      isplitl [Hv1]; · iexact Hv1
      iexists W
      isplitr
      · ipureintro; exact fun p hp => .inl hp
      iexact HO
    isplitl [Hi] <;> iassumption
  unfold tileHeld owed
  iintro %_ ⟨⟨Ht, Hx, Hr, Hb0, Hb1, Hvr, Hvi, Hv0, Hv1, HO⟩, Hi, Ho⟩
  rw [Prog.pure_eq_ret, wp_ret]; imodintro
  isplitl [Ht Hx Ho]
  · isplitl [Ht]; · iexact Ht
    isplitl [Hx]; · iexact Hx
    iapply (BIBase.Entails.of_eq (tset_split d c s out w l.trips tgt).symm) $$ Ho
  isplitl [Hr Hi Hb0 Hb1 HRb]
  · isplitl [Hr]; · iexact Hr
    isplitl [Hi]; · iexact Hi
    isplitl [Hb0]; · iexact Hb0
    isplitl [Hb1] <;> iassumption
  isplitl [Hvr Hvi Hv0 Hv1 HRs]
  · isplitl [Hvr]; · iexact Hvr
    isplitl [Hvi]; · iexact Hvi
    isplitl [Hv0]; · iexact Hv0
    isplitl [Hv1] <;> iassumption
  iexact HO

end Tile

end Cert.Proof

end
-- ==== Proof.Bodies.lean ====
/-
  The two gather calls' bodies are loops of the one row program.
-/
module

public import proofs.«01_k».proof.Proof.Row
public import Idealize.ShloMosaic.Lib.Pipeline.Regions

@[expose] public section

noncomputable section

namespace Cert.Proof

open Cert.KernelIdeal Cert.KernelIdeal.Gen
open Idealize.ShloMosaic Idealize.SL.Sem

variable {F : FTy → Type} [FloatOps F]

section Call0

variable (i : grid0.Coords) (arg2 : Memref sig .scVector .hbm S26x16x100000 .f32) (harg2 : arg2.IsWhole) (arg3 : Memref sig .scVector .hbm S26x16384 .i32) (harg3 : arg3.IsWhole)
    (arg4 : Memref sig .scVector .hbm S256x128x128 .f32) (harg4 : arg4.IsWhole) (arg5 : Memref sig .scVector .vmem S100000 .f32) (harg5 : arg5.IsWhole)
    (arg6 : Memref sig .scVector .vmem S16384 .i32) (harg6 : arg6.IsWhole) (arg7 : Memref sig .scVector .vmem S32x128 .f32) (harg7 : arg7.IsWhole)
    (arg8 : Memref sig .scVector .vmem S32x128 .f32) (harg8 : arg8.IsWhole) (arg9 arg10 arg11 arg12 : DmaSems sig S_)

theorem part9_0 (v1 c0 c1 : BitVec 32) (t : Fin k0_t1_loop.trips) :
    k0_part9 (F := F) i arg2 harg2 arg3 harg3 arg4 harg4 arg5 harg5 arg6 harg6 arg7 harg7 arg8 harg8 arg9 arg10 arg11 arg12 v1 c0 c1 t
      = (fetchIdx ((i 0).castLE hcore0) ((i 1).castLE hsub0) arg3 arg6 harg6 arg10 (rowOffs0 i t) >>= fun _ => fetchTbl ((i 0).castLE hcore0) ((i 1).castLE hsub0) arg2 arg5 harg5 arg9 (rowOffs0 i t) >>= fun _ =>
          pure ⟨Scalar.addi (Scalar.addi 0#32 (Scalar.muli v1 8#32)) (Scf.iv c0 c1 t), 0#32, 1#32⟩) := by
  by_cases h : (rowOffs0 i t).cond = 1#1
  · unfold fetchIdx
    rw [dif_pos h]
    refine (dif_pos h).trans ?_
    chain_rfl
  · unfold fetchIdx
    rw [dif_neg h]
    refine (dif_neg h).trans ?_
    chain_rfl

theorem part10_0 (t : Fin k0_t1_loop.trips) (v6 c0 c1 : BitVec 32) :
    k0_part10 (F := F) i arg2 harg2 arg3 harg3 arg4 harg4 arg5 harg5 arg6 harg6 arg7 harg7 arg8 harg8 arg9 arg10 arg11 arg12 t v6 c0 c1
      = (chunk ((i 0).castLE hcore0) ((i 1).castLE hsub0) arg5 arg6 arg7 (chunkOffs 0) >>= fun _ => putStart ((i 0).castLE hcore0) ((i 1).castLE hsub0) arg4 arg7 harg7 arg11 ((rowOffs0 i t).p 0) ((rowOffs0 i t).hp 0) >>= fun _ =>
        chunk ((i 0).castLE hcore0) ((i 1).castLE hsub0) arg5 arg6 arg8 (chunkOffs 1) >>= fun _ => putStart ((i 0).castLE hcore0) ((i 1).castLE hsub0) arg4 arg8 harg8 arg12 ((rowOffs0 i t).p 1) ((rowOffs0 i t).hp 1) >>= fun _ =>
        putWait ((i 0).castLE hcore0) ((i 1).castLE hsub0) arg4 arg7 harg7 arg11 ((rowOffs0 i t).p 0) ((rowOffs0 i t).hp 0) >>= fun _ =>
        chunk ((i 0).castLE hcore0) ((i 1).castLE hsub0) arg5 arg6 arg7 (chunkOffs 2) >>= fun _ => putStart ((i 0).castLE hcore0) ((i 1).castLE hsub0) arg4 arg7 harg7 arg11 ((rowOffs0 i t).p 2) ((rowOffs0 i t).hp 2) >>= fun _ =>
        pure ⟨⟩) := by
  chain_rfl

/-- The call's body is the loop of its rows. -/
theorem cc0_eq :
    cc0__sc_gather_body (F := F) i arg2 harg2 arg3 harg3 arg4 harg4 arg5 harg5 arg6 harg6 arg7 harg7 arg8 harg8 arg9 arg10 arg11 arg12
      = (Scf.Loop.for k0_t1_loop k0_t1_ok ⟨⟩ fun t _ => rowProg ((i 0).castLE hcore0) ((i 1).castLE hsub0) arg2 arg3 arg4 arg5 harg5 arg6 harg6 arg7 harg7 arg8 harg8 arg9 arg10 arg11 arg12 (rowOffs0 i t) chunkOffs) >>= fun _ => pure ⟨⟩ := by
  unfold cc0__sc_gather_body
  refine congrArg (fun b => Scf.Loop.for k0_t1_loop k0_t1_ok PUnit.unit b >>= fun _ => pure PUnit.unit) (funext fun t => funext fun _ => ?_)
  simp only [part9_0, part10_0]
  unfold rowProg puts
  simp only [bind_assoc, pure_bind]
  chain_rfl

end Call0

section Call1

variable (i : grid1.Coords) (arg2 : Memref sig .scVector .hbm S26x16x100000 .f32) (harg2 : arg2.IsWhole) (arg3 : Memref sig .scVector .hbm S26x16384 .i32) (harg3 : arg3.IsWhole)
    (arg4 : Memref sig .scVector .hbm S160x128x128 .f32) (harg4 : arg4.IsWhole) (arg5 : Memref sig .scVector .vmem S100000 .f32) (harg5 : arg5.IsWhole)
    (arg6 : Memref sig .scVector .vmem S16384 .i32) (harg6 : arg6.IsWhole) (arg7 : Memref sig .scVector .vmem S32x128 .f32) (harg7 : arg7.IsWhole)
    (arg8 : Memref sig .scVector .vmem S32x128 .f32) (harg8 : arg8.IsWhole) (arg9 arg10 arg11 arg12 : DmaSems sig S_)

theorem part9_1 (v1 c0 c1 : BitVec 32) (t : Fin k1_t1_loop.trips) :
    k1_part9 (F := F) i arg2 harg2 arg3 harg3 arg4 harg4 arg5 harg5 arg6 harg6 arg7 harg7 arg8 harg8 arg9 arg10 arg11 arg12 v1 c0 c1 t
      = (fetchIdx ((i 0).castLE hcore1) ((i 1).castLE hsub1) arg3 arg6 harg6 arg10 (rowOffs1 i t) >>= fun _ => fetchTbl ((i 0).castLE hcore1) ((i 1).castLE hsub1) arg2 arg5 harg5 arg9 (rowOffs1 i t) >>= fun _ =>
          pure ⟨Scalar.addi (Scalar.addi 256#32 (Scalar.muli v1 5#32)) (Scf.iv c0 c1 t), 0#32, 1#32⟩) := by
  by_cases h : (rowOffs1 i t).cond = 1#1
  · unfold fetchIdx
    rw [dif_pos h]
    refine (dif_pos h).trans ?_
    chain_rfl
  · unfold fetchIdx
    rw [dif_neg h]
    refine (dif_neg h).trans ?_
    chain_rfl

theorem part10_1 (t : Fin k1_t1_loop.trips) (v6 c0 c1 : BitVec 32) :
    k1_part10 (F := F) i arg2 harg2 arg3 harg3 arg4 harg4 arg5 harg5 arg6 harg6 arg7 harg7 arg8 harg8 arg9 arg10 arg11 arg12 t v6 c0 c1
      = (chunk ((i 0).castLE hcore1) ((i 1).castLE hsub1) arg5 arg6 arg7 (chunkOffs 0) >>= fun _ => putStart ((i 0).castLE hcore1) ((i 1).castLE hsub1) arg4 arg7 harg7 arg11 ((rowOffs1 i t).p 0) ((rowOffs1 i t).hp 0) >>= fun _ =>
        chunk ((i 0).castLE hcore1) ((i 1).castLE hsub1) arg5 arg6 arg8 (chunkOffs 1) >>= fun _ => putStart ((i 0).castLE hcore1) ((i 1).castLE hsub1) arg4 arg8 harg8 arg12 ((rowOffs1 i t).p 1) ((rowOffs1 i t).hp 1) >>= fun _ =>
        putWait ((i 0).castLE hcore1) ((i 1).castLE hsub1) arg4 arg7 harg7 arg11 ((rowOffs1 i t).p 0) ((rowOffs1 i t).hp 0) >>= fun _ =>
        chunk ((i 0).castLE hcore1) ((i 1).castLE hsub1) arg5 arg6 arg7 (chunkOffs 2) >>= fun _ => putStart ((i 0).castLE hcore1) ((i 1).castLE hsub1) arg4 arg7 harg7 arg11 ((rowOffs1 i t).p 2) ((rowOffs1 i t).hp 2) >>= fun _ =>
        pure ⟨⟩) := by
  chain_rfl

/-- The call's body is the loop of its rows. -/
theorem cc1_eq :
    cc1__sc_gather_body (F := F) i arg2 harg2 arg3 harg3 arg4 harg4 arg5 harg5 arg6 harg6 arg7 harg7 arg8 harg8 arg9 arg10 arg11 arg12
      = (Scf.Loop.for k1_t1_loop k1_t1_ok ⟨⟩ fun t _ => rowProg ((i 0).castLE hcore1) ((i 1).castLE hsub1) arg2 arg3 arg4 arg5 harg5 arg6 harg6 arg7 harg7 arg8 harg8 arg9 arg10 arg11 arg12 (rowOffs1 i t) chunkOffs) >>= fun _ => pure ⟨⟩ := by
  unfold cc1__sc_gather_body
  refine congrArg (fun b => Scf.Loop.for k1_t1_loop k1_t1_ok PUnit.unit b >>= fun _ => pure PUnit.unit) (funext fun t => funext fun _ => ?_)
  simp only [part9_1, part10_1]
  unfold rowProg puts
  simp only [bind_assoc, pure_bind]
  chain_rfl

end Call1

end Cert.Proof

end
-- ==== Proof.Calls.lean ====
/-
  The two calls: what each hands its tiles and gets back, and the obligation of a tile.
-/
module

public import proofs.«01_k».proof.Proof.Tile
public import proofs.«01_k».proof.Proof.Bodies

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

variable (m : (ℓ : Loc nD τ sig) → Buf (Elt F) ℓ)

/-! ## The arrays the calls work on -/

abbrev tLoc (d : Dev nD) : Loc nD τ sig := (SparseCore.T d : Thread nD τ).loc main_v0
abbrev xLoc (d : Dev nD) : Loc nD τ sig := (SparseCore.T d : Thread nD τ).loc main_v1
abbrev oLoc0 (d : Dev nD) : Loc nD τ sig := (SparseCore.T d : Thread nD τ).loc main_v2
abbrev oLoc1 (d : Dev nD) : Loc nD τ sig := (SparseCore.T d : Thread nD τ).loc main_v3

/-- The embedding tables as `@main` transposes them. -/
def tV (d : Dev nD) : S26x16x100000.Idx → F .f32 :=
  transpose S26x16x100000 [0, 2, 1] (show S26x100000x16.Idx → F .f32 from m ((SparseCore.T d : Thread nD τ).loc main_arg2)) transposes_S26x100000x16_S26x16x100000_0_2_1
/-- The categorical indices as `@main` transposes them. -/
def xV (d : Dev nD) : S26x16384.Idx → BitVec 32 :=
  transpose S26x16384 [1, 0] (show S16384x26.Idx → BitVec 32 from m ((SparseCore.T d : Thread nD τ).loc main_arg0)) transposes_S16384x26_S26x16384_1_0
/-- What the first call leaves, -/
def oV0 (d : Dev nD) : (SN 256).Idx → F .f32 := gval (tV m d) (xV m d) 0
/-- and the second. -/
def oV1 (d : Dev nD) : (SN 160).Idx → F .f32 := gval (tV m d) (xV m d) 256

/-- The first row of a tile in either call. -/
def w0 (c : Fin 2) (i : Fin 16) : ℕ := 8 * (2 * i.val + c.val)
def w1 (c : Fin 2) (i : Fin 16) : ℕ := 5 * (2 * i.val + c.val)

abbrev tM : Memref sig .scVector .hbm S26x16x100000 .f32 := Memref.whole main_v0_scv
abbrev xM : Memref sig .scVector .hbm S26x16384 .i32 := Memref.whole main_v1_scv
abbrev oM0 : Memref sig .scVector .hbm (SN 256) .f32 := Memref.whole main_v2_scv
abbrev oM1 : Memref sig .scVector .hbm (SN 160) .f32 := Memref.whole main_v3_scv

/-- The rows of a tile in either call, as a set, -/
abbrev tset0 (c : Fin 2) (i : Fin 16) : Finset (SN 256).Idx := tset oM0 (w0 c i) k0_t1_loop.trips
abbrev tset1 (c : Fin 2) (i : Fin 16) : Finset (SN 160).Idx := tset oM1 (w1 c i) k1_t1_loop.trips

/-- and owned at given contents. -/
def rows0 (d : Dev nD) (c : Fin 2) (i : Fin 16) (g : (SN 256).Idx → F .f32) : sProp 𝕄 := oLoc0 d ↦[tset0 c i]{fullShare} g
def rows1 (d : Dev nD) (c : Fin 2) (i : Fin 16) (g : (SN 160).Idx → F .f32) : sProp 𝕄 := oLoc1 d ↦[tset1 c i]{fullShare} g

/-! ## What goes to a core and to a tile -/

/-- A core's part: its share of the two arrays read, its tiles' rows. -/
def coreP (d : Dev nD) (c : Fin 2) (R : Fin 16 → sProp 𝕄) : sProp 𝕄 :=
  iprop((tLoc d ↦{Transfers.shareTok fullShare 2 c} tV m d) ∗ (xLoc d ↦{Transfers.shareTok fullShare 2 c} xV m d) ∗ bigSep Finset.univ R)
/-- A tile's part. -/
def tileP (d : Dev nD) (c : Fin 2) (i : Fin 16) (R : sProp 𝕄) : sProp 𝕄 :=
  iprop((tLoc d ↦{Transfers.shareTok (Transfers.shareTok fullShare 2 c) 16 i} tV m d) ∗ (xLoc d ↦{Transfers.shareTok (Transfers.shareTok fullShare 2 c) 16 i} xV m d) ∗ R)

instance rows0_storable (d : Dev nD) (c : Fin 2) (i : Fin 16) (g : (SN 256).Idx → F .f32) : BI.Storable (upEmb : UEmb _ 𝕄) (rows0 d c i g) := by unfold rows0; infer_instance
instance rows1_storable (d : Dev nD) (c : Fin 2) (i : Fin 16) (g : (SN 160).Idx → F .f32) : BI.Storable (upEmb : UEmb _ 𝕄) (rows1 d c i g) := by unfold rows1; infer_instance
instance coreP_storable (d : Dev nD) (c : Fin 2) (R : Fin 16 → sProp 𝕄) [∀ i, BI.Storable (upEmb : UEmb _ 𝕄) (R i)] : BI.Storable (upEmb : UEmb _ 𝕄) (coreP m d c R) := by unfold coreP; infer_instance
instance tileP_storable (d : Dev nD) (c : Fin 2) (i : Fin 16) (R : sProp 𝕄) [BI.Storable (upEmb : UEmb _ 𝕄) R] : BI.Storable (upEmb : UEmb _ 𝕄) (tileP m d c i R) := by unfold tileP; infer_instance

/-- A core deals its part among its tiles and collects what they bring back. -/
theorem deal (d : Dev nD) (c : Fin 2) (R R' : Fin 16 → sProp 𝕄) :
    coreP m d c R ⊢ iprop((bigSep Finset.univ fun i => tileP m d c i (R i)) ∗ ((bigSep Finset.univ fun i => tileP m d c i (R' i)) -∗ coreP m d c R')) := by
  unfold coreP tileP
  rw [bigSep_sep', bigSep_sep', bigSep_sep', bigSep_sep']
  iintro ⟨Ht, Hx, HR⟩
  ihave Ht := (Transfers.pointsTo_toks_split _ 16) $$ Ht
  ihave Hx := (Transfers.pointsTo_toks_split _ 16) $$ Hx
  icases Ht with ⟨Ht0, Ht⟩
  icases Hx with ⟨Hx0, Hx⟩
  isplitl [Ht Hx HR]
  · isplitl [Ht]; · iexact Ht
    isplitl [Hx]; · iexact Hx
    iexact HR
  iintro ⟨Ht, Hx, HR⟩
  ihave Ht := (Transfers.pointsTo_toks_join _ 16) $$ [Ht0 Ht]
  · isplitl [Ht0] <;> iassumption
  ihave Hx := (Transfers.pointsTo_toks_join _ 16) $$ [Hx0 Hx]
  · isplitl [Hx0] <;> iassumption
  isplitl [Ht]; · iexact Ht
  isplitl [Hx]; · iexact Hx
  iexact HR

theorem nCore_eq (q : Fin 2) : (K (F := F)).nCore q = 2 := match q with | 0 => rfl | 1 => rfl
theorem nSub_eq (q : Fin 2) : (K (F := F)).nSub q = 16 := match q with | 0 => rfl | 1 => rfl

/-- The rows of a tile in call `q`, at any contents, -/
def rowsAny (q : Fin 2) (d : Dev nD) (c : Fin 2) (i : Fin 16) : sProp 𝕄 :=
  match q with
  | 0 => iprop(∃ g, rows0 d c i g)
  | 1 => iprop(∃ g, rows1 d c i g)
/-- and as the call leaves them. -/
def rowsDone (q : Fin 2) (d : Dev nD) (c : Fin 2) (i : Fin 16) : sProp 𝕄 :=
  match q with
  | 0 => rows0 d c i (oV0 m d)
  | 1 => rows1 d c i (oV1 m d)

instance rowsAny_storable (q : Fin 2) (d : Dev nD) (c : Fin 2) (i : Fin 16) : BI.Storable (upEmb : UEmb _ 𝕄) (rowsAny (F := F) q d c i) := by
  unfold rowsAny; split <;> infer_instance
instance rowsDone_storable (q : Fin 2) (d : Dev nD) (c : Fin 2) (i : Fin 16) : BI.Storable (upEmb : UEmb _ 𝕄) (rowsDone m q d c i) := by
  unfold rowsDone; split <;> infer_instance

/-- What the handshakes of the two calls carry. -/
def P : (K (F := F)).Pay (nD := nD) (Val := Elt F) (Name := ℕ) (U := UU) where
  st q d c := coreP m d (Fin.cast (nCore_eq q) c) (rowsAny q d (Fin.cast (nCore_eq q) c))
  dn q d c := coreP m d (Fin.cast (nCore_eq q) c) (rowsDone m q d (Fin.cast (nCore_eq q) c))
  go q d c i := tileP m d (Fin.cast (nCore_eq q) c) (Fin.cast (nSub_eq q) i) (rowsAny q d (Fin.cast (nCore_eq q) c) (Fin.cast (nSub_eq q) i))
  td q d c i := tileP m d (Fin.cast (nCore_eq q) c) (Fin.cast (nSub_eq q) i) (rowsDone m q d (Fin.cast (nCore_eq q) c) (Fin.cast (nSub_eq q) i))
  x _ _ := iprop(emp)

instance P_storable : (P (F := F) m).IsStorable where
  st q d c := coreP_storable m d _ _
  dn q d c := coreP_storable m d _ _
  go q d c i := tileP_storable m d _ _ _
  td q d c i := tileP_storable m d _ _ _

/-- The operands of a call split among its tasks, their results joined. -/
theorem vecSplit (q : Fin 2) : (K (F := F)).VecSplit' (P m) q := by
  intro d c
  show coreP m d (Fin.cast (nCore_eq q) c) (rowsAny q d (Fin.cast (nCore_eq q) c)) ⊢ |={Set.univ}=> iprop(
      (bigSep Finset.univ fun i : Fin ((K (F := F)).nSub q) =>
        tileP m d (Fin.cast (nCore_eq q) c) (Fin.cast (nSub_eq q) i) (rowsAny q d (Fin.cast (nCore_eq q) c) (Fin.cast (nSub_eq q) i)))
      ∗ ((bigSep Finset.univ fun i : Fin ((K (F := F)).nSub q) =>
          tileP m d (Fin.cast (nCore_eq q) c) (Fin.cast (nSub_eq q) i) (rowsDone m q d (Fin.cast (nCore_eq q) c) (Fin.cast (nSub_eq q) i)))
        -∗ coreP m d (Fin.cast (nCore_eq q) c) (rowsDone m q d (Fin.cast (nCore_eq q) c))))
  generalize Fin.cast (nCore_eq q) c = c
  have tasks : ∀ Φ : Fin 16 → sProp 𝕄, (bigSep Finset.univ fun i : Fin ((K (F := F)).nSub q) => Φ (Fin.cast (nSub_eq q) i)) = bigSep Finset.univ Φ := by
    intro Φ
    match q with
    | 0 => rfl
    | 1 => rfl
  rw [tasks fun i => tileP m d c i (rowsAny q d c i), tasks fun i => tileP m d c i (rowsDone m q d c i)]
  iintro H; imodintro
  iapply (deal m d c _ _) $$ H

/-! ## A tile's task in either call -/

/-- Every index, as transposed, names a row of a table. -/
def PreOK : Prop := ∀ (d : Dev nD) (y : S26x16384.Idx), (xV m d y).toNat < 100000

/-- What a task gives back, with the calls' own protocol none. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ emp ∗ B) ⊢ iprop(A ∗ B) := by
  iintro ⟨HA, -, HB⟩
  isplitl [HA] <;> iassumption

theorem defs_body0 (c : Fin τ.nSC) (s : Fin τ.nSub) :
    defs₀ (F := F) (.scVector c s) 0 ()
      = SparseCore.onTile hcore0 hsub0 (fun c s => cc0__sc_gather_body (coords0 c s)
          tM (Memref.isWhole_whole _) xM (Memref.isWhole_whole _) oM0 (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) ⟨⟩ c s := rfl

theorem task0 (hpre : PreOK m) (d : Dev nD) (c : Fin 2) (i : Fin 16) (O : CellTallies nD τ sig (HIx 2)) (W : Waits sig (HIx 2)) (hO : ∀ g, O g none = 0) :
    (iprop(levAts (K (F := F)).L (K (F := F)).lev ∗ tileP m d c i (rowsAny 0 d c i)
        ∗ scopedBufs (V d (c.castLE hcore0) (i.castLE hsub0)) ∗ scopedSems0 (V d (c.castLE hcore0) (i.castLE hsub0)) ∗ owes (V d (c.castLE hcore0) (i.castLE hsub0)) O W) : sProp 𝕄)
      ⊢ wp frame (wpE (defs₀ (F := F)) 𝒱₀ (V d (c.castLE hcore0) (i.castLE hsub0)) none) Set.univ
        (cc0__sc_gather_body (coords0 c i)
          tM (Memref.isWhole_whole _) xM (Memref.isWhole_whole _) oM0 (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) fun _ =>
        iprop(tileP m d c i (rowsDone m 0 d c i)
          ∗ scopedBufs (V d (c.castLE hcore0) (i.castLE hsub0)) ∗ scopedSems0 (V d (c.castLE hcore0) (i.castLE hsub0))
          ∗ ∃ W', ⌜∀ p ∈ W', p ∈ W ∨ p.2 = none⌝ ∗ owes (V d (c.castLE hcore0) (i.castLE hsub0)) O W') := by
  obtain ⟨Rb, hb⟩ := ownBufs_four (F := F) d (c.castLE hcore0) (i.castLE hsub0) cc0_scratch0 cc0_scratch1 cc0_scratch2 cc0_scratch3 rfl rfl rfl rfl (by decide)
  obtain ⟨Rs, hs⟩ := ownSems0_four (F := F) d (c.castLE hcore0) (i.castLE hsub0) cc0_scratch4.sem cc0_scratch5.sem cc0_scratch6.sem cc0_scratch7.sem
    (by decide) (by decide) (by decide) (by decide) (by decide)
  rw [cc0_eq]
  have hN : w0 c i + k0_t1_loop.trips ≤ 256 := by
    have := c.isLt; have := i.isLt; have : k0_t1_loop.trips = 8 := by decide
    unfold w0; omega
  have hX : ∀ y, (xM.view.read (Elt F) (xV m d) y : BitVec 32).toNat < 100000 := hpre d
  have ht : ∀ x, oM0.view.read (Elt F) (oV0 m d) x = gval (tM.view.read (Elt F) (tV m d)) (xM.view.read (Elt F) (xV m d)) 0 x := fun _ => rfl
  have h := wp_task d (c.castLE hcore0) (i.castLE hsub0) tM xM oM0 (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 O W hO hb hs k0_t1_loop k0_t1_ok (rowOffs0 (coords0 c i)) chunkOffs (w0 c i) 0
    hN (by decide) chunkOffs_oi chunkOffs_oo
    (rowOffs0_cond c i) (fun t _ => rowOffs0_o1 c i t) (rowOffs0_o2 c i) (rowOffs0_p c i)
    (Transfers.shareTok (Transfers.shareTok fullShare 2 c) 16 i) (Transfers.shareTok (Transfers.shareTok fullShare 2 c) 16 i) (tV m d) (xV m d) hX (oV0 m d) ht
  exact h

theorem tileObl0 (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs_body0]; simp only [SparseCore.onTile, hc, and_self, ↓reduceDIte]
  have h := (task0 m hpre d (Fin.cast (nCore_eq 0) c) (Fin.cast (nSub_eq 0) i) O W hO).trans (wp_mono frame _ _ fun _ => obl_post (q := 0))
  exact drop_emp.trans h

theorem defs_body1 (c : Fin τ.nSC) (s : Fin τ.nSub) :
    defs₀ (F := F) (.scVector c s) 1 ()
      = SparseCore.onTile hcore1 hsub1 (fun c s => cc1__sc_gather_body (coords1 c s)
          tM (Memref.isWhole_whole _) xM (Memref.isWhole_whole _) oM1 (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7) ⟨⟩ c s := rfl

theorem task1 (hpre : PreOK m) (d : Dev nD) (c : Fin 2) (i : Fin 16) (O : CellTallies nD τ sig (HIx 2)) (W : Waits sig (HIx 2)) (hO : ∀ g, O g none = 0) :
    (iprop(levAts (K (F := F)).L (K (F := F)).lev ∗ tileP m d c i (rowsAny 1 d c i)
        ∗ scopedBufs (V d (c.castLE hcore1) (i.castLE hsub1)) ∗ scopedSems0 (V d (c.castLE hcore1) (i.castLE hsub1)) ∗ owes (V d (c.castLE hcore1) (i.castLE hsub1)) O W) : sProp 𝕄)
      ⊢ wp frame (wpE (defs₀ (F := F)) 𝒱₀ (V d (c.castLE hcore1) (i.castLE hsub1)) none) Set.univ
        (cc1__sc_gather_body (coords1 c i)
          tM (Memref.isWhole_whole _) xM (Memref.isWhole_whole _) oM1 (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scratch6 cc1_scratch7) fun _ =>
        iprop(tileP m d c i (rowsDone m 1 d c i)
          ∗ scopedBufs (V d (c.castLE hcore1) (i.castLE hsub1)) ∗ scopedSems0 (V d (c.castLE hcore1) (i.castLE hsub1))
          ∗ ∃ W', ⌜∀ p ∈ W', p ∈ W ∨ p.2 = none⌝ ∗ owes (V d (c.castLE hcore1) (i.castLE hsub1)) O W') := by
  obtain ⟨Rb, hb⟩ := ownBufs_four (F := F) d (c.castLE hcore1) (i.castLE hsub1) cc1_scratch0 cc1_scratch1 cc1_scratch2 cc1_scratch3 rfl rfl rfl rfl (by decide)
  obtain ⟨Rs, hs⟩ := ownSems0_four (F := F) d (c.castLE hcore1) (i.castLE hsub1) cc1_scratch4.sem cc1_scratch5.sem cc1_scratch6.sem cc1_scratch7.sem
    (by decide) (by decide) (by decide) (by decide) (by decide)
  rw [cc1_eq]
  have hN : w1 c i + k1_t1_loop.trips ≤ 160 := by
    have := c.isLt; have := i.isLt; have : k1_t1_loop.trips = 5 := by decide
    unfold w1; omega
  have hX : ∀ y, (xM.view.read (Elt F) (xV m d) y : BitVec 32).toNat < 100000 := hpre d
  have ht : ∀ x, oM1.view.read (Elt F) (oV1 m d) x = gval (tM.view.read (Elt F) (tV m d)) (xM.view.read (Elt F) (xV m d)) 256 x := fun _ => rfl
  have h := wp_task d (c.castLE hcore1) (i.castLE hsub1) tM xM oM1 (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scratch6 cc1_scratch7 O W hO hb hs k1_t1_loop k1_t1_ok (rowOffs1 (coords1 c i)) chunkOffs (w1 c i) 256
    hN (by decide) chunkOffs_oi chunkOffs_oo
    (rowOffs1_cond c i) (fun t _ => rowOffs1_o1 c i t) (rowOffs1_o2 c i) (rowOffs1_p c i)
    (Transfers.shareTok (Transfers.shareTok fullShare 2 c) 16 i) (Transfers.shareTok (Transfers.shareTok fullShare 2 c) 16 i) (tV m d) (xV m d) hX (oV1 m d) ht
  exact h

theorem tileObl1 (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs_body1]; simp only [SparseCore.onTile, hc, and_self, ↓reduceDIte]
  have h := (task1 m hpre d (Fin.cast (nCore_eq 1) c) (Fin.cast (nSub_eq 1) i) O W hO).trans (wp_mono frame _ _ fun _ => obl_post (q := 1))
  exact drop_emp.trans h

end Cert.Proof

end
-- ==== Proof.Operands.lean ====
/-
  The operands of a call on the TensorCore's side: the two arrays read are shared out to the two cores, the output
  array is cut into the tiles' rows, and both come back whole.
-/
module

public import proofs.«01_k».proof.Proof.Calls

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

variable (m : (ℓ : Loc nD τ sig) → Buf (Elt F) ℓ)

/-! ## The rows of all tiles -/

section Rows

variable {N : ℕ} (out : Memref sig .scVector .hbm (SN N) .f32) (n : ℕ)

theorem tset_cover (hN : N = n * 32) (hout : out.IsWhole) :
    ((Finset.univ : Finset (Fin 2 × Fin 16)).biUnion fun p => tset out (n * (2 * p.2.val + p.1.val)) n) = Finset.univ := by
  refine Finset.eq_univ_of_forall fun x => ?_
  obtain ⟨y, rfl⟩ : ∃ y, out.view.emb y = x := by
    have h : x ∈ out.view.set := by rw [hout.set_eq_univ]; exact Finset.mem_univ _
    obtain ⟨y, -, hy⟩ := Finset.mem_map.mp h
    exact ⟨y, hy⟩
  have hy : (y 0).val < N := (y 0).isLt
  have hn : 0 < n := by
    rcases Nat.eq_zero_or_pos n with h | h
    · subst h; omega
    · exact h
  have hq : (y 0).val / n < 32 := by rw [Nat.div_lt_iff_lt_mul hn, Nat.mul_comm]; omega
  have h1 : n * ((y 0).val / n) + (y 0).val % n = (y 0).val := Nat.div_add_mod _ _
  have h2 : (y 0).val % n < n := Nat.mod_lt _ hn
  refine Finset.mem_biUnion.mpr ⟨(⟨(y 0).val / n % 2, by omega⟩, ⟨(y 0).val / n / 2, by omega⟩), Finset.mem_univ _, ?_⟩
  refine Finset.mem_map.mpr ⟨y, Finset.mem_filter.mpr ⟨Finset.mem_univ _, ?_⟩, rfl⟩
  have e : 2 * ((y 0).val / n / 2) + (y 0).val / n % 2 = (y 0).val / n := by omega
  simp only [e]
  omega

theorem tset_disjoint (p p' : Fin 2 × Fin 16) (h : p ≠ p') :
    Disjoint (tset out (n * (2 * p.2.val + p.1.val)) n) (tset out (n * (2 * p'.2.val + p'.1.val)) n) := by
  unfold tset
  rw [Finset.disjoint_map]
  refine Finset.disjoint_filter.mpr fun x _ h1 h2 => h ?_
  have hp := p.1.isLt
  have hp' := p'.1.isLt
  have e : 2 * p.2.val + p.1.val = 2 * p'.2.val + p'.1.val := by
    rcases Nat.lt_trichotomy (2 * p.2.val + p.1.val) (2 * p'.2.val + p'.1.val) with hl | hl | hl
    · have := Nat.mul_le_mul_left n (Nat.succ_le_of_lt hl)
      rw [Nat.mul_succ] at this; omega
    · exact hl
    · have := Nat.mul_le_mul_left n (Nat.succ_le_of_lt hl)
      rw [Nat.mul_succ] at this; omega
  exact Prod.ext (Fin.ext (by omega)) (Fin.ext (by omega))

end Rows

theorem rows0_eq (d : Dev nD) (g : (SN 256).Idx → F .f32) :
    (oLoc0 d ↦{fullShare} g : sProp 𝕄) = bigSep Finset.univ fun c : Fin 2 => bigSep Finset.univ fun i : Fin 16 => rows0 d c i g := by
  have hc := tset_cover oM0 8 (by decide) (Memref.isWhole_whole _)
  have h := pointsTo_biUnion (Ix := HIx 2) (Name := ℕ) (U := UU) (Lvl := ℕ) (Val := Elt F) (ℓ := oLoc0 d) (q := fullShare) (f := g) (Finset.univ : Finset (Fin 2 × Fin 16))
    (fun p => tset oM0 (8 * (2 * p.2.val + p.1.val)) 8) (fun p _ p' _ hp => tset_disjoint oM0 8 p p' hp)
  rw [hc] at h
  exact h.trans (bigSep_univ_prod _)

theorem rows1_eq (d : Dev nD) (g : (SN 160).Idx → F .f32) :
    (oLoc1 d ↦{fullShare} g : sProp 𝕄) = bigSep Finset.univ fun c : Fin 2 => bigSep Finset.univ fun i : Fin 16 => rows1 d c i g := by
  have hc := tset_cover oM1 5 (by decide) (Memref.isWhole_whole _)
  have h := pointsTo_biUnion (Ix := HIx 2) (Name := ℕ) (U := UU) (Lvl := ℕ) (Val := Elt F) (ℓ := oLoc1 d) (q := fullShare) (f := g) (Finset.univ : Finset (Fin 2 × Fin 16))
    (fun p => tset oM1 (5 * (2 * p.2.val + p.1.val)) 5) (fun p _ p' _ hp => tset_disjoint oM1 5 p p' hp)
  rw [hc] at h
  exact h.trans (bigSep_univ_prod _)

/-! ## To the cores and back -/

/-- The TensorCore deals a call's operands among the cores and collects what they bring back. -/
theorem dealCores (d : Dev nD) (R R' : Fin 2 → Fin 16 → sProp 𝕄) :
    iprop((tLoc d ↦{fullShare} tV m d) ∗ (xLoc d ↦{fullShare} xV m d) ∗ bigSep Finset.univ fun c : Fin 2 => bigSep Finset.univ (R c))
      ⊢ iprop((bigSep Finset.univ fun c => coreP m d c (R c))
          ∗ ((bigSep Finset.univ fun c => coreP m d c (R' c))
            -∗ (tLoc d ↦{fullShare} tV m d) ∗ (xLoc d ↦{fullShare} xV m d) ∗ bigSep Finset.univ fun c : Fin 2 => bigSep Finset.univ (R' c))) := by
  unfold coreP
  rw [bigSep_sep', bigSep_sep', bigSep_sep', bigSep_sep']
  iintro ⟨Ht, Hx, HR⟩
  ihave Ht := (Transfers.pointsTo_toks_split _ 2) $$ Ht
  ihave Hx := (Transfers.pointsTo_toks_split _ 2) $$ Hx
  icases Ht with ⟨Ht0, Ht⟩
  icases Hx with ⟨Hx0, Hx⟩
  isplitl [Ht Hx HR]
  · isplitl [Ht]; · iexact Ht
    isplitl [Hx]; · iexact Hx
    iexact HR
  iintro ⟨Ht, Hx, HR⟩
  ihave Ht := (Transfers.pointsTo_toks_join _ 2) $$ [Ht0 Ht]
  · isplitl [Ht0] <;> iassumption
  ihave Hx := (Transfers.pointsTo_toks_join _ 2) $$ [Hx0 Hx]
  · isplitl [Hx0] <;> iassumption
  isplitl [Ht]; · iexact Ht
  isplitl [Hx]; · iexact Hx
  iexact HR

/-- An output array of a call, whole: at contents of no interest before the call, as the call leaves it after. -/
def outAny (q : Fin 2) (d : Dev nD) : sProp 𝕄 :=
  match q with
  | 0 => iprop(∃ g, oLoc0 d ↦{fullShare} (g : (SN 256).Idx → F .f32))
  | 1 => iprop(∃ g, oLoc1 d ↦{fullShare} (g : (SN 160).Idx → F .f32))
def outDone (q : Fin 2) (d : Dev nD) : sProp 𝕄 :=
  match q with
  | 0 => oLoc0 d ↦{fullShare} oV0 m d
  | 1 => oLoc1 d ↦{fullShare} oV1 m d

theorem outAny_split (q : Fin 2) (d : Dev nD) :
    (outAny q d : sProp 𝕄) ⊢ bigSep Finset.univ fun c : Fin 2 => bigSep Finset.univ fun i : Fin 16 => rowsAny q d c i := by
  match q with
  | 0 =>
    unfold outAny
    iintro ⟨%g, H⟩
    iapply ((BIBase.Entails.of_eq (rows0_eq d g)).trans (bigSep_mono fun c _ => bigSep_mono fun i _ => (show rows0 d c i g ⊢ rowsAny 0 d c i from exists_intro (Φ := fun g => rows0 d c i g) g))) $$ H
  | 1 =>
    unfold outAny
    iintro ⟨%g, H⟩
    iapply ((BIBase.Entails.of_eq (rows1_eq d g)).trans (bigSep_mono fun c _ => bigSep_mono fun i _ => (show rows1 d c i g ⊢ rowsAny 1 d c i from exists_intro (Φ := fun g => rows1 d c i g) g))) $$ H

theorem outDone_join (q : Fin 2) (d : Dev nD) :
    (bigSep Finset.univ fun c : Fin 2 => bigSep Finset.univ fun i : Fin 16 => rowsDone m q d c i) ⊢ (outDone m q d : sProp 𝕄) := by
  match q with
  | 0 => exact BIBase.Entails.of_eq (rows0_eq d (oV0 m d)).symm
  | 1 => exact BIBase.Entails.of_eq (rows1_eq d (oV1 m d)).symm

/-- A call takes the tables, the indices and its output array, and gives them back with the output array filled. -/
theorem operands (q : Fin 2) (d : Dev nD) :
    iprop((tLoc d ↦{fullShare} tV m d) ∗ (xLoc d ↦{fullShare} xV m d) ∗ outAny q d)
      ⊢ iprop((bigSep Finset.univ fun c : Fin ((K (F := F)).nCore q) => (P m).st q d c)
          ∗ ((bigSep Finset.univ fun c : Fin ((K (F := F)).nCore q) => (P m).dn q d c)
            -∗ (tLoc d ↦{fullShare} tV m d) ∗ (xLoc d ↦{fullShare} xV m d) ∗ outDone m q d)) := by
  have cores : ∀ Φ : Fin 2 → sProp 𝕄, (bigSep Finset.univ fun c : Fin ((K (F := F)).nCore q) => Φ (Fin.cast (nCore_eq q) c)) = bigSep Finset.univ Φ := by
    intro Φ
    match q with
    | 0 => rfl
    | 1 => rfl
  show _ ⊢ iprop((bigSep Finset.univ fun c : Fin ((K (F := F)).nCore q) => coreP m d (Fin.cast (nCore_eq q) c) (rowsAny q d (Fin.cast (nCore_eq q) c)))
          ∗ ((bigSep Finset.univ fun c : Fin ((K (F := F)).nCore q) => coreP m d (Fin.cast (nCore_eq q) c) (rowsDone m q d (Fin.cast (nCore_eq q) c))) -∗ _))
  rw [cores fun c => coreP m d c (rowsAny q d c), cores fun c => coreP m d c (rowsDone m q d c)]
  iintro ⟨Ht, Hx, Ho⟩
  ihave Ho := (outAny_split q d) $$ Ho
  ihave H := (dealCores m d (rowsAny q d) (rowsDone m q d)) $$ [Ht Hx Ho]
  · isplitl [Ht]; · iexact Ht
    isplitl [Hx]; · iexact Hx
    iexact Ho
  icases H with ⟨HP, Hback⟩
  isplitl [HP]; · iexact HP
  iintro HD
  ihave H := Hback $$ HD
  icases H with ⟨Ht, Hx, Ho⟩
  isplitl [Ht]; · iexact Ht
  isplitl [Hx]; · iexact Hx
  iapply (outDone_join m q d) $$ Ho

/-- A call on the TensorCore. -/
theorem call_run (κ : GSem nD τ sig → ℕ) (q : Fin 2) (d : Dev nD) (Φ : PUnit → sProp 𝕄) :
    iprop((K (F := F)).ctx EH (P m) κ ∗ (K (F := F)).tcSt EH d q.val ∗ ((tLoc d ↦{fullShare} tV m d) ∗ (xLoc d ↦{fullShare} xV m d) ∗ outAny q d)
        ∗ (((K (F := F)).tcSt EH d (q.val + 1) ∗ (tLoc d ↦{fullShare} tV m d) ∗ (xLoc d ↦{fullShare} xV m d) ∗ outDone m q d) -∗ Φ ⟨⟩))
      ⊢ wp frame (wpE ((K (F := F)).defs (D (F := F))) 𝒱 (SparseCore.T d) none) Set.univ ((K (F := F)).run d q) Φ := by
  iintro ⟨#Hctx, Hst, Hops, HΦ⟩
  ihave H := (operands m q d) $$ Hops
  icases H with ⟨HP, Hback⟩
  iapply ((K (F := F)).wp_run (D (F := F)) 𝒱 (EH := EH) (P := P m) κ d q) $$ [Hst HP Hback HΦ]
  isplitr; · iexact Hctx
  isplitl [Hst]; · iexact Hst
  isplitl [HP]; · iexact HP
  iintro ⟨Hst, HD⟩
  ihave H := Hback $$ HD
  icases H with ⟨Ht, Hx, Ho⟩
  iapply HΦ
  isplitl [Hst]; · iexact Hst
  isplitl [Ht]; · iexact Ht
  isplitl [Hx]; · iexact Hx
  iexact Ho

end Cert.Proof

end
-- ==== Proof.Stage.lean ====
/-
  Staging buffers of the two dense kernels: the contents type of a staging buffer, the buffer
  held whole, and what a load through a unit-stride rectangle reads.
-/
module

public import proofs.«01_k».proof.Proof.Gather
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

/-- The contents of memref `M`'s buffer on core `c`. -/
abbrev Bf (c : Dev nD) {sp : Space} {S : Shape} {e : EltTy} (M : Memref sig .tc sp S e) : Type := Buf (Elt F) (M.view.loc (c.tc : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c.tc : Thread nD τ) ↦{fullShare} f

/-- A load through a unit-stride rectangle reads the view at the shifted index. -/
theorem readAt_at {κ : Kind} {sp : Space} {n : ℕ} {d : Fin n → ℕ} {e : EltTy} (v : View sig κ sp ⟨n, d⟩ e) (off size : Fin n → ℕ)
    (inb : ∀ a : Fin n, off a + size a ≤ d a) (f : v.ty.Contents (Elt F)) (g : (⟨n, size⟩ : Shape).Idx → (⟨n, d⟩ : Shape).Idx)
    (hg : ∀ y a, (g y a).val = off a + (y a).val) :
    View.readAt (Elt F) v (Rect.unit (s := ⟨n, d⟩) off size inb).toLoadRect f = fun y => v.read (Elt F) f (g y) := by
  funext y
  unfold View.readAt
  congr 1
  funext a
  ext
  rw [hg]
  simp

end Cert.Proof

end
-- ==== Proof.Mlp1.lean ====
/-
  The body of the first dense kernel (the product with the upper 256 rows of W1), run once and read
  as one block function of the staged inputs.
-/
module

public import proofs.«01_k».proof.Proof.Stage

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MM F

/-- The body run on its staging buffers: from the six held whole it returns with the inputs as they
    were and the output at the witness. -/
noncomputable def run1 (c : Dev nD) (i : grid2.Coords) (arg1 : Memref sig .tc .vmem S256x8x128 .f32) (harg1 : arg1.IsWhole) (arg2 : Memref sig .tc .vmem S13x1024 .f32) (harg2 : arg2.IsWhole) (arg3 : Memref sig .tc .vmem S256x200 .f32) (harg3 : arg3.IsWhole) (arg4 : Memref sig .tc .vmem S13x200 .f32) (harg4 : arg4.IsWhole) (arg5 : Memref sig .tc .vmem S1x200 .f32) (harg5 : arg5.IsWhole) (arg6 : Memref sig .tc .vmem S1024x200 .f32) (harg6 : arg6.IsWhole)
    (f1 : Bf (F := F) c arg1) (f2 : Bf (F := F) c arg2) (f3 : Bf (F := F) c arg3) (f4 : Bf (F := F) c arg4) (f5 : Bf (F := F) c arg5) :
    { W : Bf (F := F) c arg6 // ∀ (f6 : Bf (F := F) c arg6) (E : Set ℕ) (Q : PUnit → sProp 𝕄),
        iprop(pt c arg1 f1 ∗ pt c arg2 f2 ∗ pt c arg3 f3 ∗ pt c arg4 f4 ∗ pt c arg5 f5 ∗ pt c arg6 f6
            ∗ (iprop(pt c arg1 f1 ∗ pt c arg2 f2 ∗ pt c arg3 f3 ∗ pt c arg4 f4 ∗ pt c arg5 f5 ∗ pt c arg6 W) -∗ Q ⟨⟩))
          ⊢ wp frame (wpE (defs₀ (F := F)) 𝒱₀ (c.tc : Thread nD τ) none) E (cc2__mlp1_body i arg1 harg1 arg2 harg2 arg3 harg3 arg4 harg4 arg5 harg5 arg6 harg6) Q } := by
  refine ⟨?_, fun f6 E Q => ?run⟩
  case run =>
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- The block one grid point of the first dense kernel computes, index by index: 128 rows of it at a
    time, each from its slice of the gathered features and of the continuous ones. -/
def blk1 (a1 : S256x8x128.Idx → F .f32) (a2 : S13x1024.Idx → F .f32) (a3 : S256x200.Idx → F .f32) (a4 : S13x200.Idx → F .f32) (a5 : S1x200.Idx → F .f32) :
    S1024x200.Idx → F .f32 := fun x =>
  k2_pay2 (F := F) (fun y => a1 (ix3 (y 0) ⟨(x 0).val / 128, by have : (x 0).val < 1024 := (x 0).isLt; omega⟩ (y 2))) a3
    (fun y => a2 (ix2 (y 0) ⟨(x 0).val / 128 * 128 + (y 1).val, by have : (x 0).val < 1024 := (x 0).isLt; have : (y 1).val < 128 := (y 1).isLt; omega⟩)) a4 a5
    (ix2 ⟨(x 0).val % 128, Nat.mod_lt _ (by decide)⟩ (x 1))

variable (c : Dev nD)

/-- The 128 rows stored at sub-block `k` are rows of `blk1`. -/
theorem piece1 (arg1 : Memref sig .tc .vmem S256x8x128 .f32) (arg2 : Memref sig .tc .vmem S13x1024 .f32) (arg3 : Memref sig .tc .vmem S256x200 .f32)
    (arg4 : Memref sig .tc .vmem S13x200 .f32) (arg5 : Memref sig .tc .vmem S1x200 .f32)
    (f1 : Bf (F := F) c arg1) (f2 : Bf (F := F) c arg2) (f3 : Bf (F := F) c arg3) (f4 : Bf (F := F) c arg4) (f5 : Bf (F := F) c arg5)
    (k : ℕ) (hk : k < 8) (h1 h2 h3 h4 h5 h6) (x : S128x200.Idx) :
    k2_pay2 (View.readAt (Elt F) arg1.view (Rect.unit (s := S256x8x128) ![0, k, 0] S256x1x128.size h1).toLoadRect f1)
            (View.readAt (Elt F) arg3.view (Rect.unit (s := S256x200) ![0, 0] S256x200.size h2).toLoadRect f3)
            (View.readAt (Elt F) arg2.view (Rect.unit (s := S13x1024) ![0, 128 * k] S13x128.size h3).toLoadRect f2)
            (View.readAt (Elt F) arg4.view (Rect.unit (s := S13x200) ![0, 0] S13x200.size h4).toLoadRect f4)
            (View.readAt (Elt F) arg5.view (Rect.unit (s := S1x200) ![0, 0] S1x200.size h5).toLoadRect f5) x
      = blk1 (arg1.view.read (Elt F) f1) (arg2.view.read (Elt F) f2) (arg3.view.read (Elt F) f3) (arg4.view.read (Elt F) f4) (arg5.view.read (Elt F) f5)
          ((Rect.unit (s := S1024x200) ![128 * k, 0] S128x200.size h6).emb x) := by
  have hx : (x 0).val < 128 := (x 0).isLt
  unfold blk1
  have e0 : ((Rect.unit (s := S1024x200) ![128 * k, 0] S128x200.size h6).emb x 0).val = 128 * k + (x 0).val := by
    simp
  have e1 : ((Rect.unit (s := S1024x200) ![128 * k, 0] S128x200.size h6).emb x 1) = x 1 := by
    ext; simp
  have d1 : (128 * k + (x 0).val) / 128 = k := by omega
  have d2 : (128 * k + (x 0).val) % 128 = (x 0).val := by omega
  congr 1
  · exact readAt_at arg1.view _ _ h1 f1 (fun y => ix3 (y 0) ⟨((Rect.unit (s := S1024x200) ![128 * k, 0] S128x200.size h6).emb x 0).val / 128, by omega⟩ (y 2))
      (by
        intro y a
        have : (y 1).val < 1 := (y 1).isLt
        fin_cases a <;> simp [e0, d1]; omega)
  · exact readAt_at arg3.view _ _ h2 f3 (fun y => y) (by intro y a; fin_cases a <;> simp)
  · exact readAt_at arg2.view _ _ h3 f2 (fun y => ix2 (y 0) ⟨((Rect.unit (s := S1024x200) ![128 * k, 0] S128x200.size h6).emb x 0).val / 128 * 128 + (y 1).val, by
          have : (y 1).val < 128 := (y 1).isLt
          omega⟩)
      (by
        intro y a
        fin_cases a <;> simp [e0, d1]; omega)
  · exact readAt_at arg4.view _ _ h4 f4 (fun y => y) (by intro y a; fin_cases a <;> simp)
  · exact readAt_at arg5.view _ _ h5 f5 (fun y => y) (by intro y a; fin_cases a <;> simp)
  · funext a
    fin_cases a
    · ext; simp [e0, d2]
    · exact e1.symm

/-- What the run leaves in the output's staging buffer: `blk1` of what the inputs' buffers read. -/
theorem run1_read (i : grid2.Coords) (arg1 : Memref sig .tc .vmem S256x8x128 .f32) (harg1 : arg1.IsWhole) (arg2 : Memref sig .tc .vmem S13x1024 .f32) (harg2 : arg2.IsWhole) (arg3 : Memref sig .tc .vmem S256x200 .f32) (harg3 : arg3.IsWhole) (arg4 : Memref sig .tc .vmem S13x200 .f32) (harg4 : arg4.IsWhole) (arg5 : Memref sig .tc .vmem S1x200 .f32) (harg5 : arg5.IsWhole) (arg6 : Memref sig .tc .vmem S1024x200 .f32) (harg6 : arg6.IsWhole)
    (f1 : Bf (F := F) c arg1) (f2 : Bf (F := F) c arg2) (f3 : Bf (F := F) c arg3) (f4 : Bf (F := F) c arg4) (f5 : Bf (F := F) c arg5) :
    arg6.view.read (Elt F) (run1 (F := F) c i arg1 harg1 arg2 harg2 arg3 harg3 arg4 harg4 arg5 harg5 arg6 harg6 f1 f2 f3 f4 f5).1
      = blk1 (arg1.view.read (Elt F) f1) (arg2.view.read (Elt F) f2) (arg3.view.read (Elt F) f3) (arg4.view.read (Elt F) f4) (arg5.view.read (Elt F) f5) := by
  unfold run1
  dsimp only
  unfold run1.sl.H6_8
  funext y
  refine View.read_writes_apply_of_pieces (Val := Elt F) (e := .f32) _ _ (blk1 (arg1.view.read (Elt F) f1) (arg2.view.read (Elt F) f2) (arg3.view.read (Elt F) f3) (arg4.view.read (Elt F) f4) (arg5.view.read (Elt F) f5)) _ ?_ y ?_
  · simp only [List.forall_mem_cons, List.forall_mem_nil]
    refine ⟨?_, ?_, ?_, ?_, ?_, ?_, ?_, ?_, ?_⟩
    · exact piece1 c arg1 arg2 arg3 arg4 arg5 f1 f2 f3 f4 f5 7 (by decide) _ _ _ _ _ _
    · exact piece1 c arg1 arg2 arg3 arg4 arg5 f1 f2 f3 f4 f5 6 (by decide) _ _ _ _ _ _
    · exact piece1 c arg1 arg2 arg3 arg4 arg5 f1 f2 f3 f4 f5 5 (by decide) _ _ _ _ _ _
    · exact piece1 c arg1 arg2 arg3 arg4 arg5 f1 f2 f3 f4 f5 4 (by decide) _ _ _ _ _ _
    · exact piece1 c arg1 arg2 arg3 arg4 arg5 f1 f2 f3 f4 f5 3 (by decide) _ _ _ _ _ _
    · exact piece1 c arg1 arg2 arg3 arg4 arg5 f1 f2 f3 f4 f5 2 (by decide) _ _ _ _ _ _
    · exact piece1 c arg1 arg2 arg3 arg4 arg5 f1 f2 f3 f4 f5 1 (by decide) _ _ _ _ _ _
    · exact piece1 c arg1 arg2 arg3 arg4 arg5 f1 f2 f3 f4 f5 0 (by decide) _ _ _ _ _ _
    · exact fun _ h => absurd h List.not_mem_nil
  · exact View.cover_of_tiled _ ![128, 200] rfl y

end Cert.Proof

end
-- ==== Proof.Regions.lean ====
/-
  What both dense kernels' regions share: the contents of the TensorCore's buffers, a staging buffer
  held whole, and proof data for a pipeline a region does not run.
-/
module

public import proofs.«01_k».proof.Proof.Stage
public import proofs.«01_k».proof.Proof.Gen.KernelIdeal.Launch
public import proofs.«01_k».proof.Proof.Gen.KernelIdeal.Points
public import Idealize.ShloMosaic.Lib.Pipeline.Value
public import Idealize.ShloMosaic.Lib.Pipeline.Regions
public import Idealize.ShloMosaic.Lib.Pipeline.RegionsLoop

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

open Idealize.ShloMosaic.Pipeline (Dat Cfg)

/-- The contents of the TensorCore's buffers, per device. -/
abbrev Cont (F : FTy → Type) : Type := (c : Dev nD) → (b : Ref sig .tc) → Buf (Elt F) ((c.tc : Thread nD τ).loc b)

/-- Neither pipeline takes a table. -/
abbrev adm : (p : Fin 2) → (pcfgs (F := F) p).Adm := fun p => (cfgs p).toPCfg_adm

/-- Proof data of a pipeline a region does not run. -/
def junkDat {cfg : Cfg sig Λ₀} (c : Dev nD) : Dat τ (Elt F) (HIx 2) ℕ UU ℕ cfg c where
  A _ := fun _ => Classical.arbitrary _
  after _ _ := fun _ => Classical.arbitrary _
  Φ _ := BI.emp
  q _ := fullShare
  owed _ := 0

/-- A whole staging buffer read as `X` is that buffer held at some contents that read `X`. -/
theorem owns_eq (c : Dev nD) {sp : Space} {S : Shape} {e : EltTy} (M : Memref sig .tc sp S e) (h : M.IsWhole) (X : S.Idx → Elt F e) :
    (owns (c.tc : Thread nD τ) M fullShare X : sProp 𝕄) = iprop(∃ f, ⌜M.view.read (Elt F) f = X⌝ ∗ pt c M f) := by
  unfold owns pt
  rw [h.set_eq_univ]

end Cert.Proof

end
-- ==== Proof.Region1.lean ====
/-
  The region of the first dense kernel: its proof data, the body at every grid point, the array it
  leaves as one function of the arrays it reads, and the region over the TensorCore's buffers.
-/
module

public import proofs.«01_k».proof.Proof.Mlp1
public import proofs.«01_k».proof.Proof.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

open Idealize.ShloMosaic.Pipeline (Dat Cfg Window BodyObligation cellOf)

/-- The first dense kernel's result, index by index, from the arrays it reads. -/
def out1 (g : S256x128x128.Idx → F .f32) (xc : S13x16384.Idx → F .f32) (w : S256x200.Idx → F .f32) (wb : S13x200.Idx → F .f32) (b : S1x200.Idx → F .f32) :
    S16384x200.Idx → F .f32 := fun x =>
  k2_pay2 (F := F) (fun y => g (ix3 (y 0) ⟨(x 0).val / 128, by have : (x 0).val < 16384 := (x 0).isLt; omega⟩ (y 2))) w
    (fun y => xc (ix2 (y 0) ⟨(x 0).val / 128 * 128 + (y 1).val, by have : (x 0).val < 16384 := (x 0).isLt; have : (y 1).val < 128 := (y 1).isLt; omega⟩)) wb b
    (ix2 ⟨(x 0).val % 128, Nat.mod_lt _ (by decide)⟩ (x 1))

variable (V : Cont F)

/-- What input window `w` holds at point `t`. -/
abbrev held1 (c : Dev nD) (w : Fin 6) (t : Fin cfg2.N) : (cfg2.win w).block.Idx → Elt F (cfg2.win w).elt :=
  Pipeline.heldIn (nD := nD) (τ := τ) (c := c) cfg2 (fun w => V c (Pipeline.arrRef spec2 w)) w t.val t.isLt

/-- The invariant: the scoped buffers the pipeline does not stage. -/
abbrev Φ1 (c : Dev nD) : sProp 𝕄 := Pipeline.scopedRest (Ix := HIx 2) (Name := ℕ) (U := UU) (Lvl := ℕ) (Val := Elt F) spec2 c

/-- The proof data: the arrays at `V`, the inputs' buffers as fetched, the output's at the block
    function; nothing owed; the waits recorded so far at level `b` or below. -/
def dat1 (b : ℕ) (c : Dev nD) : Dat τ (Elt F) (HIx 2) ℕ UU ℕ cfg2 c where
  A w := V c (Pipeline.arrRef spec2 w)
  after w t := match w with
    | ⟨5, _⟩ => blk1 (held1 V c 0 t) (held1 V c 1 t) (held1 V c 2 t) (held1 V c 3 t) (held1 V c 4 t)
    | ⟨0, _⟩ => held1 V c 0 t
    | ⟨1, _⟩ => held1 V c 1 t
    | ⟨2, _⟩ => held1 V c 2 t
    | ⟨3, _⟩ => held1 V c 3 t
    | ⟨4, _⟩ => held1 V c 4 t
  Φ _ := Φ1 c
  q _ := fullShare
  owed _ := 0
  recorded _ := {p | (K (F := F)).lev ((c.tc : Thread nD τ), p.1) p.2 ≤ b}

/-- The proof data of both pipelines, this one's being the one that counts. -/
def pdats1 (b : ℕ) : (p : Fin 2) → (c : Dev nD) → Dat τ (Elt F) (HIx 2) ℕ UU ℕ (Pipeline.pin (pcfgs (F := F)) adm p) c
  | ⟨0, _⟩ => fun c => dat1 V b c
  | ⟨1, _⟩ => fun c => junkDat c

theorem before1 (b : ℕ) (c : Dev nD) (w : Fin 6) (hw : (cfg2.win w).isOut = false) (ha : ∀ t, (dat1 V b c).after w t = held1 V c w t) (t : Fin cfg2.N) (d) :
    (dat1 V b c).before w t d = held1 V c w t :=
  Dat.before_eq_heldIn _ w hw (fun _ => rfl) (fun i a => by fin_cases w <;> rfl) ha t d

/-- The body at a grid point. -/
theorem body1 (b : ℕ) (c : Dev nD) : BodyObligation (dat1 V b c) (defs₀ (F := F)) 𝒱₀ none Set.univ := fun t => by
  rw [bigSep_W2, bigSep_W2]
  rw [show (dat1 V b c).Φ t.castSucc = Φ1 c from rfl, show (dat1 V b c).Φ t.succ = Φ1 c from rfl,
    show (dat1 V b c).owesAt none t.succ = (dat1 V b c).owesAt none t.castSucc from rfl]
  iintro ⟨HΦ, Howes, ⟨%d0, H0⟩, ⟨%d1, H1⟩, ⟨%d2, H2⟩, ⟨%d3, H3⟩, ⟨%d4, H4⟩, ⟨%d5, H5⟩⟩
  ihave H0 := (BIBase.Entails.of_eq (owns_eq c (win2_0.stage (cfg2.slots t 0)) (hstage2_0 ((cfg2.slots t 0).cast nbuf2_0)) _)) $$ H0
  icases H0 with ⟨%f0, %hf0, H0⟩
  ihave H1 := (BIBase.Entails.of_eq (owns_eq c (win2_1.stage (cfg2.slots t 1)) (hstage2_1 ((cfg2.slots t 1).cast nbuf2_1)) _)) $$ H1
  icases H1 with ⟨%f1, %hf1, H1⟩
  ihave H2 := (BIBase.Entails.of_eq (owns_eq c (win2_2.stage (cfg2.slots t 2)) (hstage2_2 ((cfg2.slots t 2).cast nbuf2_2)) _)) $$ H2
  icases H2 with ⟨%f2, %hf2, H2⟩
  ihave H3 := (BIBase.Entails.of_eq (owns_eq c (win2_3.stage (cfg2.slots t 3)) (hstage2_3 ((cfg2.slots t 3).cast nbuf2_3)) _)) $$ H3
  icases H3 with ⟨%f3, %hf3, H3⟩
  ihave H4 := (BIBase.Entails.of_eq (owns_eq c (win2_4.stage (cfg2.slots t 4)) (hstage2_4 ((cfg2.slots t 4).cast nbuf2_4)) _)) $$ H4
  icases H4 with ⟨%f4, %hf4, H4⟩
  ihave H5 := (BIBase.Entails.of_eq (owns_eq c (win2_5.stage (cfg2.slots t 5)) (hstage2_5 ((cfg2.slots t 5).cast nbuf2_5)) _)) $$ H5
  icases H5 with ⟨%f5, %hf5, H5⟩
  rw [before1 V b c 0 rfl fun _ => rfl] at hf0
  rw [before1 V b c 1 rfl fun _ => rfl] at hf1
  rw [before1 V b c 2 rfl fun _ => rfl] at hf2
  rw [before1 V b c 3 rfl fun _ => rfl] at hf3
  rw [before1 V b c 4 rfl fun _ => rfl] at hf4
  have hr := run1_read c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) f0 f1 f2 f3 f4
  iapply ((run1 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) f0 f1 f2 f3 f4).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iapply (BIBase.Entails.of_eq (owns_eq c (win2_0.stage (cfg2.slots t 0)) (hstage2_0 ((cfg2.slots t 0).cast nbuf2_0)) _).symm)
    iexists f0; isplitr; swap; (· iexact H0); ipureintro; exact hf0
  isplitl [H1]
  · iapply (BIBase.Entails.of_eq (owns_eq c (win2_1.stage (cfg2.slots t 1)) (hstage2_1 ((cfg2.slots t 1).cast nbuf2_1)) _).symm)
    iexists f1; isplitr; swap; (· iexact H1); ipureintro; exact hf1
  isplitl [H2]
  · iapply (BIBase.Entails.of_eq (owns_eq c (win2_2.stage (cfg2.slots t 2)) (hstage2_2 ((cfg2.slots t 2).cast nbuf2_2)) _).symm)
    iexists f2; isplitr; swap; (· iexact H2); ipureintro; exact hf2
  isplitl [H3]
  · iapply (BIBase.Entails.of_eq (owns_eq c (win2_3.stage (cfg2.slots t 3)) (hstage2_3 ((cfg2.slots t 3).cast nbuf2_3)) _).symm)
    iexists f3; isplitr; swap; (· iexact H3); ipureintro; exact hf3
  isplitl [H4]
  · iapply (BIBase.Entails.of_eq (owns_eq c (win2_4.stage (cfg2.slots t 4)) (hstage2_4 ((cfg2.slots t 4).cast nbuf2_4)) _).symm)
    iexists f4; isplitr; swap; (· iexact H4); ipureintro; exact hf4
  iapply (BIBase.Entails.of_eq (owns_eq c (win2_5.stage (cfg2.slots t 5)) (hstage2_5 ((cfg2.slots t 5).cast nbuf2_5)) _).symm)
  iexists _; isplitr; swap; (· iexact H5); ipureintro
  rw [hr]
  exact (congr (congr (congr (congr (congrArg blk1 hf0) hf1) hf2) hf3) hf4)

theorem ptVal1 (t : Fin cfg2.N) : (BitVec.ofNat 32 (grid2.coords t 0).val).toNat = t.val := by
  revert t; decide

theorem held1_0 (c : Dev nD) (t : Fin cfg2.N) :
    held1 V c 0 t = fun y : S256x8x128.Idx => V c main_v2 (ix3 (y 0) ⟨8 * t.val + (y 1).val, by have : t.val < 16 := t.isLt; have : (y 1).val < 8 := (y 1).isLt; omega⟩ (y 2)) := by
  refine (Pipeline.heldIn_of_fetch _ 0 t (fetch2_0 t)).trans ?_
  funext y
  refine congrArg (V c main_v2) (funext fun a => Fin.ext ?_)
  refine (Window.rect_emb_val win2_0 t y a).trans ?_
  fin_cases a
  · show (0#32).toNat * 256 + (y 0).val = (y 0).val
    simp
  · show (BitVec.ofNat 32 (grid2.coords t 0).val).toNat * 8 + (y 1).val = 8 * t.val + (y 1).val
    rw [ptVal1 t, Nat.mul_comm]
  · show (0#32).toNat * 128 + (y 2).val = (y 2).val
    simp

theorem held1_1 (c : Dev nD) (t : Fin cfg2.N) :
    held1 V c 1 t = fun y : S13x1024.Idx => V c main_v4 (ix2 (y 0) ⟨1024 * t.val + (y 1).val, by have : t.val < 16 := t.isLt; have : (y 1).val < 1024 := (y 1).isLt; omega⟩) := by
  refine (Pipeline.heldIn_of_fetch _ 1 t (fetch2_1 t)).trans ?_
  funext y
  refine congrArg (V c main_v4) (funext fun a => Fin.ext ?_)
  refine (Window.rect_emb_val win2_1 t y a).trans ?_
  fin_cases a
  · show (0#32).toNat * 13 + (y 0).val = (y 0).val
    simp
  · show (BitVec.ofNat 32 (grid2.coords t 0).val).toNat * 1024 + (y 1).val = 1024 * t.val + (y 1).val
    rw [ptVal1 t, Nat.mul_comm]

theorem held1_2 (c : Dev nD) (t : Fin cfg2.N) : held1 V c 2 t = V c main_v29 := by
  have hb : ∀ t : Fin cfg2.N, (cfg2.win 2).fill (cfg2.grid.coords t) (fun _ => Classical.arbitrary _)
      (((cfg2.win 2).blk t).view.read (Elt F) (V c main_v29)) = V c main_v29 := by
    intro t
    funext y
    refine congrArg (V c main_v29) (funext fun a => Fin.ext ?_)
    refine (Window.rect_emb_val win2_2 t y a).trans ?_
    fin_cases a
    · show (0#32).toNat * 256 + (y 0).val = (y 0).val
      simp
    · show (0#32).toNat * 200 + (y 1).val = (y 1).val
      simp
  obtain ⟨n, hn⟩ := t
  induction n with
  | zero => exact hb ⟨0, hn⟩
  | succ n ih =>
    by_cases hf : (cfg2.win 2).fetch ⟨n + 1, hn⟩ = true
    · exact (Pipeline.heldIn_of_fetch _ 2 ⟨n + 1, hn⟩ hf).trans (hb _)
    · exact (Pipeline.heldIn_of_not_fetch _ 2 n hn (Bool.eq_false_iff.mpr hf)).trans (ih (Nat.lt_of_succ_lt hn))

theorem held1_3 (c : Dev nD) (t : Fin cfg2.N) : held1 V c 3 t = V c main_v12 := by
  have hb : ∀ t : Fin cfg2.N, (cfg2.win 3).fill (cfg2.grid.coords t) (fun _ => Classical.arbitrary _)
      (((cfg2.win 3).blk t).view.read (Elt F) (V c main_v12)) = V c main_v12 := by
    intro t
    funext y
    refine congrArg (V c main_v12) (funext fun a => Fin.ext ?_)
    refine (Window.rect_emb_val win2_3 t y a).trans ?_
    fin_cases a
    · show (0#32).toNat * 13 + (y 0).val = (y 0).val
      simp
    · show (0#32).toNat * 200 + (y 1).val = (y 1).val
      simp
  obtain ⟨n, hn⟩ := t
  induction n with
  | zero => exact hb ⟨0, hn⟩
  | succ n ih =>
    by_cases hf : (cfg2.win 3).fetch ⟨n + 1, hn⟩ = true
    · exact (Pipeline.heldIn_of_fetch _ 3 ⟨n + 1, hn⟩ hf).trans (hb _)
    · exact (Pipeline.heldIn_of_not_fetch _ 3 n hn (Bool.eq_false_iff.mpr hf)).trans (ih (Nat.lt_of_succ_lt hn))

theorem held1_4 (c : Dev nD) (t : Fin cfg2.N) : held1 V c 4 t = V c main_v30 := by
  have hb : ∀ t : Fin cfg2.N, (cfg2.win 4).fill (cfg2.grid.coords t) (fun _ => Classical.arbitrary _)
      (((cfg2.win 4).blk t).view.read (Elt F) (V c main_v30)) = V c main_v30 := by
    intro t
    funext y
    refine congrArg (V c main_v30) (funext fun a => Fin.ext ?_)
    refine (Window.rect_emb_val win2_4 t y a).trans ?_
    fin_cases a
    · show (0#32).toNat * 1 + (y 0).val = (y 0).val
      simp
    · show (0#32).toNat * 200 + (y 1).val = (y 1).val
      simp
  obtain ⟨n, hn⟩ := t
  induction n with
  | zero => exact hb ⟨0, hn⟩
  | succ n ih =>
    by_cases hf : (cfg2.win 4).fetch ⟨n + 1, hn⟩ = true
    · exact (Pipeline.heldIn_of_fetch _ 4 ⟨n + 1, hn⟩ hf).trans (hb _)
    · exact (Pipeline.heldIn_of_not_fetch _ 4 n hn (Bool.eq_false_iff.mpr hf)).trans (ih (Nat.lt_of_succ_lt hn))

/-- Where an element of the output's block at point `t` sits in the array. -/
theorem outEmb1 (t : Fin cfg2.N) (y : S1024x200.Idx) :
    (((cfg2.win 5).blk t).view.emb y : S16384x200.Idx) = ix2 ⟨1024 * t.val + (y 0).val, by have : t.val < 16 := t.isLt; have : (y 0).val < 1024 := (y 0).isLt; omega⟩ (y 1) := by
  refine funext fun a => Fin.ext ?_
  refine (Window.rect_emb_val win2_5 t y a).trans ?_
  fin_cases a
  · show (BitVec.ofNat 32 (grid2.coords t 0).val).toNat * 1024 + (y 0).val = 1024 * t.val + (y 0).val
    rw [ptVal1 t, Nat.mul_comm]
  · show (0#32).toNat * 200 + (y 1).val = (y 1).val
    simp

/-- The array the region leaves. -/
theorem arr1 (b : ℕ) (c : Dev nD) : (dat1 V b c).arrAt 5 cfg2.N = out1 (V c main_v2) (V c main_v4) (V c main_v29) (V c main_v12) (V c main_v30) := by
  refine Dat.arrAt_eq_of_cover _ 5 _ (fun t _ => ?_) (fun i => ?_)
  · funext y
    show blk1 (held1 V c 0 t) (held1 V c 1 t) (held1 V c 2 t) (held1 V c 3 t) (held1 V c 4 t) y = out1 (V c main_v2) (V c main_v4) (V c main_v29) (V c main_v12) (V c main_v30) (((cfg2.win 5).blk t).view.emb y)
    rw [outEmb1 t y, held1_0, held1_1, held1_2, held1_3, held1_4]
    have ht : t.val < 16 := t.isLt
    have hy : (y 0).val < 1024 := (y 0).isLt
    have d1 : (1024 * t.val + (y 0).val) / 128 = 8 * t.val + (y 0).val / 128 := by omega
    have d2 : (1024 * t.val + (y 0).val) % 128 = (y 0).val % 128 := by omega
    unfold blk1 out1
    congr 1
    · funext z
      refine congrArg (V c main_v2) (funext fun a => Fin.ext ?_)
      fin_cases a
      · rfl
      · exact d1.symm
      · rfl
    · funext z
      refine congrArg (V c main_v4) (funext fun a => Fin.ext ?_)
      fin_cases a
      · rfl
      · show 1024 * t.val + ((y 0).val / 128 * 128 + (z 1).val) = (1024 * t.val + (y 0).val) / 128 * 128 + (z 1).val
        omega
    · refine funext fun a => Fin.ext ?_
      fin_cases a
      · exact d2.symm
      · rfl
  · have hi : (i 0).val < 16384 := (i 0).isLt
    have hN : (i 0).val / 1024 < cfg2.N := by show (i 0).val / 1024 < 16; omega
    refine ⟨⟨(i 0).val / 1024, hN⟩, flush2_5 _, ?_⟩
    have he := outEmb1 ⟨(i 0).val / 1024, hN⟩ (ix2 ⟨(i 0).val % 1024, Nat.mod_lt _ (by decide)⟩ (i 1))
    have : i = ((cfg2.win 5).blk ⟨(i 0).val / 1024, hN⟩).view.emb (ix2 ⟨(i 0).val % 1024, Nat.mod_lt _ (by decide)⟩ (i 1) : S1024x200.Idx) := by
      rw [he]
      refine funext fun a => Fin.ext ?_
      fin_cases a
      · show (i 0).val = 1024 * ((i 0).val / 1024) + (i 0).val % 1024
        omega
      · rfl
    refine (congrArg (· ∈ ((cfg2.win 5).blk ⟨(i 0).val / 1024, hN⟩).view.set) this).mpr ?_
    exact Finset.mem_map_of_mem _ (Finset.mem_univ _)

variable (Vp : Cont F)

-- unification must unfold plain definitions in the metavariables' types here
set_option backward.isDefEq.respectTransparency.types false in
/-- The region, from the TensorCore's buffers at `V` to the same at `Vp`, which is `V` but for the
    result's array. -/
def region1 (b : ℕ) (R : Dev nD → sProp 𝕄) (hVp_out : ∀ c, Vp c main_v31 = out1 (V c main_v2) (V c main_v4) (V c main_v29) (V c main_v12) (V c main_v30))
    (hVp_ne : ∀ c (r : Ref sig .tc), r ≠ main_v31 → Vp c r = V c r) :
    Pipeline.RegionSeg (pcfgs (F := F)) adm (pdats1 V b) none defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body1 V b c).loose
  hwaits := Pipeline.hwaits_of_owed_zero _ _ _ _ _ _ 0 fun _ _ => rfl
  pre c := iprop(unscopedBufs c (V c) ∗ R c ∗ ∃ W, ⌜(K (F := F)).WBelow (c.tc : Thread nD τ) W b⌝ ∗ owes (c.tc : Thread nD τ) (0 : CellTallies nD τ sig (HIx 2)) W)
  post c := iprop(unscopedBufs c (Vp c) ∗ R c ∗ ∃ W, ⌜(K (F := F)).WBelow (c.tc : Thread nD τ) W b⌝ ∗ owes (c.tc : Thread nD τ) (0 : CellTallies nD τ sig (HIx 2)) W)
  X _ := BI.emp
  Y _ := BI.emp
  Z c := iprop(Pipeline.unscopedRest (Ix := HIx 2) (Name := ℕ) (U := UU) (Lvl := ℕ) spec2 c (V c) ∗ R c)
  hentry c := by
    rw [Pipeline.ownSems0_none]
    have hsplit := Pipeline.arrays_of_unscopedBufs (p := 0) (pcfgs (F := F)) adm (pdats1 V b) launch2.win launch2.arr_whole c
      ((pdats1 V b 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats1 V b 0 c).Φ 0 = Φ1 c from rfl]
    iintro ⟨-, -, Hr⟩; iexact Hr
  hout c := by
    rw [Pipeline.ownSems0_none, show (pdats1 V b 0 c).Φ (Fin.last _) = Φ1 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats1 V b) ((pdats1 V b 0 c).share_full fun _ => rfl) (V c) (Vp c) ((pdats1 V b 0 c).arrAt · cfg2.N)
      (fun w => by
        fin_cases w
        · exact ((pdats1 V b 0 c).arrAt_in 0 rfl _).trans (hVp_ne c main_v2 (by decide)).symm
        · exact ((pdats1 V b 0 c).arrAt_in 1 rfl _).trans (hVp_ne c main_v4 (by decide)).symm
        · exact ((pdats1 V b 0 c).arrAt_in 2 rfl _).trans (hVp_ne c main_v29 (by decide)).symm
        · exact ((pdats1 V b 0 c).arrAt_in 3 rfl _).trans (hVp_ne c main_v12 (by decide)).symm
        · exact ((pdats1 V b 0 c).arrAt_in 4 rfl _).trans (hVp_ne c main_v30 (by decide)).symm
        · exact (arr1 V b c).trans (hVp_out c).symm)
      (fun r hr => hVp_ne c r fun h => hr (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        show (K (F := F)).lev _ none ≤ b
        exact Nat.zero_le _
    iexact HO

end Cert.Proof

end
-- ==== Proof.Mlp2.lean ====
/-
  The body of the second dense kernel (the product with the lower rows of W1, the positive part, and
  the product with W2), run once and read as one block function of the staged inputs.
-/
module

public import proofs.«01_k».proof.Proof.Stage

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MM F

/-- The body run on its staging buffers: from the six held whole it returns with the inputs as they
    were and the output at the witness. -/
noncomputable def run2 (c : Dev nD) (i : grid3.Coords) (arg1 : Memref sig .tc .vmem S160x8x128 .f32) (harg1 : arg1.IsWhole) (arg2 : Memref sig .tc .vmem S1024x200 .f32) (harg2 : arg2.IsWhole) (arg3 : Memref sig .tc .vmem S160x200 .f32) (harg3 : arg3.IsWhole) (arg4 : Memref sig .tc .vmem S200x5 .f32) (harg4 : arg4.IsWhole) (arg5 : Memref sig .tc .vmem S1x5 .f32) (harg5 : arg5.IsWhole) (arg6 : Memref sig .tc .vmem S1024x5 .f32) (harg6 : arg6.IsWhole)
    (f1 : Bf (F := F) c arg1) (f2 : Bf (F := F) c arg2) (f3 : Bf (F := F) c arg3) (f4 : Bf (F := F) c arg4) (f5 : Bf (F := F) c arg5) :
    { W : Bf (F := F) c arg6 // ∀ (f6 : Bf (F := F) c arg6) (E : Set ℕ) (Q : PUnit → sProp 𝕄),
        iprop(pt c arg1 f1 ∗ pt c arg2 f2 ∗ pt c arg3 f3 ∗ pt c arg4 f4 ∗ pt c arg5 f5 ∗ pt c arg6 f6
            ∗ (iprop(pt c arg1 f1 ∗ pt c arg2 f2 ∗ pt c arg3 f3 ∗ pt c arg4 f4 ∗ pt c arg5 f5 ∗ pt c arg6 W) -∗ Q ⟨⟩))
          ⊢ wp frame (wpE (defs₀ (F := F)) 𝒱₀ (c.tc : Thread nD τ) none) E (cc3__mlp2_body i arg1 harg1 arg2 harg2 arg3 harg3 arg4 harg4 arg5 harg5 arg6 harg6) Q } := by
  refine ⟨?_, fun f6 E Q => ?run⟩
  case run =>
    iintro ⟨H1, H2, H3, H4, H5, H6, Hk⟩
    sl_exec!
    sl_step
    iapply Hk
    isplitl [H1]; · iexact H1
    isplitl [H2]; · iexact H2
    isplitl [H3]; · iexact H3
    isplitl [H4]; · iexact H4
    isplitl [H5]; · iexact H5
    iexact H6

/-- The block one grid point of the second dense kernel computes, index by index: 128 rows of it at a
    time, each from its slice of the gathered features and of the first kernel's result. -/
def blk2 (a1 : S160x8x128.Idx → F .f32) (a2 : S1024x200.Idx → F .f32) (a3 : S160x200.Idx → F .f32) (a4 : S200x5.Idx → F .f32) (a5 : S1x5.Idx → F .f32) :
    S1024x5.Idx → F .f32 := fun x =>
  k3_pay3 (F := F) (fun y => a2 (ix2 ⟨(x 0).val / 128 * 128 + (y 0).val, by have : (x 0).val < 1024 := (x 0).isLt; have : (y 0).val < 128 := (y 0).isLt; omega⟩ (y 1)))
    (fun y => a1 (ix3 (y 0) ⟨(x 0).val / 128, by have : (x 0).val < 1024 := (x 0).isLt; omega⟩ (y 2))) a3 a4 a5
    (ix2 ⟨(x 0).val % 128, Nat.mod_lt _ (by decide)⟩ (x 1))

variable (c : Dev nD)

/-- The 128 rows stored at sub-block `k` are rows of `blk2`. -/
theorem piece2 (arg1 : Memref sig .tc .vmem S160x8x128 .f32) (arg2 : Memref sig .tc .vmem S1024x200 .f32) (arg3 : Memref sig .tc .vmem S160x200 .f32)
    (arg4 : Memref sig .tc .vmem S200x5 .f32) (arg5 : Memref sig .tc .vmem S1x5 .f32)
    (f1 : Bf (F := F) c arg1) (f2 : Bf (F := F) c arg2) (f3 : Bf (F := F) c arg3) (f4 : Bf (F := F) c arg4) (f5 : Bf (F := F) c arg5)
    (k : ℕ) (hk : k < 8) (h1 h2 h3 h4 h5 h6) (x : S128x5.Idx) :
    k3_pay3 (View.readAt (Elt F) arg2.view (Rect.unit (s := S1024x200) ![128 * k, 0] S128x200.size h3).toLoadRect f2)
            (View.readAt (Elt F) arg1.view (Rect.unit (s := S160x8x128) ![0, k, 0] S160x1x128.size h1).toLoadRect f1)
            (View.readAt (Elt F) arg3.view (Rect.unit (s := S160x200) ![0, 0] S160x200.size h2).toLoadRect f3)
            (View.readAt (Elt F) arg4.view (Rect.unit (s := S200x5) ![0, 0] S200x5.size h4).toLoadRect f4)
            (View.readAt (Elt F) arg5.view (Rect.unit (s := S1x5) ![0, 0] S1x5.size h5).toLoadRect f5) x
      = blk2 (arg1.view.read (Elt F) f1) (arg2.view.read (Elt F) f2) (arg3.view.read (Elt F) f3) (arg4.view.read (Elt F) f4) (arg5.view.read (Elt F) f5)
          ((Rect.unit (s := S1024x5) ![128 * k, 0] S128x5.size h6).emb x) := by
  have hx : (x 0).val < 128 := (x 0).isLt
  unfold blk2
  have e0 : ((Rect.unit (s := S1024x5) ![128 * k, 0] S128x5.size h6).emb x 0).val = 128 * k + (x 0).val := by
    simp
  have e1 : ((Rect.unit (s := S1024x5) ![128 * k, 0] S128x5.size h6).emb x 1) = x 1 := by
    ext; simp
  have d1 : (128 * k + (x 0).val) / 128 = k := by omega
  have d2 : (128 * k + (x 0).val) % 128 = (x 0).val := by omega
  congr 1
  · exact readAt_at arg2.view _ _ h3 f2 (fun y => ix2 ⟨((Rect.unit (s := S1024x5) ![128 * k, 0] S128x5.size h6).emb x 0).val / 128 * 128 + (y 0).val, by
          have : (y 0).val < 128 := (y 0).isLt
          omega⟩ (y 1))
      (by
        intro y a
        fin_cases a <;> simp [e0, d1]; omega)
  · exact readAt_at arg1.view _ _ h1 f1 (fun y => ix3 (y 0) ⟨((Rect.unit (s := S1024x5) ![128 * k, 0] S128x5.size h6).emb x 0).val / 128, by omega⟩ (y 2))
      (by
        intro y a
        have : (y 1).val < 1 := (y 1).isLt
        fin_cases a <;> simp [e0, d1]; omega)
  · exact readAt_at arg3.view _ _ h2 f3 (fun y => y) (by intro y a; fin_cases a <;> simp)
  · exact readAt_at arg4.view _ _ h4 f4 (fun y => y) (by intro y a; fin_cases a <;> simp)
  · exact readAt_at arg5.view _ _ h5 f5 (fun y => y) (by intro y a; fin_cases a <;> simp)
  · funext a
    fin_cases a
    · ext; simp [e0, d2]
    · exact e1.symm

/-- What the run leaves in the output's staging buffer: `blk2` of what the inputs' buffers read. -/
theorem run2_read (i : grid3.Coords) (arg1 : Memref sig .tc .vmem S160x8x128 .f32) (harg1 : arg1.IsWhole) (arg2 : Memref sig .tc .vmem S1024x200 .f32) (harg2 : arg2.IsWhole) (arg3 : Memref sig .tc .vmem S160x200 .f32) (harg3 : arg3.IsWhole) (arg4 : Memref sig .tc .vmem S200x5 .f32) (harg4 : arg4.IsWhole) (arg5 : Memref sig .tc .vmem S1x5 .f32) (harg5 : arg5.IsWhole) (arg6 : Memref sig .tc .vmem S1024x5 .f32) (harg6 : arg6.IsWhole)
    (f1 : Bf (F := F) c arg1) (f2 : Bf (F := F) c arg2) (f3 : Bf (F := F) c arg3) (f4 : Bf (F := F) c arg4) (f5 : Bf (F := F) c arg5) :
    arg6.view.read (Elt F) (run2 (F := F) c i arg1 harg1 arg2 harg2 arg3 harg3 arg4 harg4 arg5 harg5 arg6 harg6 f1 f2 f3 f4 f5).1
      = blk2 (arg1.view.read (Elt F) f1) (arg2.view.read (Elt F) f2) (arg3.view.read (Elt F) f3) (arg4.view.read (Elt F) f4) (arg5.view.read (Elt F) f5) := by
  unfold run2
  dsimp only
  unfold run2.sl.H6_8
  funext y
  refine View.read_writes_apply_of_pieces (Val := Elt F) (e := .f32) _ _ (blk2 (arg1.view.read (Elt F) f1) (arg2.view.read (Elt F) f2) (arg3.view.read (Elt F) f3) (arg4.view.read (Elt F) f4) (arg5.view.read (Elt F) f5)) _ ?_ y ?_
  · simp only [List.forall_mem_cons, List.forall_mem_nil]
    refine ⟨?_, ?_, ?_, ?_, ?_, ?_, ?_, ?_, ?_⟩
    · exact piece2 c arg1 arg2 arg3 arg4 arg5 f1 f2 f3 f4 f5 7 (by decide) _ _ _ _ _ _
    · exact piece2 c arg1 arg2 arg3 arg4 arg5 f1 f2 f3 f4 f5 6 (by decide) _ _ _ _ _ _
    · exact piece2 c arg1 arg2 arg3 arg4 arg5 f1 f2 f3 f4 f5 5 (by decide) _ _ _ _ _ _
    · exact piece2 c arg1 arg2 arg3 arg4 arg5 f1 f2 f3 f4 f5 4 (by decide) _ _ _ _ _ _
    · exact piece2 c arg1 arg2 arg3 arg4 arg5 f1 f2 f3 f4 f5 3 (by decide) _ _ _ _ _ _
    · exact piece2 c arg1 arg2 arg3 arg4 arg5 f1 f2 f3 f4 f5 2 (by decide) _ _ _ _ _ _
    · exact piece2 c arg1 arg2 arg3 arg4 arg5 f1 f2 f3 f4 f5 1 (by decide) _ _ _ _ _ _
    · exact piece2 c arg1 arg2 arg3 arg4 arg5 f1 f2 f3 f4 f5 0 (by decide) _ _ _ _ _ _
    · exact fun _ h => absurd h List.not_mem_nil
  · exact View.cover_of_tiled _ ![128, 5] rfl y

end Cert.Proof

end
-- ==== Proof.Region2.lean ====
/-
  The region of the second dense kernel: its proof data, the body at every grid point, the array it
  leaves as one function of the arrays it reads, and the region over the TensorCore's buffers.
-/
module

public import proofs.«01_k».proof.Proof.Mlp2
public import proofs.«01_k».proof.Proof.Regions

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MM F

open Idealize.ShloMosaic.Pipeline (Dat Cfg Window BodyObligation cellOf)

/-- The second dense kernel's result, index by index, from the arrays it reads. -/
def out2 (g : S160x128x128.Idx → F .f32) (p : S16384x200.Idx → F .f32) (w : S160x200.Idx → F .f32) (w2 : S200x5.Idx → F .f32) (b : S1x5.Idx → F .f32) :
    S16384x5.Idx → F .f32 := fun x =>
  k3_pay3 (F := F) (fun y => p (ix2 ⟨(x 0).val / 128 * 128 + (y 0).val, by have : (x 0).val < 16384 := (x 0).isLt; have : (y 0).val < 128 := (y 0).isLt; omega⟩ (y 1)))
    (fun y => g (ix3 (y 0) ⟨(x 0).val / 128, by have : (x 0).val < 16384 := (x 0).isLt; omega⟩ (y 2))) w w2 b
    (ix2 ⟨(x 0).val % 128, Nat.mod_lt _ (by decide)⟩ (x 1))

variable (V : Cont F)

/-- What input window `w` holds at point `t`. -/
abbrev held2 (c : Dev nD) (w : Fin 6) (t : Fin cfg3.N) : (cfg3.win w).block.Idx → Elt F (cfg3.win w).elt :=
  Pipeline.heldIn (nD := nD) (τ := τ) (c := c) cfg3 (fun w => V c (Pipeline.arrRef spec3 w)) w t.val t.isLt

/-- The invariant: the scoped buffers the pipeline does not stage. -/
abbrev Φ2 (c : Dev nD) : sProp 𝕄 := Pipeline.scopedRest (Ix := HIx 2) (Name := ℕ) (U := UU) (Lvl := ℕ) (Val := Elt F) spec3 c

/-- The proof data: the arrays at `V`, the inputs' buffers as fetched, the output's at the block
    function; nothing owed; the waits recorded so far at level `b` or below. -/
def dat2 (b : ℕ) (c : Dev nD) : Dat τ (Elt F) (HIx 2) ℕ UU ℕ cfg3 c where
  A w := V c (Pipeline.arrRef spec3 w)
  after w t := match w with
    | ⟨5, _⟩ => blk2 (held2 V c 0 t) (held2 V c 1 t) (held2 V c 2 t) (held2 V c 3 t) (held2 V c 4 t)
    | ⟨0, _⟩ => held2 V c 0 t
    | ⟨1, _⟩ => held2 V c 1 t
    | ⟨2, _⟩ => held2 V c 2 t
    | ⟨3, _⟩ => held2 V c 3 t
    | ⟨4, _⟩ => held2 V c 4 t
  Φ _ := Φ2 c
  q _ := fullShare
  owed _ := 0
  recorded _ := {p | (K (F := F)).lev ((c.tc : Thread nD τ), p.1) p.2 ≤ b}

/-- The proof data of both pipelines, this one's being the one that counts. -/
def pdats2 (b : ℕ) : (p : Fin 2) → (c : Dev nD) → Dat τ (Elt F) (HIx 2) ℕ UU ℕ (Pipeline.pin (pcfgs (F := F)) adm p) c
  | ⟨0, _⟩ => fun c => junkDat c
  | ⟨1, _⟩ => fun c => dat2 V b c

theorem before2 (b : ℕ) (c : Dev nD) (w : Fin 6) (hw : (cfg3.win w).isOut = false) (ha : ∀ t, (dat2 V b c).after w t = held2 V c w t) (t : Fin cfg3.N) (d) :
    (dat2 V b c).before w t d = held2 V c w t :=
  Dat.before_eq_heldIn _ w hw (fun _ => rfl) (fun i a => by fin_cases w <;> rfl) ha t d

/-- The body at a grid point. -/
theorem body2 (b : ℕ) (c : Dev nD) : BodyObligation (dat2 V b c) (defs₀ (F := F)) 𝒱₀ none Set.univ := fun t => by
  rw [bigSep_W3, bigSep_W3]
  rw [show (dat2 V b c).Φ t.castSucc = Φ2 c from rfl, show (dat2 V b c).Φ t.succ = Φ2 c from rfl,
    show (dat2 V b c).owesAt none t.succ = (dat2 V b c).owesAt none t.castSucc from rfl]
  iintro ⟨HΦ, Howes, ⟨%d0, H0⟩, ⟨%d1, H1⟩, ⟨%d2, H2⟩, ⟨%d3, H3⟩, ⟨%d4, H4⟩, ⟨%d5, H5⟩⟩
  ihave H0 := (BIBase.Entails.of_eq (owns_eq c (win3_0.stage (cfg3.slots t 0)) (hstage3_0 ((cfg3.slots t 0).cast nbuf3_0)) _)) $$ H0
  icases H0 with ⟨%f0, %hf0, H0⟩
  ihave H1 := (BIBase.Entails.of_eq (owns_eq c (win3_1.stage (cfg3.slots t 1)) (hstage3_1 ((cfg3.slots t 1).cast nbuf3_1)) _)) $$ H1
  icases H1 with ⟨%f1, %hf1, H1⟩
  ihave H2 := (BIBase.Entails.of_eq (owns_eq c (win3_2.stage (cfg3.slots t 2)) (hstage3_2 ((cfg3.slots t 2).cast nbuf3_2)) _)) $$ H2
  icases H2 with ⟨%f2, %hf2, H2⟩
  ihave H3 := (BIBase.Entails.of_eq (owns_eq c (win3_3.stage (cfg3.slots t 3)) (hstage3_3 ((cfg3.slots t 3).cast nbuf3_3)) _)) $$ H3
  icases H3 with ⟨%f3, %hf3, H3⟩
  ihave H4 := (BIBase.Entails.of_eq (owns_eq c (win3_4.stage (cfg3.slots t 4)) (hstage3_4 ((cfg3.slots t 4).cast nbuf3_4)) _)) $$ H4
  icases H4 with ⟨%f4, %hf4, H4⟩
  ihave H5 := (BIBase.Entails.of_eq (owns_eq c (win3_5.stage (cfg3.slots t 5)) (hstage3_5 ((cfg3.slots t 5).cast nbuf3_5)) _)) $$ H5
  icases H5 with ⟨%f5, %hf5, H5⟩
  rw [before2 V b c 0 rfl fun _ => rfl] at hf0
  rw [before2 V b c 1 rfl fun _ => rfl] at hf1
  rw [before2 V b c 2 rfl fun _ => rfl] at hf2
  rw [before2 V b c 3 rfl fun _ => rfl] at hf3
  rw [before2 V b c 4 rfl fun _ => rfl] at hf4
  have hr := run2_read c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) f0 f1 f2 f3 f4
  iapply ((run2 c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) f0 f1 f2 f3 f4).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iapply (BIBase.Entails.of_eq (owns_eq c (win3_0.stage (cfg3.slots t 0)) (hstage3_0 ((cfg3.slots t 0).cast nbuf3_0)) _).symm)
    iexists f0; isplitr; swap; (· iexact H0); ipureintro; exact hf0
  isplitl [H1]
  · iapply (BIBase.Entails.of_eq (owns_eq c (win3_1.stage (cfg3.slots t 1)) (hstage3_1 ((cfg3.slots t 1).cast nbuf3_1)) _).symm)
    iexists f1; isplitr; swap; (· iexact H1); ipureintro; exact hf1
  isplitl [H2]
  · iapply (BIBase.Entails.of_eq (owns_eq c (win3_2.stage (cfg3.slots t 2)) (hstage3_2 ((cfg3.slots t 2).cast nbuf3_2)) _).symm)
    iexists f2; isplitr; swap; (· iexact H2); ipureintro; exact hf2
  isplitl [H3]
  · iapply (BIBase.Entails.of_eq (owns_eq c (win3_3.stage (cfg3.slots t 3)) (hstage3_3 ((cfg3.slots t 3).cast nbuf3_3)) _).symm)
    iexists f3; isplitr; swap; (· iexact H3); ipureintro; exact hf3
  isplitl [H4]
  · iapply (BIBase.Entails.of_eq (owns_eq c (win3_4.stage (cfg3.slots t 4)) (hstage3_4 ((cfg3.slots t 4).cast nbuf3_4)) _).symm)
    iexists f4; isplitr; swap; (· iexact H4); ipureintro; exact hf4
  iapply (BIBase.Entails.of_eq (owns_eq c (win3_5.stage (cfg3.slots t 5)) (hstage3_5 ((cfg3.slots t 5).cast nbuf3_5)) _).symm)
  iexists _; isplitr; swap; (· iexact H5); ipureintro
  rw [hr]
  exact (congr (congr (congr (congr (congrArg blk2 hf0) hf1) hf2) hf3) hf4)

theorem ptVal2 (t : Fin cfg3.N) : (BitVec.ofNat 32 (grid3.coords t 0).val).toNat = t.val := by
  revert t; decide

theorem held2_0 (c : Dev nD) (t : Fin cfg3.N) :
    held2 V c 0 t = fun y : S160x8x128.Idx => V c main_v3 (ix3 (y 0) ⟨8 * t.val + (y 1).val, by have : t.val < 16 := t.isLt; have : (y 1).val < 8 := (y 1).isLt; omega⟩ (y 2)) := by
  refine (Pipeline.heldIn_of_fetch _ 0 t (fetch3_0 t)).trans ?_
  funext y
  refine congrArg (V c main_v3) (funext fun a => Fin.ext ?_)
  refine (Window.rect_emb_val win3_0 t y a).trans ?_
  fin_cases a
  · show (0#32).toNat * 160 + (y 0).val = (y 0).val
    simp
  · show (BitVec.ofNat 32 (grid3.coords t 0).val).toNat * 8 + (y 1).val = 8 * t.val + (y 1).val
    rw [ptVal2 t, Nat.mul_comm]
  · show (0#32).toNat * 128 + (y 2).val = (y 2).val
    simp

theorem held2_1 (c : Dev nD) (t : Fin cfg3.N) :
    held2 V c 1 t = fun y : S1024x200.Idx => V c main_v31 (ix2 ⟨1024 * t.val + (y 0).val, by have : t.val < 16 := t.isLt; have : (y 0).val < 1024 := (y 0).isLt; omega⟩ (y 1)) := by
  refine (Pipeline.heldIn_of_fetch _ 1 t (fetch3_1 t)).trans ?_
  funext y
  refine congrArg (V c main_v31) (funext fun a => Fin.ext ?_)
  refine (Window.rect_emb_val win3_1 t y a).trans ?_
  fin_cases a
  · show (BitVec.ofNat 32 (grid3.coords t 0).val).toNat * 1024 + (y 0).val = 1024 * t.val + (y 0).val
    rw [ptVal2 t, Nat.mul_comm]
  · show (0#32).toNat * 200 + (y 1).val = (y 1).val
    simp

theorem held2_2 (c : Dev nD) (t : Fin cfg3.N) : held2 V c 2 t = V c main_v32 := by
  have hb : ∀ t : Fin cfg3.N, (cfg3.win 2).fill (cfg3.grid.coords t) (fun _ => Classical.arbitrary _)
      (((cfg3.win 2).blk t).view.read (Elt F) (V c main_v32)) = V c main_v32 := by
    intro t
    funext y
    refine congrArg (V c main_v32) (funext fun a => Fin.ext ?_)
    refine (Window.rect_emb_val win3_2 t y a).trans ?_
    fin_cases a
    · show (0#32).toNat * 160 + (y 0).val = (y 0).val
      simp
    · show (0#32).toNat * 200 + (y 1).val = (y 1).val
      simp
  obtain ⟨n, hn⟩ := t
  induction n with
  | zero => exact hb ⟨0, hn⟩
  | succ n ih =>
    by_cases hf : (cfg3.win 2).fetch ⟨n + 1, hn⟩ = true
    · exact (Pipeline.heldIn_of_fetch _ 2 ⟨n + 1, hn⟩ hf).trans (hb _)
    · exact (Pipeline.heldIn_of_not_fetch _ 2 n hn (Bool.eq_false_iff.mpr hf)).trans (ih (Nat.lt_of_succ_lt hn))

theorem held2_3 (c : Dev nD) (t : Fin cfg3.N) : held2 V c 3 t = V c main_v24 := by
  have hb : ∀ t : Fin cfg3.N, (cfg3.win 3).fill (cfg3.grid.coords t) (fun _ => Classical.arbitrary _)
      (((cfg3.win 3).blk t).view.read (Elt F) (V c main_v24)) = V c main_v24 := by
    intro t
    funext y
    refine congrArg (V c main_v24) (funext fun a => Fin.ext ?_)
    refine (Window.rect_emb_val win3_3 t y a).trans ?_
    fin_cases a
    · show (0#32).toNat * 200 + (y 0).val = (y 0).val
      simp
    · show (0#32).toNat * 5 + (y 1).val = (y 1).val
      simp
  obtain ⟨n, hn⟩ := t
  induction n with
  | zero => exact hb ⟨0, hn⟩
  | succ n ih =>
    by_cases hf : (cfg3.win 3).fetch ⟨n + 1, hn⟩ = true
    · exact (Pipeline.heldIn_of_fetch _ 3 ⟨n + 1, hn⟩ hf).trans (hb _)
    · exact (Pipeline.heldIn_of_not_fetch _ 3 n hn (Bool.eq_false_iff.mpr hf)).trans (ih (Nat.lt_of_succ_lt hn))

theorem held2_4 (c : Dev nD) (t : Fin cfg3.N) : held2 V c 4 t = V c main_v33 := by
  have hb : ∀ t : Fin cfg3.N, (cfg3.win 4).fill (cfg3.grid.coords t) (fun _ => Classical.arbitrary _)
      (((cfg3.win 4).blk t).view.read (Elt F) (V c main_v33)) = V c main_v33 := by
    intro t
    funext y
    refine congrArg (V c main_v33) (funext fun a => Fin.ext ?_)
    refine (Window.rect_emb_val win3_4 t y a).trans ?_
    fin_cases a
    · show (0#32).toNat * 1 + (y 0).val = (y 0).val
      simp
    · show (0#32).toNat * 5 + (y 1).val = (y 1).val
      simp
  obtain ⟨n, hn⟩ := t
  induction n with
  | zero => exact hb ⟨0, hn⟩
  | succ n ih =>
    by_cases hf : (cfg3.win 4).fetch ⟨n + 1, hn⟩ = true
    · exact (Pipeline.heldIn_of_fetch _ 4 ⟨n + 1, hn⟩ hf).trans (hb _)
    · exact (Pipeline.heldIn_of_not_fetch _ 4 n hn (Bool.eq_false_iff.mpr hf)).trans (ih (Nat.lt_of_succ_lt hn))

/-- Where an element of the output's block at point `t` sits in the array. -/
theorem outEmb2 (t : Fin cfg3.N) (y : S1024x5.Idx) :
    (((cfg3.win 5).blk t).view.emb y : S16384x5.Idx) = ix2 ⟨1024 * t.val + (y 0).val, by have : t.val < 16 := t.isLt; have : (y 0).val < 1024 := (y 0).isLt; omega⟩ (y 1) := by
  refine funext fun a => Fin.ext ?_
  refine (Window.rect_emb_val win3_5 t y a).trans ?_
  fin_cases a
  · show (BitVec.ofNat 32 (grid3.coords t 0).val).toNat * 1024 + (y 0).val = 1024 * t.val + (y 0).val
    rw [ptVal2 t, Nat.mul_comm]
  · show (0#32).toNat * 5 + (y 1).val = (y 1).val
    simp

/-- The array the region leaves. -/
theorem arr2 (b : ℕ) (c : Dev nD) : (dat2 V b c).arrAt 5 cfg3.N = out2 (V c main_v3) (V c main_v31) (V c main_v32) (V c main_v24) (V c main_v33) := by
  refine Dat.arrAt_eq_of_cover _ 5 _ (fun t _ => ?_) (fun i => ?_)
  · funext y
    show blk2 (held2 V c 0 t) (held2 V c 1 t) (held2 V c 2 t) (held2 V c 3 t) (held2 V c 4 t) y = out2 (V c main_v3) (V c main_v31) (V c main_v32) (V c main_v24) (V c main_v33) (((cfg3.win 5).blk t).view.emb y)
    rw [outEmb2 t y, held2_0, held2_1, held2_2, held2_3, held2_4]
    have ht : t.val < 16 := t.isLt
    have hy : (y 0).val < 1024 := (y 0).isLt
    have d1 : (1024 * t.val + (y 0).val) / 128 = 8 * t.val + (y 0).val / 128 := by omega
    have d2 : (1024 * t.val + (y 0).val) % 128 = (y 0).val % 128 := by omega
    unfold blk2 out2
    congr 1
    · funext z
      refine congrArg (V c main_v31) (funext fun a => Fin.ext ?_)
      fin_cases a
      · show 1024 * t.val + ((y 0).val / 128 * 128 + (z 0).val) = (1024 * t.val + (y 0).val) / 128 * 128 + (z 0).val
        omega
      · rfl
    · funext z
      refine congrArg (V c main_v3) (funext fun a => Fin.ext ?_)
      fin_cases a
      · rfl
      · exact d1.symm
      · rfl
    · refine funext fun a => Fin.ext ?_
      fin_cases a
      · exact d2.symm
      · rfl
  · have hi : (i 0).val < 16384 := (i 0).isLt
    have hN : (i 0).val / 1024 < cfg3.N := by show (i 0).val / 1024 < 16; omega
    refine ⟨⟨(i 0).val / 1024, hN⟩, flush3_5 _, ?_⟩
    have he := outEmb2 ⟨(i 0).val / 1024, hN⟩ (ix2 ⟨(i 0).val % 1024, Nat.mod_lt _ (by decide)⟩ (i 1))
    have : i = ((cfg3.win 5).blk ⟨(i 0).val / 1024, hN⟩).view.emb (ix2 ⟨(i 0).val % 1024, Nat.mod_lt _ (by decide)⟩ (i 1) : S1024x5.Idx) := by
      rw [he]
      refine funext fun a => Fin.ext ?_
      fin_cases a
      · show (i 0).val = 1024 * ((i 0).val / 1024) + (i 0).val % 1024
        omega
      · rfl
    refine (congrArg (· ∈ ((cfg3.win 5).blk ⟨(i 0).val / 1024, hN⟩).view.set) this).mpr ?_
    exact Finset.mem_map_of_mem _ (Finset.mem_univ _)

variable (Vp : Cont F)

-- unification must unfold plain definitions in the metavariables' types here
set_option backward.isDefEq.respectTransparency.types false in
/-- The region, from the TensorCore's buffers at `V` to the same at `Vp`, which is `V` but for the
    result's array. -/
def region2 (b : ℕ) (R : Dev nD → sProp 𝕄) (hVp_out : ∀ c, Vp c main_v34 = out2 (V c main_v3) (V c main_v31) (V c main_v32) (V c main_v24) (V c main_v33))
    (hVp_ne : ∀ c (r : Ref sig .tc), r ≠ main_v34 → Vp c r = V c r) :
    Pipeline.RegionSeg (pcfgs (F := F)) adm (pdats2 V b) none defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (body2 V b c).loose
  hwaits := Pipeline.hwaits_of_owed_zero _ _ _ _ _ _ 1 fun _ _ => rfl
  pre c := iprop(unscopedBufs c (V c) ∗ R c ∗ ∃ W, ⌜(K (F := F)).WBelow (c.tc : Thread nD τ) W b⌝ ∗ owes (c.tc : Thread nD τ) (0 : CellTallies nD τ sig (HIx 2)) W)
  post c := iprop(unscopedBufs c (Vp c) ∗ R c ∗ ∃ W, ⌜(K (F := F)).WBelow (c.tc : Thread nD τ) W b⌝ ∗ owes (c.tc : Thread nD τ) (0 : CellTallies nD τ sig (HIx 2)) W)
  X _ := BI.emp
  Y _ := BI.emp
  Z c := iprop(Pipeline.unscopedRest (Ix := HIx 2) (Name := ℕ) (U := UU) (Lvl := ℕ) spec3 c (V c) ∗ R c)
  hentry c := by
    rw [Pipeline.ownSems0_none]
    have hsplit := Pipeline.arrays_of_unscopedBufs (p := 1) (pcfgs (F := F)) adm (pdats2 V b) launch3.win launch3.arr_whole c
      ((pdats2 V b 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats2 V b 1 c).Φ 0 = Φ2 c from rfl]
    iintro ⟨-, -, Hr⟩; iexact Hr
  hout c := by
    rw [Pipeline.ownSems0_none, show (pdats2 V b 1 c).Φ (Fin.last _) = Φ2 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (pdats2 V b) ((pdats2 V b 1 c).share_full fun _ => rfl) (V c) (Vp c) ((pdats2 V b 1 c).arrAt · cfg3.N)
      (fun w => by
        fin_cases w
        · exact ((pdats2 V b 1 c).arrAt_in 0 rfl _).trans (hVp_ne c main_v3 (by decide)).symm
        · exact ((pdats2 V b 1 c).arrAt_in 1 rfl _).trans (hVp_ne c main_v31 (by decide)).symm
        · exact ((pdats2 V b 1 c).arrAt_in 2 rfl _).trans (hVp_ne c main_v32 (by decide)).symm
        · exact ((pdats2 V b 1 c).arrAt_in 3 rfl _).trans (hVp_ne c main_v24 (by decide)).symm
        · exact ((pdats2 V b 1 c).arrAt_in 4 rfl _).trans (hVp_ne c main_v33 (by decide)).symm
        · exact (arr2 V b c).trans (hVp_out c).symm)
      (fun r hr => hVp_ne c r fun h => hr (h ▸ Finset.mem_image.mpr ⟨5, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        show (K (F := F)).lev _ none ≤ b
        exact Nat.zero_le _
    iexact HO

end Cert.Proof

end
-- ==== Proof.Vals.lean ====
/-
  The straight lines of `@main` between its calls, and what the TensorCore's arrays hold from one to the next.
-/
module

public import Idealize.ShloMosaic.Lib.StableHlo.RunRead
public import proofs.«01_k».proof.Proof.Calls
public import proofs.«01_k».proof.Proof.Region1
public import proofs.«01_k».proof.Proof.Region2

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.StableHlo (after seq seqK seq_bind_seqK launchContents)

variable {F : FTy → Type} [FloatOps F]

local notation "𝕄" => MM F

/-- The two transposes before the gather calls. -/
def opsA : List (HloOp τ sig (Elt F)) :=
  [ StableHlo.unary main_arg2 main_v0 ((transpose S26x16x100000 [0, 2, 1] · transposes_S26x100000x16_S26x16x100000_0_2_1) : (⟨S26x100000x16, .f32⟩ : BufTy).Contents (Elt F) → (⟨S26x16x100000, .f32⟩ : BufTy).Contents (Elt F)),
    StableHlo.unary main_arg0 main_v1 ((transpose S26x16384 [1, 0] · transposes_S16384x26_S26x16384_1_0) : (⟨S16384x26, .i32⟩ : BufTy).Contents (Elt F) → (⟨S26x16384, .i32⟩ : BufTy).Contents (Elt F)) ]

/-- Between the gather calls and the first dense kernel. -/
def opsB : List (HloOp τ sig (Elt F)) :=
  [ StableHlo.unary main_arg1 main_v4 ((transpose S13x16384 [1, 0] · transposes_S16384x13_S13x16384_1_0) : (⟨S16384x13, .f32⟩ : BufTy).Contents (Elt F) → (⟨S13x16384, .f32⟩ : BufTy).Contents (Elt F)),
    StableHlo.nullary main_cst (constant S_ .f32 0x3727C5AC#32),
    StableHlo.unary main_cst main_v5 (broadcastInDim S13 ![] bcast_S_S13 : (⟨S_, .f32⟩ : BufTy).Contents (Elt F) → (⟨S13, .f32⟩ : BufTy).Contents (Elt F)),
    StableHlo.binary main_arg10 main_v5 main_v6 (addf : (⟨S13, .f32⟩ : BufTy).Contents (Elt F) → (⟨S13, .f32⟩ : BufTy).Contents (Elt F) → (⟨S13, .f32⟩ : BufTy).Contents (Elt F)),
    StableHlo.unary main_v6 main_v7 (Host.rsqrt : (⟨S13, .f32⟩ : BufTy).Contents (Elt F) → (⟨S13, .f32⟩ : BufTy).Contents (Elt F)),
    StableHlo.binary main_arg7 main_v7 main_v8 (mulf : (⟨S13, .f32⟩ : BufTy).Contents (Elt F) → (⟨S13, .f32⟩ : BufTy).Contents (Elt F) → (⟨S13, .f32⟩ : BufTy).Contents (Elt F)),
    StableHlo.unary main_arg3 main_v9 ((extractStridedSlice S13x200 ![416, 0] · slices_S429x200_S13x200_416_0) : (⟨S429x200, .f32⟩ : BufTy).Contents (Elt F) → (⟨S13x200, .f32⟩ : BufTy).Contents (Elt F)),
    StableHlo.unary main_v8 main_v10 (broadcastInDim S13x1 ![0] bcast_S13_S13x1_0 : (⟨S13, .f32⟩ : BufTy).Contents (Elt F) → (⟨S13x1, .f32⟩ : BufTy).Contents (Elt F)),
    StableHlo.unary main_v10 main_v11 (broadcastInDim S13x200 ![0, 1] bcast_S13x1_S13x200_0_1 : (⟨S13x1, .f32⟩ : BufTy).Contents (Elt F) → (⟨S13x200, .f32⟩ : BufTy).Contents (Elt F)),
    StableHlo.binary main_v9 main_v11 main_v12 (mulf : (⟨S13x200, .f32⟩ : BufTy).Contents (Elt F) → (⟨S13x200, .f32⟩ : BufTy).Contents (Elt F) → (⟨S13x200, .f32⟩ : BufTy).Contents (Elt F)),
    StableHlo.binary main_arg9 main_v8 main_v13 (mulf : (⟨S13, .f32⟩ : BufTy).Contents (Elt F) → (⟨S13, .f32⟩ : BufTy).Contents (Elt F) → (⟨S13, .f32⟩ : BufTy).Contents (Elt F)),
    StableHlo.binary main_arg8 main_v13 main_v14 (subf : (⟨S13, .f32⟩ : BufTy).Contents (Elt F) → (⟨S13, .f32⟩ : BufTy).Contents (Elt F) → (⟨S13, .f32⟩ : BufTy).Contents (Elt F)),
    StableHlo.unary main_arg3 main_v15 ((extractStridedSlice S13x200 ![416, 0] · slices_S429x200_S13x200_416_0) : (⟨S429x200, .f32⟩ : BufTy).Contents (Elt F) → (⟨S13x200, .f32⟩ : BufTy).Contents (Elt F)),
    StableHlo.binary main_v14 main_v15 main_v16 ((fun l r => Host.dotGeneral dot_S13_S13x200_S200_0_0_n_1_n_n none l r) : (⟨S13, .f32⟩ : BufTy).Contents (Elt F) → (⟨S13x200, .f32⟩ : BufTy).Contents (Elt F) → (⟨S200, .f32⟩ : BufTy).Contents (Elt F)),
    StableHlo.binary main_arg4 main_v16 main_v17 (addf : (⟨S200, .f32⟩ : BufTy).Contents (Elt F) → (⟨S200, .f32⟩ : BufTy).Contents (Elt F) → (⟨S200, .f32⟩ : BufTy).Contents (Elt F)),
    StableHlo.nullary main_cst_0 (constant S_ .f32 0x3727C5AC#32),
    StableHlo.unary main_cst_0 main_v18 (broadcastInDim S200 ![] bcast_S_S200 : (⟨S_, .f32⟩ : BufTy).Contents (Elt F) → (⟨S200, .f32⟩ : BufTy).Contents (Elt F)),
    StableHlo.binary main_arg14 main_v18 main_v19 (addf : (⟨S200, .f32⟩ : BufTy).Contents (Elt F) → (⟨S200, .f32⟩ : BufTy).Contents (Elt F) → (⟨S200, .f32⟩ : BufTy).Contents (Elt F)),
    StableHlo.unary main_v19 main_v20 (Host.rsqrt : (⟨S200, .f32⟩ : BufTy).Contents (Elt F) → (⟨S200, .f32⟩ : BufTy).Contents (Elt F)),
    StableHlo.binary main_arg11 main_v20 main_v21 (mulf : (⟨S200, .f32⟩ : BufTy).Contents (Elt F) → (⟨S200, .f32⟩ : BufTy).Contents (Elt F) → (⟨S200, .f32⟩ : BufTy).Contents (Elt F)),
    StableHlo.unary main_v21 main_v22 (broadcastInDim S200x1 ![0] bcast_S200_S200x1_0 : (⟨S200, .f32⟩ : BufTy).Contents (Elt F) → (⟨S200x1, .f32⟩ : BufTy).Contents (Elt F)),
    StableHlo.unary main_v22 main_v23 (broadcastInDim S200x5 ![0, 1] bcast_S200x1_S200x5_0_1 : (⟨S200x1, .f32⟩ : BufTy).Contents (Elt F) → (⟨S200x5, .f32⟩ : BufTy).Contents (Elt F)),
    StableHlo.binary main_arg5 main_v23 main_v24 (mulf : (⟨S200x5, .f32⟩ : BufTy).Contents (Elt F) → (⟨S200x5, .f32⟩ : BufTy).Contents (Elt F) → (⟨S200x5, .f32⟩ : BufTy).Contents (Elt F)),
    StableHlo.binary main_arg13 main_v21 main_v25 (mulf : (⟨S200, .f32⟩ : BufTy).Contents (Elt F) → (⟨S200, .f32⟩ : BufTy).Contents (Elt F) → (⟨S200, .f32⟩ : BufTy).Contents (Elt F)),
    StableHlo.binary main_arg12 main_v25 main_v26 (subf : (⟨S200, .f32⟩ : BufTy).Contents (Elt F) → (⟨S200, .f32⟩ : BufTy).Contents (Elt F) → (⟨S200, .f32⟩ : BufTy).Contents (Elt F)),
    StableHlo.binary main_v26 main_arg5 main_v27 ((fun l r => Host.dotGeneral dot_S200_S200x5_S5_0_0_n_1_n_n none l r) : (⟨S200, .f32⟩ : BufTy).Contents (Elt F) → (⟨S200x5, .f32⟩ : BufTy).Contents (Elt F) → (⟨S5, .f32⟩ : BufTy).Contents (Elt F)),
    StableHlo.binary main_arg6 main_v27 main_v28 (addf : (⟨S5, .f32⟩ : BufTy).Contents (Elt F) → (⟨S5, .f32⟩ : BufTy).Contents (Elt F) → (⟨S5, .f32⟩ : BufTy).Contents (Elt F)),
    StableHlo.unary main_arg3 main_v29 ((extractStridedSlice S256x200 ![0, 0] · slices_S429x200_S256x200_0_0) : (⟨S429x200, .f32⟩ : BufTy).Contents (Elt F) → (⟨S256x200, .f32⟩ : BufTy).Contents (Elt F)),
    StableHlo.reshape main_v17 main_v30 (rfl : (.f32 : EltTy) = .f32) shapeCasts_S200_S1x200 ]

/-- Between the two dense kernels. -/
def opsC : List (HloOp τ sig (Elt F)) :=
  [ StableHlo.unary main_arg3 main_v32 ((extractStridedSlice S160x200 ![256, 0] · slices_S429x200_S160x200_256_0) : (⟨S429x200, .f32⟩ : BufTy).Contents (Elt F) → (⟨S160x200, .f32⟩ : BufTy).Contents (Elt F)),
    StableHlo.reshape main_v28 main_v33 (rfl : (.f32 : EltTy) = .f32) shapeCasts_S5_S1x5 ]

/-- `@main` as its lines and its calls. -/
def mainK (d : Dev nD) : Prog (TpuEff nD τ sig (Elt F) (SparseCore.Sig (Pipeline.Sig Λ₀ (Fin 2) fun p => (pcfgs (F := F) p).Adm) 2) .tc) PUnit :=
  seq opsA >>= fun _ => (K (F := F)).run d 0 >>= fun _ => (K (F := F)).run d 1 >>= fun _ =>
    seq opsB >>= fun _ => Prog.lift (.customCall (SparseCore.inner (Pipeline.entry 0)) ()) >>= fun _ =>
    seq opsC >>= fun _ => Prog.lift (.customCall (SparseCore.inner (Pipeline.entry 1)) ()) >>= fun _ => pure (PUnit.unit : PUnit.{1})

theorem main_eq (d : Dev nD) : main (F := F) d = mainK d := by
  unfold mainK
  rw [seq_bind_seqK, seq_bind_seqK, seq_bind_seqK]
  rfl

theorem freshA : ∀ op ∈ (opsA : List (HloOp τ sig (Elt F))), op.fresh = ∅ :=
  List.forall_iff_forall_mem.mp (StableHlo.forall_fresh_of_map rfl)

theorem bufsA : ∀ op ∈ (opsA : List (HloOp τ sig (Elt F))), op.bufs ⊆ Pipeline.ucRefs τ sig := by
  have h : (opsA : List (HloOp τ sig (Elt F))).Forall fun op => op.bufs ⊆ StableHlo.tcRefs τ sig :=
    ⟨StableHlo.unary_bufs_sub .., StableHlo.unary_bufs_sub ..⟩
  exact fun op hop => Pipeline.sub_ucRefs op (List.forall_iff_forall_mem.mp h op hop)

/-- The results of the line. -/
abbrev resA : List (Ref sig .tc) := [main_v0, main_v1]

theorem afterA_ne (W : Valuation τ sig (Elt F)) (r : Ref sig .tc) (hr : r ∉ resA) : after opsA W (Proc.devRef .tc r) = W (Proc.devRef .tc r) :=
  StableHlo.after_of_writes_sub opsA W (StableHlo.forall_writes_sub_of_map rfl) hr

theorem freshB : ∀ op ∈ (opsB : List (HloOp τ sig (Elt F))), op.fresh = ∅ :=
  List.forall_iff_forall_mem.mp (StableHlo.forall_fresh_of_map rfl)

theorem bufsB : ∀ op ∈ (opsB : List (HloOp τ sig (Elt F))), op.bufs ⊆ Pipeline.ucRefs τ sig := by
  have h : (opsB : List (HloOp τ sig (Elt F))).Forall fun op => op.bufs ⊆ StableHlo.tcRefs τ sig :=
    ⟨StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.reshape_bufs_sub ..⟩
  exact fun op hop => Pipeline.sub_ucRefs op (List.forall_iff_forall_mem.mp h op hop)

/-- The results of the line. -/
abbrev resB : List (Ref sig .tc) := [main_v4, main_cst, main_v5, main_v6, main_v7, main_v8, main_v9, main_v10, main_v11, main_v12, main_v13, main_v14, main_v15, main_v16, main_v17, main_cst_0, main_v18, main_v19, main_v20, main_v21, main_v22, main_v23, main_v24, main_v25, main_v26, main_v27, main_v28, main_v29, main_v30]

theorem afterB_ne (W : Valuation τ sig (Elt F)) (r : Ref sig .tc) (hr : r ∉ resB) : after opsB W (Proc.devRef .tc r) = W (Proc.devRef .tc r) :=
  StableHlo.after_of_writes_sub opsB W (StableHlo.forall_writes_sub_of_map rfl) hr

theorem freshC : ∀ op ∈ (opsC : List (HloOp τ sig (Elt F))), op.fresh = ∅ :=
  List.forall_iff_forall_mem.mp (StableHlo.forall_fresh_of_map rfl)

theorem bufsC : ∀ op ∈ (opsC : List (HloOp τ sig (Elt F))), op.bufs ⊆ Pipeline.ucRefs τ sig := by
  have h : (opsC : List (HloOp τ sig (Elt F))).Forall fun op => op.bufs ⊆ StableHlo.tcRefs τ sig :=
    ⟨StableHlo.unary_bufs_sub .., StableHlo.reshape_bufs_sub ..⟩
  exact fun op hop => Pipeline.sub_ucRefs op (List.forall_iff_forall_mem.mp h op hop)

/-- The results of the line. -/
abbrev resC : List (Ref sig .tc) := [main_v32, main_v33]

theorem afterC_ne (W : Valuation τ sig (Elt F)) (r : Ref sig .tc) (hr : r ∉ resC) : after opsC W (Proc.devRef .tc r) = W (Proc.devRef .tc r) :=
  StableHlo.after_of_writes_sub opsC W (StableHlo.forall_writes_sub_of_map rfl) hr

variable (m : (ℓ : Loc nD τ sig) → Buf (Elt F) ℓ)

/-! ## The arrays along `@main` -/

/-- After the transposes, -/
def val1 (d : Dev nD) : Valuation τ sig (Elt F) := after opsA (launchContents m d)
/-- after the gather calls, -/
def val2 (d : Dev nD) : Valuation τ sig (Elt F) :=
  Function.update (Function.update (val1 m d) (Proc.devRef .tc main_v2) (oV0 m d)) (Proc.devRef .tc main_v3) (oV1 m d)
/-- before the first dense kernel, -/
def val3 (d : Dev nD) : Valuation τ sig (Elt F) := after opsB (val2 m d)
/-- after it, -/
def val4 (d : Dev nD) : Valuation τ sig (Elt F) :=
  Function.update (val3 m d) (Proc.devRef .tc main_v31)
    (out1 (val3 m d (Proc.devRef .tc main_v2)) (val3 m d (Proc.devRef .tc main_v4)) (val3 m d (Proc.devRef .tc main_v29)) (val3 m d (Proc.devRef .tc main_v12)) (val3 m d (Proc.devRef .tc main_v30)))
/-- before the second, -/
def val5 (d : Dev nD) : Valuation τ sig (Elt F) := after opsC (val4 m d)
/-- and at the end. -/
def val6 (d : Dev nD) : Valuation τ sig (Elt F) :=
  Function.update (val5 m d) (Proc.devRef .tc main_v34)
    (out2 (val5 m d (Proc.devRef .tc main_v3)) (val5 m d (Proc.devRef .tc main_v31)) (val5 m d (Proc.devRef .tc main_v32)) (val5 m d (Proc.devRef .tc main_v24)) (val5 m d (Proc.devRef .tc main_v33)))

theorem upd_ne (W : Valuation τ sig (Elt F)) {r r' : Ref sig .tc} (v : (Proc.devRef (τ := τ) .tc r').ty.Contents (Elt F)) (h : r ≠ r') :
    Function.update W (Proc.devRef .tc r') v (Proc.devRef .tc r) = W (Proc.devRef .tc r) :=
  Function.update_of_ne (fun e => h (Proc.devRef_injective _ e)) _ _

theorem val1_v0 (d : Dev nD) : val1 m d (Proc.devRef .tc main_v0) = tV m d := by
  unfold val1 opsA
  after_results
  rfl
theorem val1_v1 (d : Dev nD) : val1 m d (Proc.devRef .tc main_v1) = xV m d := by
  unfold val1 opsA
  after_results
  rfl

/-- An array no line and no call writes is as launched at the end. -/
theorem val6_ne (d : Dev nD) (r : Ref sig .tc) (hA : r ∉ resA) (h2 : r ≠ main_v2) (h3 : r ≠ main_v3) (hB : r ∉ resB) (h31 : r ≠ main_v31)
    (hC : r ∉ resC) (h34 : r ≠ main_v34) : val6 m d (Proc.devRef .tc r) = m ((d.tc : Thread nD τ).loc r) := by
  unfold val6
  rw [upd_ne _ _ h34]; unfold val5
  rw [afterC_ne _ r hC]; unfold val4
  rw [upd_ne _ _ h31]; unfold val3
  rw [afterB_ne _ r hB]; unfold val2
  rw [upd_ne _ _ h3, upd_ne _ _ h2]; unfold val1
  rw [afterA_ne _ r hA]

end Cert.Proof

end
-- ==== Proof.Main.lean ====
/-
  `@main` on the TensorCore: its lines, the two gather calls and the two dense kernels, from the arrays as launched to
  the arrays at `val6`.
-/
module

public import proofs.«01_k».proof.Proof.Operands
public import proofs.«01_k».proof.Proof.Vals

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.StableHlo (after seq launchContents held)
open Idealize.ShloMosaic.Pipeline (ucRefs)

variable {F : FTy → Type} [FloatOps F]

local notation "𝕄" => MM F

variable (m : (ℓ : Loc nD τ sig) → Buf (Elt F) ℓ)

/-- The pipelines' ghost state on a device. -/
def pipeGhost (p : Fin 2) (d : Dev nD) : sProp 𝕄 :=
  iprop(Pipeline.cellsGhost (Pipeline.pin (pcfgs (F := F)) adm) EP p d ∗ Pipeline.toksInit (Pipeline.pin (pcfgs (F := F)) adm) EP p d)

theorem now (A : sProp 𝕄) : A ⊢ |={Set.univ}=> A := by
  iintro H
  imodintro
  iexact H

theorem region_deal {A B C E G H I J : sProp 𝕄} (hA : A ⊢ E) (hI : I ⊢ J) : iprop(A ∗ B ∗ C ∗ (G ∗ H) ∗ I) ⊢ iprop(J ∗ B ∗ C ∗ E ∗ G ∗ H) := by
  iintro ⟨HA, HB, HC, ⟨HG, HH⟩, HI⟩
  ihave HE := hA $$ HA
  ihave HJ := hI $$ HI
  isplitl [HJ]; · iexact HJ
  isplitl [HB]; · iexact HB
  isplitl [HC]; · iexact HC
  isplitl [HE]; · iexact HE
  isplitl [HG] <;> iassumption

/-- A dense kernel on the TensorCore. -/
theorem region_run [∀ e, Nonempty (Elt F e)] (κ : GSem nD τ sig → ℕ) (d : Dev nD) (p : Fin 2)
    {pd : (p : Fin 2) → (c : Dev nD) → Pipeline.Dat τ (Elt F) (HIx 2) ℕ UU ℕ ((pcfgs (F := F) p).at (adm p)) c}
    (R : Pipeline.RegionSeg (pcfgs (F := F)) adm pd none defs₀ 𝒱₀ (K (F := F)).L (K (F := F)).lev p) (Φ : PUnit → sProp 𝕄) :
    iprop((K (F := F)).ctx EH (P m) κ ∗ boundary (d.tc : Thread nD τ) ∗ R.pre d ∗ pipeGhost p d ∗ ((boundary (d.tc : Thread nD τ) ∗ R.post d) -∗ Φ ⟨⟩))
      ⊢ wp frame (wpE ((K (F := F)).defs (D (F := F))) 𝒱 (SparseCore.T d) none) Set.univ (Prog.lift (.customCall (SparseCore.inner (Pipeline.entry p)) ())) Φ := by
  have h1 := Pipeline.RegionSeg.wp (pcfgs (F := F)) adm pd none cellOf_inj EP defs₀ 𝒱₀ (K (F := F)).L (K (F := F)).lev R d none (fun u hu => nomatch hu) (fun u => .ret u) Φ
  have h2 := (K (F := F)).wp_liftProg (D (F := F)) 𝒱 (SparseCore.T d) Set.univ none (.op (.customCall (Pipeline.entry p) ()) fun u => .ret u) Φ
  unfold pipeGhost
  refine (region_deal (SparseCore.Cfg.ctx_levAts κ) ?_).trans (h1.trans h2)
  refine BI.wand_intro ?_
  rw [wp_ret]
  exact (BI.wand_elim (BI.Entails.refl _)).trans (now _)

/-! ## The TensorCore's state between its steps -/

/-- What the TensorCore holds before a step: its handshakes at `n` calls made, its buffers at `W`, and `G` besides. -/
def St (κ : GSem nD τ sig → ℕ) (d : Dev nD) (n : ℕ) (W : Valuation τ sig (Elt F)) (G : sProp 𝕄) : sProp 𝕄 :=
  iprop((K (F := F)).ctx EH (P m) κ ∗ (K (F := F)).tcSt EH d n ∗ boundary (d.tc : Thread nD τ) ∗ held (d.tc : Thread nD τ) (ucRefs τ sig) W ∗ G)

/-- A straight line. -/
theorem line_step (κ : GSem nD τ sig → ℕ) (d : Dev nD) (n : ℕ) (W : Valuation τ sig (Elt F)) (G : sProp 𝕄) (ops : List (HloOp τ sig (Elt F)))
    (hS : ∀ op ∈ ops, op.bufs ⊆ ucRefs τ sig) (hf : ∀ op ∈ ops, op.fresh = ∅) :
    St m κ d n W G ⊢ wp frame (wpE ((K (F := F)).defs (D (F := F))) 𝒱 (SparseCore.T d) none) Set.univ (seq ops) fun _ => St m κ d n (after ops W) G := by
  have h := StableHlo.wp_seq (defs := (K (F := F)).defs (D (F := F))) 𝒱 none Set.univ d (ucRefs τ sig) (fun u => Pure.pure u) (K := fun _ => St m κ d n (after ops W) G) ops hS hf W
  rw [bind_pure] at h
  unfold St at h ⊢
  iintro ⟨Hctx, Hst, Hb, HW, HG⟩
  iapply h $$ [Hb HW]
  · isplitl [Hb] <;> iassumption
  iintro ⟨Hb, HW⟩
  rw [wp_pure]
  imodintro
  isplitl [Hctx]; · iexact Hctx
  isplitl [Hst]; · iexact Hst
  isplitl [Hb]; · iexact Hb
  isplitl [HW] <;> iassumption

/-- A gather call. -/
theorem call_step (κ : GSem nD τ sig → ℕ) (d : Dev nD) (q : Fin 2) (W W' : Valuation τ sig (Elt F)) (G R : sProp 𝕄)
    (h : held (d.tc : Thread nD τ) (ucRefs τ sig) W ⊢ iprop(((tLoc d ↦{fullShare} tV m d) ∗ (xLoc d ↦{fullShare} xV m d) ∗ outAny q d) ∗ R))
    (h' : iprop(((tLoc d ↦{fullShare} tV m d) ∗ (xLoc d ↦{fullShare} xV m d) ∗ outDone m q d) ∗ R) ⊢ held (d.tc : Thread nD τ) (ucRefs τ sig) W') :
    St m κ d q.val W G ⊢ wp frame (wpE ((K (F := F)).defs (D (F := F))) 𝒱 (SparseCore.T d) none) Set.univ ((K (F := F)).run d q) fun _ => St m κ d (q.val + 1) W' G := by
  unfold St
  iintro ⟨#Hctx, Hst, Hb, HW, HG⟩
  ihave H := h $$ HW
  icases H with ⟨Hops, HR⟩
  iapply (call_run m κ q d _) $$ [Hst Hops Hb HR HG]
  isplitr; · iexact Hctx
  isplitl [Hst]; · iexact Hst
  isplitl [Hops]; · iexact Hops
  iintro ⟨Hst, Hops⟩
  ihave HW := h' $$ [Hops HR]
  · isplitl [Hops] <;> iassumption
  isplitr; · iexact Hctx
  isplitl [Hst]; · iexact Hst
  isplitl [Hb]; · iexact Hb
  isplitl [HW] <;> iassumption

theorem Otc_two (d : Dev nD) : (K (F := F)).Otc d 2 = 0 := by
  unfold SparseCore.Cfg.Otc
  simp

/-- After both calls the TensorCore owes nothing, its pending waits below a bound. -/
theorem tcSt_two (d : Dev nD) : ∃ (b : ℕ) (R : sProp 𝕄),
    (K (F := F)).tcSt EH d 2 = iprop((∃ W, ⌜(K (F := F)).WBelow (d.tc : Thread nD τ) W b⌝ ∗ owes (d.tc : Thread nD τ) (0 : CellTallies nD τ sig (HIx 2)) W) ∗ R) := by
  unfold SparseCore.Cfg.tcSt
  rw [Otc_two]
  exact ⟨_, _, rfl⟩

/-- A dense kernel. -/
theorem region_step [∀ e, Nonempty (Elt F e)] (κ : GSem nD τ sig → ℕ) (d : Dev nD) (p : Fin 2) (W W' : Valuation τ sig (Elt F)) (G : sProp 𝕄)
    {pd : ℕ → (p : Fin 2) → (c : Dev nD) → Pipeline.Dat τ (Elt F) (HIx 2) ℕ UU ℕ ((pcfgs (F := F) p).at (adm p)) c}
    (R : (b : ℕ) → Pipeline.RegionSeg (pcfgs (F := F)) adm (pd b) none defs₀ 𝒱₀ (K (F := F)).L (K (F := F)).lev p)
    (hpre : ∀ b, iprop(held (d.tc : Thread nD τ) (ucRefs τ sig) W ∗ emp ∗ ∃ W, ⌜(K (F := F)).WBelow (d.tc : Thread nD τ) W b⌝ ∗ owes (d.tc : Thread nD τ) (0 : CellTallies nD τ sig (HIx 2)) W) ⊢ (R b).pre d)
    (hpost : ∀ b, (R b).post d ⊢ iprop(held (d.tc : Thread nD τ) (ucRefs τ sig) W' ∗ emp ∗ ∃ W, ⌜(K (F := F)).WBelow (d.tc : Thread nD τ) W b⌝ ∗ owes (d.tc : Thread nD τ) (0 : CellTallies nD τ sig (HIx 2)) W)) :
    St m κ d 2 W iprop(pipeGhost p d ∗ G)
      ⊢ wp frame (wpE ((K (F := F)).defs (D (F := F))) 𝒱 (SparseCore.T d) none) Set.univ (Prog.lift (.customCall (SparseCore.inner (Pipeline.entry p)) ())) fun _ => St m κ d 2 W' G := by
  obtain ⟨b, Rest, e⟩ := tcSt_two (F := F) d
  unfold St
  rw [e]
  iintro ⟨#Hctx, ⟨HO, HR⟩, Hb, HW, Hg, HG⟩
  iapply (region_run m κ d p (R b) _) $$ [HO HR Hb HW Hg HG]
  isplitr; · iexact Hctx
  isplitl [Hb]; · iexact Hb
  isplitl [HW HO]
  · iapply (hpre b)
    isplitl [HW]; · iexact HW
    isplitr; · iempintro
    iexact HO
  isplitl [Hg]; · iexact Hg
  iintro ⟨Hb, Hpost⟩
  ihave H := (hpost b) $$ Hpost
  icases H with ⟨HW, -, HO⟩
  isplitr; · iexact Hctx
  isplitl [HO HR]; · isplitl [HO] <;> iassumption
  isplitl [Hb]; · iexact Hb
  isplitl [HW] <;> iassumption

/-! ## The arrays the gather calls work on, taken out and put back -/

/-- The four arrays, as device buffers. -/
def four : Finset (DevRef τ sig) := {Proc.devRef .tc main_v0, Proc.devRef .tc main_v1, Proc.devRef .tc main_v2, Proc.devRef .tc main_v3}

theorem four_sub : four ⊆ ucRefs τ sig := by
  have h : ∀ r : Ref sig .tc, (Proc.devRef .tc r : DevRef τ sig).isScoped = false → Proc.devRef .tc r ∈ ucRefs τ sig := fun r hr =>
    Finset.mem_filter.mpr ⟨StableHlo.devRef_mem_tcRefs r, by rw [hr]; decide⟩
  intro b hb
  simp only [four, Finset.mem_insert, Finset.mem_singleton] at hb
  rcases hb with rfl | rfl | rfl | rfl <;> exact h _ rfl

theorem held_four (d : Dev nD) (W : Valuation τ sig (Elt F)) :
    (held (d.tc : Thread nD τ) (ucRefs τ sig) W : sProp 𝕄)
      = iprop(((tLoc d ↦{fullShare} W (Proc.devRef .tc main_v0)) ∗ (xLoc d ↦{fullShare} W (Proc.devRef .tc main_v1))
          ∗ (oLoc0 d ↦{fullShare} W (Proc.devRef .tc main_v2)) ∗ (oLoc1 d ↦{fullShare} W (Proc.devRef .tc main_v3)))
        ∗ held (d.tc : Thread nD τ) (ucRefs τ sig \ four) W) := by
  have hn : ∀ r r' : Ref sig .tc, r ≠ r' → (Proc.devRef .tc r : DevRef τ sig) ≠ Proc.devRef .tc r' := fun r r' h e => h (Proc.devRef_injective _ e)
  have h0 : (Proc.devRef .tc main_v0 : DevRef τ sig) ∉ ({Proc.devRef .tc main_v1, Proc.devRef .tc main_v2, Proc.devRef .tc main_v3} : Finset (DevRef τ sig)) := by
    simp only [Finset.mem_insert, Finset.mem_singleton, not_or]
    exact ⟨hn _ _ (by decide), hn _ _ (by decide), hn _ _ (by decide)⟩
  have h1 : (Proc.devRef .tc main_v1 : DevRef τ sig) ∉ ({Proc.devRef .tc main_v2, Proc.devRef .tc main_v3} : Finset (DevRef τ sig)) := by
    simp only [Finset.mem_insert, Finset.mem_singleton, not_or]
    exact ⟨hn _ _ (by decide), hn _ _ (by decide)⟩
  have h2 : (Proc.devRef .tc main_v2 : DevRef τ sig) ∉ ({Proc.devRef .tc main_v3} : Finset (DevRef τ sig)) := by
    simp only [Finset.mem_singleton]
    exact hn _ _ (by decide)
  rw [StableHlo.held_sub_split _ four_sub W]
  congr 1
  unfold held four
  rw [SparseCore.bigSep_insert' h0, SparseCore.bigSep_insert' h1, SparseCore.bigSep_insert' h2, bigSep_singleton]

theorem rest_upd (d : Dev nD) (W : Valuation τ sig (Elt F)) (r : Ref sig .tc) (hr : Proc.devRef .tc r ∈ four) (v : (Proc.devRef (τ := τ) .tc r).ty.Contents (Elt F)) :
    (held (d.tc : Thread nD τ) (ucRefs τ sig \ four) W : sProp 𝕄) = held (d.tc : Thread nD τ) (ucRefs τ sig \ four) (Function.update W (Proc.devRef .tc r) v) :=
  StableHlo.held_congr _ fun b hb => (Function.update_of_ne (fun e => (Finset.mem_sdiff.mp hb).2 (by rw [e]; exact hr)) _ _).symm

/-- After the first gather call. -/
def val1' (d : Dev nD) : Valuation τ sig (Elt F) := Function.update (val1 m d) (Proc.devRef .tc main_v2) (oV0 m d)

theorem call0_step (κ : GSem nD τ sig → ℕ) (d : Dev nD) (G : sProp 𝕄) :
    St m κ d 0 (val1 m d) G ⊢ wp frame (wpE ((K (F := F)).defs (D (F := F))) 𝒱 (SparseCore.T d) none) Set.univ ((K (F := F)).run d 0) fun _ => St m κ d 1 (val1' m d) G := by
  refine call_step m κ d 0 _ _ G iprop((oLoc1 d ↦{fullShare} val1 m d (Proc.devRef .tc main_v3)) ∗ held (d.tc : Thread nD τ) (ucRefs τ sig \ four) (val1 m d)) ?_ ?_
  · rw [held_four, val1_v0, val1_v1]
    unfold outAny
    iintro ⟨⟨H0, H1, H2, H3⟩, HR⟩
    isplitl [H0 H1 H2]
    · isplitl [H0]; · iexact H0
      isplitl [H1]; · iexact H1
      iexists _; iexact H2
    isplitl [H3] <;> iassumption
  · rw [held_four, rest_upd d (val1 m d) main_v2 (by simp [four]) (oV0 m d)]
    have e0 : val1' m d (Proc.devRef .tc main_v0) = tV m d := (upd_ne _ _ (by decide)).trans (val1_v0 m d)
    have e1 : val1' m d (Proc.devRef .tc main_v1) = xV m d := (upd_ne _ _ (by decide)).trans (val1_v1 m d)
    have e2 : val1' m d (Proc.devRef .tc main_v2) = oV0 m d := Function.update_self _ _ _
    have e3 : val1' m d (Proc.devRef .tc main_v3) = val1 m d (Proc.devRef .tc main_v3) := upd_ne _ _ (by decide)
    rw [e0, e1, e2, e3]
    unfold outDone val1'
    iintro ⟨⟨H0, H1, H2⟩, H3, HR⟩
    isplitl [H0 H1 H2 H3]
    · isplitl [H0]; · iexact H0
      isplitl [H1]; · iexact H1
      isplitl [H2] <;> iassumption
    iexact HR

theorem call1_step (κ : GSem nD τ sig → ℕ) (d : Dev nD) (G : sProp 𝕄) :
    St m κ d 1 (val1' m d) G ⊢ wp frame (wpE ((K (F := F)).defs (D (F := F))) 𝒱 (SparseCore.T d) none) Set.univ ((K (F := F)).run d 1) fun _ => St m κ d 2 (val2 m d) G := by
  have e0 : val1' m d (Proc.devRef .tc main_v0) = tV m d := (upd_ne _ _ (by decide)).trans (val1_v0 m d)
  have e1 : val1' m d (Proc.devRef .tc main_v1) = xV m d := (upd_ne _ _ (by decide)).trans (val1_v1 m d)
  refine call_step m κ d 1 _ _ G iprop((oLoc0 d ↦{fullShare} val1' m d (Proc.devRef .tc main_v2)) ∗ held (d.tc : Thread nD τ) (ucRefs τ sig \ four) (val1' m d)) ?_ ?_
  · rw [held_four, e0, e1]
    unfold outAny
    iintro ⟨⟨H0, H1, H2, H3⟩, HR⟩
    isplitl [H0 H1 H3]
    · isplitl [H0]; · iexact H0
      isplitl [H1]; · iexact H1
      iexists _; iexact H3
    isplitl [H2] <;> iassumption
  · rw [held_four, rest_upd d (val1' m d) main_v3 (by simp [four]) (oV1 m d)]
    have f0 : val2 m d (Proc.devRef .tc main_v0) = tV m d := (upd_ne _ _ (by decide)).trans e0
    have f1 : val2 m d (Proc.devRef .tc main_v1) = xV m d := (upd_ne _ _ (by decide)).trans e1
    have f2 : val2 m d (Proc.devRef .tc main_v2) = val1' m d (Proc.devRef .tc main_v2) := upd_ne _ _ (by decide)
    have f3 : val2 m d (Proc.devRef .tc main_v3) = oV1 m d := Function.update_self _ _ _
    rw [f0, f1, f2, f3]
    unfold outDone
    iintro ⟨⟨H0, H1, H3⟩, H2, HR⟩
    isplitl [H0 H1 H2 H3]
    · isplitl [H0]; · iexact H0
      isplitl [H1]; · iexact H1
      isplitl [H2] <;> iassumption
    iexact HR

/-! ## `@main` -/

/-- A valuation as the regions take it. -/
abbrev cont (W : Dev nD → Valuation τ sig (Elt F)) : Cont F := fun c b => W c (Proc.devRef .tc b)

theorem region0_step [∀ e, Nonempty (Elt F e)] (κ : GSem nD τ sig → ℕ) (d : Dev nD) (G : sProp 𝕄) :
    St m κ d 2 (val3 m d) iprop(pipeGhost 0 d ∗ G)
      ⊢ wp frame (wpE ((K (F := F)).defs (D (F := F))) 𝒱 (SparseCore.T d) none) Set.univ (Prog.lift (.customCall (SparseCore.inner (Pipeline.entry 0)) ())) fun _ => St m κ d 2 (val4 m d) G := by
  refine region_step m κ d 0 _ _ G (fun b => region1 (cont (val3 m)) (cont (val4 m)) b (fun _ => iprop(emp)) (fun c => Function.update_self _ _ _) (fun c r hr => upd_ne _ _ hr)) ?_ ?_
  · intro b
    rw [← Pipeline.unscopedBufs_held]
    exact BI.Entails.refl _
  · intro b
    rw [← Pipeline.unscopedBufs_held]
    exact BI.Entails.refl _

theorem region1_step [∀ e, Nonempty (Elt F e)] (κ : GSem nD τ sig → ℕ) (d : Dev nD) (G : sProp 𝕄) :
    St m κ d 2 (val5 m d) iprop(pipeGhost 1 d ∗ G)
      ⊢ wp frame (wpE ((K (F := F)).defs (D (F := F))) 𝒱 (SparseCore.T d) none) Set.univ (Prog.lift (.customCall (SparseCore.inner (Pipeline.entry 1)) ())) fun _ => St m κ d 2 (val6 m d) G := by
  refine region_step m κ d 1 _ _ G (fun b => region2 (cont (val5 m)) (cont (val6 m)) b (fun _ => iprop(emp)) (fun c => Function.update_self _ _ _) (fun c r hr => upd_ne _ _ hr)) ?_ ?_
  · intro b
    rw [← Pipeline.unscopedBufs_held]
    exact BI.Entails.refl _
  · intro b
    rw [← Pipeline.unscopedBufs_held]
    exact BI.Entails.refl _

theorem main_run [∀ e, Nonempty (Elt F e)] (κ : GSem nD τ sig → ℕ) (d : Dev nD) (G : sProp 𝕄) :
    St m κ d 0 (launchContents m d) iprop(pipeGhost 0 d ∗ pipeGhost 1 d ∗ G)
      ⊢ wp frame (wpE ((K (F := F)).defs (D (F := F))) 𝒱 (SparseCore.T d) none) Set.univ (main (F := F) d) fun _ => St m κ d 2 (val6 m d) G := by
  rw [main_eq]
  unfold mainK
  refine wp_then (line_step m κ d 0 _ _ opsA bufsA freshA) fun _ => ?_
  refine wp_then (call0_step m κ d _) fun _ => ?_
  refine wp_then (call1_step m κ d _) fun _ => ?_
  refine wp_then (line_step m κ d 2 _ _ opsB bufsB freshB) fun _ => ?_
  refine wp_then (region0_step m κ d _) fun _ => ?_
  refine wp_then (line_step m κ d 2 _ _ opsC bufsC freshC) fun _ => ?_
  refine wp_then (region1_step m κ d _) fun _ => ?_
  rw [wp_pure]
  exact now _

end Cert.Proof

end
-- ==== Proof.Launch.lean ====
/-
  The whole program's run: what the launch deals each device's TensorCore, and where every array ends.
-/
module

public import proofs.«01_k».proof.Proof.Main

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.StableHlo (after seq launchContents held)
open Idealize.ShloMosaic.Pipeline (ucRefs)
open Idealize.ShloMosaic.Rounds

variable {F : FTy → Type} [FloatOps F]

local notation "𝕄" => MM F

variable (m : (ℓ : Loc nD τ sig) → Buf (Elt F) ℓ) (ρ : Dev nD → PrngReg)

/-! ## What the launch deals -/

/-- The launch's ghost state: the handshakes' rounds, the pipelines' rounds, no transfer begun. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem ownU_split (a : UH) (b : UP) : (ownU (a, (b, 1)) : sProp 𝕄) ⊢ iprop(BI.own (EH a) ∗ BI.own (EP b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-- A device's pipelines' ghost state. -/
def dealt (d : Dev nD) : sProp 𝕄 := bigSep Finset.univ fun p : Fin 2 => pipeGhost p d

theorem dealt_two (d : Dev nD) : (dealt d : sProp 𝕄) ⊢ iprop(pipeGhost 0 d ∗ pipeGhost 1 d) := by
  unfold dealt
  rw [show (Finset.univ : Finset (Fin 2)) = {0, 1} by decide, SparseCore.bigSep_insert' (by decide), bigSep_singleton]

theorem pipes_fund :
    (BI.own (EP (initOf (Pipeline.cells (Pipeline.pin (pcfgs (F := F)) adm) cellOf_inj) (Pipeline.launchToks (Pipeline.pin (pcfgs (F := F)) adm) cellOf_inj))) : sProp 𝕄)
      ⊢ iprop(|==> bigSep Finset.univ fun d : Dev nD => dealt d) := by
  have h := Pipeline.fund_ghost (Pipeline.pin (pcfgs (F := F)) adm) (EP (F := F)) cellOf_inj
  unfold dealt pipeGhost
  simp only [bigSep_sep']
  exact h

theorem hu₀ : (ownU (u₀ (F := F)) : sProp 𝕄)
    ⊢ |={Set.univ}=> iprop(BI.own (EH (initOf (K (F := F)).hsCells (K (F := F)).hsToks)) ∗ (bigSep Finset.univ fun d : Dev nD => dealt d)
        ∗ bigSep Finset.univ fun thr : Thread nD τ => bigSep Finset.univ fun q : Fin 2 => (P m).x q thr) := by
  unfold u₀
  iintro Hu
  ihave H := (ownU_split _ _) $$ Hu
  icases H with ⟨HH, HP⟩
  imod (pipes_fund (F := F)) $$ HP with Hd
  imodintro
  isplitl [HH]; · iexact HH
  isplitl [Hd]; · iexact Hd
  have e : (bigSep Finset.univ fun thr : Thread nD τ => bigSep Finset.univ fun q : Fin 2 => (P m).x q thr) = (iprop(emp) : sProp 𝕄) := by
    rw [show (fun thr : Thread nD τ => bigSep Finset.univ fun q : Fin 2 => (P m).x q thr) = fun _ => (iprop(emp) : sProp 𝕄) from
      funext fun _ => bigSep_emp_const _]
    exact bigSep_emp_const _
  rw [e]
  iempintro

/-! ## The TensorCore's run as the launch asks for it -/

/-- What a device's TensorCore ends holding. -/
def FIN (d : Dev nD) : sProp 𝕄 := held (d.tc : Thread nD τ) (ucRefs τ sig) (val6 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt d)
      ⊢ wp frame (wpE ((K (F := F)).defs (D (F := F))) 𝒱 (SparseCore.T d) none) Set.univ (main d)
          fun _ => iprop((K (F := F)).tcSt EH d 2 ∗ FIN m d ∗ (K (F := F)).tcEnd d) := by
  have h := main_run m κ d ((K (F := F)).tcSems0 d)
  have hpre : iprop((K (F := F)).ctx EH (P m) κ ∗ (K (F := F)).tcSt EH d 0 ∗ (K (F := F)).tcRes m ρ d ∗ dealt d)
      ⊢ St m κ d 0 (launchContents m d) iprop(pipeGhost 0 d ∗ pipeGhost 1 d ∗ (K (F := F)).tcSems0 d) := by
    unfold SparseCore.Cfg.tcRes St
    rw [← Pipeline.unscopedBufs_held]
    iintro ⟨Hctx, Hst, ⟨Hb, Hbufs, Hts, -⟩, Hd⟩
    ihave Hd := (dealt_two d) $$ Hd
    icases Hd with ⟨H0, H1⟩
    isplitl [Hctx]; · iexact Hctx
    isplitl [Hst]; · iexact Hst
    isplitl [Hb]; · iexact Hb
    isplitl [Hbufs]; · iexact Hbufs
    isplitl [H0]; · iexact H0
    isplitl [H1] <;> iassumption
  have hpost : St m κ d 2 (val6 m d) ((K (F := F)).tcSems0 d) ⊢ iprop((K (F := F)).tcSt EH d 2 ∗ FIN m d ∗ (K (F := F)).tcEnd d) := by
    unfold SparseCore.Cfg.tcEnd St FIN
    iintro ⟨-, Hst, Hb, HW, Hts⟩
    isplitl [Hst]; · iexact Hst
    isplitl [HW]; · iexact HW
    isplitl [Hb] <;> iassumption
  exact hpre.trans (h.trans (wp_mono frame _ _ fun _ => hpost))

/-! ## Where the arrays end -/

/-- Every array of the TensorCore at its final value. -/
def fq (d : Dev nD) (s' : Phys nD τ sig (Elt F)) : Prop :=
  ∀ r : Ref sig .tc, (Proc.devRef .tc r : DevRef τ sig).isScoped = false → s'.mem.mem ((d.tc : Thread nD τ).loc r) = val6 m d (Proc.devRef .tc r)

theorem hfin (d : Dev nD) (s' : Phys nD τ sig (Elt F)) : iprop(FIN m d ∗ SI s') ⊢ (⌜fq m d s'⌝ : sProp 𝕄) := by
  have one : ∀ r : {r : Ref sig .tc // (Proc.devRef .tc r : DevRef τ sig).isScoped = false},
      iprop(FIN m d ∗ SI s') ⊢ (⌜s'.mem.mem ((d.tc : Thread nD τ).loc r.1) = val6 m d (Proc.devRef .tc r.1)⌝ : sProp 𝕄) := by
    rintro ⟨r, hr⟩
    have hmem : (Proc.devRef .tc r : DevRef τ sig) ∈ ucRefs τ sig := Finset.mem_filter.mpr ⟨StableHlo.devRef_mem_tcRefs r, by rw [hr]; decide⟩
    unfold FIN
    rw [StableHlo.held_sub_split _ (Finset.singleton_subset_iff.mpr hmem)]
    rw [show (held (d.tc : Thread nD τ) {(Proc.devRef .tc r : DevRef τ sig)} (val6 m d) : sProp 𝕄) = ((d.tc : Thread nD τ).loc r ↦{fullShare} val6 m d (Proc.devRef .tc r)) from bigSep_singleton]
    iintro ⟨⟨H, -⟩, HSI⟩
    ihave H := (SI_pointsTo_agree (st := s') (ℓ := (d.tc : Thread nD τ).loc r) (I := Finset.univ) (q := fullShare) (f := val6 m d (Proc.devRef .tc r))) $$ [HSI H]
    · isplitl [HSI] <;> iassumption
    icases H with %h
    ipureintro
    exact funext fun i => h i (Finset.mem_univ i)
  exact ((forall_intro one).trans (Laws.pure_forall (φ := fun r : {r : Ref sig .tc // (Proc.devRef .tc r : DevRef τ sig).isScoped = false} => s'.mem.mem ((d.tc : Thread nD τ).loc r.1) = val6 m d (Proc.devRef .tc r.1))).2).trans
    (Laws.pure_mono fun h r hr => h ⟨r, hr⟩)

/-- Every array at its final value, every counter at zero. -/
def QC : PUnit × MemSt nD τ sig (Elt F) → Prop := fun r =>
  (∀ (d : Dev nD) (b : Ref sig .tc), (Proc.devRef .tc b : DevRef τ sig).isScoped = false → r.2.mem ((d.tc : Thread nD τ).loc b) = val6 m d (Proc.devRef .tc b)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => SparseCore.Cfg.VecSplit.of_plain (vecSplit m q))
    m ρ main dealt (FIN m) (u₀ (F := F)) (sep_elim_left.trans (hu₀ m)) (hmain m ρ) (fq m) (hfin m) (QC m) (fun _ h hz => ⟨h, hz⟩)

end Cert.Proof

end
-- ==== Proof.Pre.lean ====
/-
  What the two predicates say of the arguments: every index names a row of its table, and — for `regular` — which
  entries are finite and which sums are positive.
-/
module

public import Idealize.ShloMosaic.Lib.ReduceAll
public import Idealize.ShloMosaic.Lib.WordCmp
public import Idealize.ShloMosaic.Lib.Pointwise
public import proofs.«01_k».proof.Proof.Calls
public import proofs.«01_k».proof.Proof.Gen.Pre_valid
public import proofs.«01_k».proof.Proof.Gen.Pre_regular

@[expose] public section

noncomputable section

namespace Cert.Proof

open Cert.KernelIdeal Cert.KernelIdeal.Gen

open Idealize.ShloMosaic
open Idealize.ShloMosaic.ValueIdx

variable {F : FTy → Type} [FloatOps F]

instance : Subsingleton S_.Idx := ⟨fun _ _ => funext fun a => a.elim0⟩

/-- An index array whose every word tests as at least 0 and below 100000. -/
theorem range_of (x : IVec S16384x26 32) (init : IVec S_ 1) (hb : S_.BroadcastsInDim S16384x26 (![] : Fin 0 → Fin S16384x26.rank))
    (h : S16384x26.ReducesTo [0, 1] S_) (hu : 0 < S_.numel) (j : S_.Idx)
    (e : Host.reduce IntOp.andi (andi (cmpi .sge x (broadcastInDim S16384x26 ![] hb (constantI S_ 32 0#32)))
      (cmpi .slt x (broadcastInDim S16384x26 ![] hb (constantI S_ 32 100000#32)))) init h hu j = 1#1) (i : S16384x26.Idx) :
    (x i).toNat < 100000 := by
  have e' : IntOp.andi (IntOp.cmpi .sge (x i) 0#32) (IntOp.cmpi .slt (x i) (BitVec.ofNat 32 100000)) = 1#1 :=
    Host.reduce_andi_all _ _ _ _ _ e i
  rw [WordCmp.andi_sge_zero_slt_ofNat (by decide)] at e'
  by_contra hn
  simp [hn] at e'

/-- A value that is a real number. -/
def IsReal (x : EReal) : Prop := ∃ r : ℝ, x = (r : EReal)

/-- An array whose every magnitude tests below infinity is of real numbers. -/
theorem real_of {s : Shape} {axes : List (Fin s.rank)} (x : FVec Ideal s .f32) (init : IVec S_ 1)
    (hb : S_.BroadcastsInDim s (![] : Fin 0 → Fin s.rank)) (h : s.ReducesTo axes S_) (hu : 0 < S_.numel) (j : S_.Idx)
    (e : Host.reduce IntOp.andi (cmpf .olt (Host.absf x) (broadcastInDim s ![] hb (constant S_ .f32 0x7F800000#32))) init h hu j = 1#1)
    (i : s.Idx) : IsReal (x i) := by
  have e' : Ideal.cmp .olt (max (x i : EReal) (-(x i : EReal))) (Ideal.ofBits .f32 0x7F800000#32) = 1#1 :=
    Host.reduce_andi_all _ _ _ _ _ e i
  have htop : Ideal.ofBits .f32 0x7F800000#32 = (⊤ : EReal) := by simp [Ideal.ofBits, Ideal.ieee]
  rw [htop] at e'
  have hlt : max (x i : EReal) (-(x i : EReal)) < ⊤ := (Ideal.cmp_olt_eq_one _ _).1 e'
  rw [max_lt_iff] at hlt
  refine ⟨(x i : EReal).toReal, (EReal.coe_toReal hlt.1.ne ?_).symm⟩
  intro hh
  rw [hh] at hlt
  exact absurd hlt.2 (by simp)

/-- The constant that the square roots' arguments are raised by. -/
def eps : EReal := Ideal.ofBits .f32 0x3727C5AC#32

/-- An array that, raised by `eps`, tests above zero everywhere. -/
theorem pos_of {s : Shape} {axes : List (Fin s.rank)} (x : FVec Ideal s .f32) (init : IVec S_ 1)
    (hb hb' : S_.BroadcastsInDim s (![] : Fin 0 → Fin s.rank)) (h : s.ReducesTo axes S_) (hu : 0 < S_.numel) (j : S_.Idx)
    (e : Host.reduce IntOp.andi (cmpf .ogt (addf x (broadcastInDim s ![] hb (constant S_ .f32 0x3727C5AC#32)))
      (broadcastInDim s ![] hb' (constant S_ .f32 0x00000000#32))) init h hu j = 1#1)
    (i : s.Idx) : (0 : EReal) < x i + eps := by
  have e' : Ideal.cmp .ogt ((x i : EReal) + eps) (Ideal.ofBits .f32 0x00000000#32) = 1#1 :=
    Host.reduce_andi_all _ _ _ _ _ e i
  rw [Ideal.ofBits_zero_f32] at e'
  exact (Ideal.cmp_ogt_eq_one _ _).1 e'

/-- What `regular` says of the arguments beside the range of the indices. -/
structure Regular (w1 : FVec Ideal S429x200 .f32) (w2 : FVec Ideal S200x5 .f32) (g1 be1 m1 v1 : FVec Ideal S13 .f32)
    (g2 be2 m2 v2 : FVec Ideal S200 .f32) : Prop where
  w1 : ∀ i, IsReal (extractStridedSlice S13x200 ![416, 0] w1 slices_S429x200_S13x200_416_0 i)
  w2 : ∀ i, IsReal (w2 i)
  g1 : ∀ i, IsReal (g1 i)
  be1 : ∀ i, IsReal (be1 i)
  m1 : ∀ i, IsReal (m1 i)
  v1 : ∀ i, (0 : EReal) < v1 i + eps
  g2 : ∀ i, IsReal (g2 i)
  be2 : ∀ i, IsReal (be2 i)
  m2 : ∀ i, IsReal (m2 i)
  v2 : ∀ i, (0 : EReal) < v2 i + eps

theorem range_of_valid (x0 : IVec S16384x26 32) (x1 : FVec F S16384x13 .f32) (x2 : FVec F S26x100000x16 .f32) (x3 : FVec F S429x200 .f32)
    (x4 : FVec F S200 .f32) (x5 : FVec F S200x5 .f32) (x6 : FVec F S5 .f32) (x7 x8 x9 x10 : FVec F S13 .f32)
    (x11 x12 x13 x14 : FVec F S200 .f32) (h : Cert.Pre_valid.fn (F := F) x0 x1 x2 x3 x4 x5 x6 x7 x8 x9 x10 x11 x12 x13 x14 = fun _ => 1#1)
    (i : S16384x26.Idx) : (x0 i).toNat < 100000 := by
  have e := congrFun h ValueIdx.ix0
  unfold Cert.Pre_valid.fn at e
  exact range_of x0 _ _ _ _ _ e i

theorem of_regular (x0 : IVec S16384x26 32) (x1 : FVec Ideal S16384x13 .f32) (x2 : FVec Ideal S26x100000x16 .f32) (x3 : FVec Ideal S429x200 .f32)
    (x4 : FVec Ideal S200 .f32) (x5 : FVec Ideal S200x5 .f32) (x6 : FVec Ideal S5 .f32) (x7 x8 x9 x10 : FVec Ideal S13 .f32)
    (x11 x12 x13 x14 : FVec Ideal S200 .f32)
    (h : Cert.Pre_regular.fn (F := Ideal) x0 x1 x2 x3 x4 x5 x6 x7 x8 x9 x10 x11 x12 x13 x14 = fun _ => 1#1) :
    (∀ i, (x0 i).toNat < 100000) ∧ Regular x3 x5 x7 x8 x9 x10 x11 x12 x13 x14 := by
  have e := congrFun h ValueIdx.ix0
  unfold Cert.Pre_regular.fn Cert.Pre_regular.fn_part1 Cert.Pre_regular.fn_part2 Cert.Pre_regular.fn_part3 at e
  obtain ⟨e, hm2⟩ := IntOp.andi_eq_one.1 e
  obtain ⟨e, hbe2⟩ := IntOp.andi_eq_one.1 e
  obtain ⟨e, hg2⟩ := IntOp.andi_eq_one.1 e
  obtain ⟨e, hm1⟩ := IntOp.andi_eq_one.1 e
  obtain ⟨e, hbe1⟩ := IntOp.andi_eq_one.1 e
  obtain ⟨e, hg1⟩ := IntOp.andi_eq_one.1 e
  obtain ⟨e, hw2⟩ := IntOp.andi_eq_one.1 e
  obtain ⟨e, hw1⟩ := IntOp.andi_eq_one.1 e
  obtain ⟨e, hv2⟩ := IntOp.andi_eq_one.1 e
  obtain ⟨hr, hv1⟩ := IntOp.andi_eq_one.1 e
  exact ⟨range_of _ _ _ _ _ _ hr,
    { w1 := real_of _ _ _ _ _ _ hw1
      w2 := real_of _ _ _ _ _ _ hw2
      g1 := real_of _ _ _ _ _ _ hg1
      be1 := real_of _ _ _ _ _ _ hbe1
      m1 := real_of _ _ _ _ _ _ hm1
      v1 := pos_of _ _ _ _ _ _ _ hv1
      g2 := real_of _ _ _ _ _ _ hg2
      be2 := real_of _ _ _ _ _ _ hbe2
      m2 := real_of _ _ _ _ _ _ hm2
      v2 := pos_of _ _ _ _ _ _ _ hv2 }⟩

/-- An array of indices in range is one after its transpose. -/
theorem preOK_of (m : (ℓ : Loc nD τ sig) → Buf (Elt F) ℓ)
    (h : ∀ (d : Dev nD) (i : S16384x26.Idx), ((m ((d.tc : Thread nD τ).loc main_arg0) : IVec S16384x26 32) i).toNat < 100000) : PreOK m :=
  fun d _ => h d _

end Cert.Proof

end
-- ==== Proof.Same.lean ====
/-
  The program over float words and the one over the ideal values have one text, so their labels and their
  threads are one: a row of the table at a time, each by unfolding.
-/
module

public import proofs.«01_k».proof.Proof.Gen.Kernel
public import proofs.«01_k».proof.Proof.Gen.KernelIdeal

@[expose] public section

noncomputable section

namespace Cert.Proof

open Idealize.ShloMosaic

variable {F : FTy → Type} [FloatOps F]

set_option maxRecDepth 10000
set_option maxHeartbeats 8000000

theorem defs₀_eq : Cert.Kernel.defs₀ (F := F) = Cert.KernelIdeal.defs₀ (F := F) := by
  funext p l a
  match p, l, a with
  | .scVector c s, 0, _ | .scVector c s, 1, _ | .scVector c s, 2, _ | .scVector c s, 3, _ => rfl
  | .tc, 0, _ | .tc, 1, _ => rfl
  | .tc, 2, (t, s) | .tc, 3, (t, s) => rfl
  | .scScalar c, 0, _ | .scScalar c, 1, _ | .scScalar c, 2, _ | .scScalar c, 3, _ => rfl
theorem defs_eq : Cert.Kernel.defs (F := F) = Cert.KernelIdeal.defs (F := F) := by
  unfold Cert.Kernel.defs Cert.KernelIdeal.defs
  rw [defs₀_eq]
  rfl
theorem threads_eq : Cert.Kernel.threads (F := F) = Cert.KernelIdeal.threads (F := F) := rfl

end Cert.Proof

end
-- ==== Proof.Frames.lean ====
/-
  The frame claims: every run ends, with the arguments as they were and every semaphore at zero.
-/
module

public import Idealize.ShloMosaic.Lib.Quiescent
public import proofs.«01_k».proof.Defs
public import proofs.«01_k».proof.Proof.Launch
public import proofs.«01_k».proof.Proof.Pre
public import proofs.«01_k».proof.Proof.Same
public import proofs.«01_k».proof.Proof.Gen.ReferenceIdeal.Run

@[expose] public section

noncomputable section

namespace Cert.Proof

open Cert.KernelIdeal Cert.KernelIdeal.Gen

open Idealize.ShloMosaic Idealize.SL.Sem

variable {F : FTy → Type} [FloatOps F]

/-- An array that `@main` does not write. -/
def Kept (r : Ref sig .tc) : Prop :=
  (Proc.devRef .tc r : DevRef τ sig).isScoped = false ∧ r ∉ resA ∧ r ≠ main_v2 ∧ r ≠ main_v3 ∧ r ∉ resB ∧ r ≠ main_v31 ∧ r ∉ resC ∧ r ≠ main_v34

instance (r : Ref sig .tc) : Decidable (Kept r) := by unfold Kept; infer_instance

theorem QC.kept {m : (ℓ : Loc nD τ sig) → Buf (Elt F) ℓ} {r} (h : QC m r) (c : Dev nD) (b : Ref sig .tc) (hb : Kept b) :
    r.2.mem ((c.tc : Thread nD τ).loc b) = m ((c.tc : Thread nD τ).loc b) :=
  (h.1 c b hb.1).trans (val6_ne m c b hb.2.1 hb.2.2.1 hb.2.2.2.1 hb.2.2.2.2.1 hb.2.2.2.2.2.1 hb.2.2.2.2.2.2.1 hb.2.2.2.2.2.2.2)

/-- No argument of `@main` is written. -/
theorem QC.args {m : (ℓ : Loc nD τ sig) → Buf (Elt F) ℓ} {r} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14) := by
  refine ⟨?_, ?_, ?_, ?_, ?_, ?_, ?_, ?_, ?_, ?_, ?_, ?_, ?_, ?_, ?_⟩ <;> exact h.kept c _ (by decide)

theorem frame_ideal : Cert.quiescent_KernelIdeal := fun m ρ hpre =>
  (θ_run (Cert.KernelIdeal.defs (F := Ideal)) _ _).mono (fun _ h => ⟨fun c => h.args c, h.2⟩)
    (run_main (F := Ideal) m ρ (preOK_of m fun d i => range_of_valid _ _ _ _ _ _ _ _ _ _ _ _ _ _ _ (hpre d) i))

set_option maxRecDepth 10000 in
set_option maxHeartbeats 8000000 in
theorem frame_kernel : Cert.quiescent_Kernel := fun m ρ hpre => by
  have h := run_main (F := Bits) m ρ (preOK_of m fun d i => range_of_valid _ _ _ _ _ _ _ _ _ _ _ _ _ _ _ (hpre d) i)
  rw [← defs_eq] at h
  exact (θ_run (Cert.Kernel.defs (F := Bits)) (Cert.Kernel.threads (F := Bits)) _).mono (fun r (h : QC m r) => ⟨fun c => h.args c, h.2⟩) h

theorem preOK_of_regular (m : (ℓ : Loc nD τ sig) → Buf (Elt Ideal) ℓ) (hpre : Cert.Pre_KernelIdeal_regular m) : PreOK m :=
  preOK_of m fun d => (of_regular _ _ _ _ _ _ _ _ _ _ _ _ _ _ _ (hpre d)).1

theorem frame_ideal_regular : Cert.quiescent_KernelIdeal_pre_regular := fun m ρ hpre =>
  (θ_run (Cert.KernelIdeal.defs (F := Ideal)) _ _).mono (fun _ h => ⟨fun c => h.args c, h.2⟩)
    (run_main (F := Ideal) m ρ (preOK_of_regular m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_regular : Cert.quiescent_ReferenceIdeal_pre_regular := fun m ρ _ => frame_reference m ρ trivial

end Cert.Proof

end
-- ==== Proof.Sums.lean ====
/-
  The products of the two dense kernels and of the host lines, read at an index as sums over the contracted coordinate.
-/
module

public import Idealize.ShloMosaic.PureOps.Ideal.Laws
public import Idealize.ShloMosaic.Lib.ValueIdxCore
public import Idealize.ShloMosaic.Lib.MatmulPlain
public import Idealize.ShloMosaic.Lib.StackMember

@[expose] public section

noncomputable section

namespace Cert.Proof

open Idealize.ShloMosaic Idealize.ShloMosaic.ValueIdx

variable {K M N : ℕ}

/-- Both operands contracted on their first axis, into the zero accumulator. -/
theorem cols_apply {φ₁ φ₂ : FTy} (w : DotDims.WF ⟨2, ![K, M]⟩ ⟨2, ![K, N]⟩ ⟨2, ![M, N]⟩ [0] [0] [1] [1] [] []) (prec : Option ContractPrecision)
    (A : FVec Ideal ⟨2, ![K, M]⟩ φ₁) (B : FVec Ideal ⟨2, ![K, N]⟩ φ₂) (a : Fin M) (b : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 a b)
      = ∑ c : Fin K, A (ix2 c a) * B (ix2 c b) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun c _ => ?_
  have hc := contrEquiv1_symm_val (⟨[0], [0], [1], [1], [], [], w⟩ : DotDims ⟨2, ![K, M]⟩ ⟨2, ![K, N]⟩ ⟨2, ![M, N]⟩) K rfl rfl c
  refine congrArg₂ (· * ·) (congrArg A ?_) (congrArg B ?_)
  · funext ax; apply Fin.ext
    match ax with
    | ⟨0, _⟩ => exact hc
    | ⟨1, _⟩ => rfl
  · funext ax; apply Fin.ext
    match ax with
    | ⟨0, _⟩ => exact hc
    | ⟨1, _⟩ => rfl

/-- A row times a matrix. -/
theorem row_apply {φ₁ φ₂ : FTy} (w : DotDims.WF ⟨1, ![K]⟩ ⟨2, ![K, N]⟩ ⟨1, ![N]⟩ [0] [0] [] [1] [] []) (prec : Option ContractPrecision)
    (A : FVec Ideal ⟨1, ![K]⟩ φ₁) (B : FVec Ideal ⟨2, ![K, N]⟩ φ₂) (b : Fin N) :
    Host.dotGeneral (⟨[0], [0], [], [1], [], [], w⟩ : DotDims ⟨1, ![K]⟩ ⟨2, ![K, N]⟩ ⟨1, ![N]⟩) prec A B (ix1 b) = ∑ c : Fin K, A (ix1 c) * B (ix2 c b) := by
  show FloatOps.dotGeneral _ prec _ A B (ix1 b) = _
  rw [Ideal.dotGeneral_apply,
    ← Equiv.sum_comp (contrEquiv1 (⟨[0], [0], [], [1], [], [], w⟩ : DotDims ⟨1, ![K]⟩ ⟨2, ![K, N]⟩ ⟨1, ![N]⟩) K rfl rfl).symm]
  refine Finset.sum_congr rfl fun c _ => ?_
  have hc := contrEquiv1_symm_val (⟨[0], [0], [], [1], [], [], w⟩ : DotDims ⟨1, ![K]⟩ ⟨2, ![K, N]⟩ ⟨1, ![N]⟩) K rfl rfl c
  refine congrArg₂ (· * ·) (congrArg A ?_) (congrArg B ?_)
  · funext ax; apply Fin.ext
    match ax with
    | ⟨0, _⟩ => exact hc
  · funext ax; apply Fin.ext
    match ax with
    | ⟨0, _⟩ => exact hc
    | ⟨1, _⟩ => rfl

end Cert.Proof

end
-- ==== Proof.Dense.lean ====
/-
  What the two dense kernels leave, entry by entry, at the ideal values.
-/
module

public import Idealize.ShloMosaic.Lib.Pipeline.Value
public import proofs.«01_k».proof.Proof.Region1
public import proofs.«01_k».proof.Proof.Region2
public import proofs.«01_k».proof.Proof.Sums

@[expose] public section

noncomputable section

namespace Cert.Proof

open Cert.KernelIdeal Cert.KernelIdeal.Gen

open Idealize.ShloMosaic Idealize.ShloMosaic.ValueIdx

/-- The block of batch position `b`. -/
def blk (b : Fin 16384) : Fin 128 := ⟨b.val / 128, by omega⟩
/-- Its place in the block. -/
def pos (b : Fin 16384) : Fin 128 := ⟨b.val % 128, Nat.mod_lt _ (by decide)⟩

/-- A middle unit axis dropped. -/
theorem drop_mid {α : Type} {n k : ℕ} (f : (⟨3, ![n, 1, k]⟩ : Shape).Idx → α) (h : (⟨3, ![n, 1, k]⟩ : Shape).ShapeCasts ⟨2, ![n, k]⟩) (a : Fin n) (b : Fin k) :
    shapeCast ⟨2, ![n, k]⟩ f h (ix2 a b) = f (ix3 a 0 b) := by
  refine shapeCast_apply f h _ _ ?_
  rw [Shape.rowMajor_val_two, Shape.rowMajor_val_three]
  show (a.val * 1 + 0) * k + b.val = a.val * k + b.val
  rw [Nat.mul_one, Nat.add_zero]

/-- A row repeated. -/
theorem row_bcast {α : Type} {n k : ℕ} (hk : k ≠ 1) (f : (⟨2, ![1, k]⟩ : Shape).Idx → α) (h : (⟨2, ![1, k]⟩ : Shape).Broadcasts ⟨2, ![n, k]⟩) (a : Fin n) (b : Fin k) :
    broadcastTo ⟨2, ![n, k]⟩ f h (ix2 a b) = f (ix2 0 b) := by
  refine broadcastTo_apply f h _ _ fun ax => ?_
  match ax with
  | ⟨0, _⟩ => rfl
  | ⟨1, _⟩ => exact (if_neg hk).symm

theorem out1_apply (g : S256x128x128.Idx → EReal) (xc : S13x16384.Idx → EReal) (w : S256x200.Idx → EReal) (wb : S13x200.Idx → EReal) (bb : S1x200.Idx → EReal)
    (b : Fin 16384) (k : Fin 200) :
    out1 (F := Ideal) g xc w wb bb (ix2 b k)
      = ((∑ j : Fin 256, g (ix3 j (blk b) (pos b)) * w (ix2 j k)) + ∑ i : Fin 13, xc (ix2 i b) * wb (ix2 i k)) + bb (ix2 0 k) := by
  unfold out1 k2_pay2
  dsimp only
  simp only [shapeCast_self]
  refine congrArg₂ (· + ·) (congrArg₂ (· + ·) ((cols_apply _ _ _ _ _ _).trans ?_) ((cols_apply _ _ _ _ _ _).trans ?_)) (row_bcast (by decide) _ _ _ _)
  · refine Finset.sum_congr rfl fun j _ => ?_
    rw [drop_mid]
    rfl
  · refine Finset.sum_congr rfl fun i _ => ?_
    refine congrArg₂ (· * ·) (congrArg xc (congrArg (ix2 i) (Fin.ext ?_))) rfl
    exact Nat.div_add_mod' _ _

theorem out2_apply (g : S160x128x128.Idx → EReal) (p : S16384x200.Idx → EReal) (w : S160x200.Idx → EReal) (w2 : S200x5.Idx → EReal) (bb : S1x5.Idx → EReal)
    (b : Fin 16384) (c : Fin 5) :
    out2 (F := Ideal) g p w w2 bb (ix2 b c)
      = (∑ k : Fin 200, max (p (ix2 b k) + ∑ j : Fin 160, g (ix3 j (blk b) (pos b)) * w (ix2 j k)) 0 * w2 (ix2 k c)) + bb (ix2 0 c) := by
  unfold out2 k3_pay3
  dsimp only
  simp only [shapeCast_self]
  refine congrArg₂ (· + ·) ?_ (row_bcast (by decide) _ _ _ _)
  refine (Ideal.matmul_plain_apply _ _ _ _ _ _).trans ?_
  refine (congrArg (· + _) Ideal.ofBits_zero_f32).trans ((zero_add _).trans ?_)
  refine Finset.sum_congr rfl fun k _ => ?_
  refine congrArg₂ (· * ·) ?_ rfl
  refine congrArg₂ max (congrArg₂ (· + ·) (congrArg p (congrArg (ix2 · k) (Fin.ext ?_))) ((cols_apply _ _ _ _ _ _).trans ?_)) Ideal.ofBits_zero_f32
  · exact Nat.div_add_mod' _ _
  · refine Finset.sum_congr rfl fun j _ => ?_
    rw [drop_mid]
    rfl

end Cert.Proof

end
-- ==== Proof.Norm.lean ====
/-
  The normalisation, one entry at a time: dividing by a square root is multiplying by a real, and a normalised value
  times a weight is the value times the folded weight plus a shift that the value does not enter.
-/
module

public import proofs.«01_k».proof.Proof.Pre

@[expose] public section

noncomputable section

namespace Cert.Proof

open Idealize.ShloMosaic

/-- Dividing by the root of a positive number (infinity included) is multiplying by its reciprocal root, a real. -/
theorem div_sqrt (v : EReal) (hv : 0 < v) : ∃ r : ℝ, Ideal.rsqrt v = r ∧ ∀ x : EReal, Ideal.div x (Ideal.sqrt v) = x * r := by
  induction v with
  | bot => exact absurd hv (by simp)
  | top =>
    refine ⟨0, rfl, fun x => ?_⟩
    show Ideal.div x ⊤ = _
    unfold Ideal.div
    rw [if_neg (by simp)]
    simp
  | coe y =>
    have hy : 0 < y := by exact_mod_cast hv
    have hs : (Real.sqrt y) ≠ 0 := (Real.sqrt_pos.mpr hy).ne'
    refine ⟨(Real.sqrt y)⁻¹, ?_, fun x => ?_⟩
    · rw [Ideal.rsqrt_coe, if_neg (by linarith), if_neg hy.ne']
    · rw [Ideal.sqrt_coe, if_neg (by linarith)]
      unfold Ideal.div
      rw [if_neg (by exact_mod_cast hs), EReal.coe_inv]

/-- A normalised value times a weight. -/
theorem norm_mul (x : EReal) (μ g β w r : ℝ) :
    ((x - μ) * r * g + β) * w = x * (w * (g * r)) + (β - μ * (g * r)) * (w : EReal) := by
  have e : (x - μ) * r * g = (x - μ) * ((r * g : ℝ) : EReal) := by rw [mul_assoc, EReal.coe_mul]
  have e2 : (w : EReal) * (g * r) = ((w * (r * g) : ℝ) : EReal) := by push_cast; rw [mul_comm (r : EReal)]
  have e3 : ((β : EReal) - μ * (g * r)) * w = (((β - μ * (r * g)) * w : ℝ) : EReal) := by push_cast; rw [mul_comm (r : EReal)]
  rw [e, e2, e3]
  generalize r * g = s
  induction x with
  | coe x => norm_cast; ring
  | top =>
    rw [EReal.top_sub_coe]
    rcases lt_trichotomy s 0 with hs | rfl | hs
    · rw [EReal.top_mul_coe_of_neg hs, EReal.bot_add]
      rcases lt_trichotomy w 0 with hw | rfl | hw
      · rw [EReal.bot_mul_coe_of_neg hw, EReal.top_mul_coe_of_pos (mul_pos_of_neg_of_neg hw hs), EReal.top_add_coe]
      · simp
      · rw [EReal.bot_mul_coe_of_pos hw, EReal.top_mul_coe_of_neg (mul_neg_of_pos_of_neg hw hs), EReal.bot_add]
    · simp
    · rw [EReal.top_mul_coe_of_pos hs, EReal.top_add_coe]
      rcases lt_trichotomy w 0 with hw | rfl | hw
      · rw [EReal.top_mul_coe_of_neg hw, EReal.top_mul_coe_of_neg (mul_neg_of_neg_of_pos hw hs), EReal.bot_add]
      · simp
      · rw [EReal.top_mul_coe_of_pos hw, EReal.top_mul_coe_of_pos (mul_pos hw hs), EReal.top_add_coe]
  | bot =>
    rw [EReal.bot_sub]
    rcases lt_trichotomy s 0 with hs | rfl | hs
    · rw [EReal.bot_mul_coe_of_neg hs, EReal.top_add_coe]
      rcases lt_trichotomy w 0 with hw | rfl | hw
      · rw [EReal.top_mul_coe_of_neg hw, EReal.bot_mul_coe_of_pos (mul_pos_of_neg_of_neg hw hs), EReal.bot_add]
      · simp
      · rw [EReal.top_mul_coe_of_pos hw, EReal.bot_mul_coe_of_neg (mul_neg_of_pos_of_neg hw hs), EReal.top_add_coe]
    · simp
    · rw [EReal.bot_mul_coe_of_pos hs, EReal.bot_add]
      rcases lt_trichotomy w 0 with hw | rfl | hw
      · rw [EReal.bot_mul_coe_of_neg hw, EReal.bot_mul_coe_of_neg (mul_neg_of_neg_of_pos hw hs), EReal.top_add_coe]
      · simp
      · rw [EReal.bot_mul_coe_of_pos hw, EReal.bot_mul_coe_of_pos (mul_pos hw hs), EReal.bot_add]

/-- The layer: each normalised value times its weight, summed, is the values under folded weights and the sum of the shifts. -/
theorem norm_sum {n : ℕ} (x μ g β v w : Fin n → EReal) (hμ : ∀ i, IsReal (μ i)) (hg : ∀ i, IsReal (g i)) (hβ : ∀ i, IsReal (β i))
    (hw : ∀ i, IsReal (w i)) (hv : ∀ i, 0 < v i) :
    (∑ i, (Ideal.div (x i - μ i) (Ideal.sqrt (v i)) * g i + β i) * w i)
      = (∑ i, x i * (w i * (g i * Ideal.rsqrt (v i)))) + ∑ i, (β i - μ i * (g i * Ideal.rsqrt (v i))) * w i := by
  rw [← Finset.sum_add_distrib]
  refine Finset.sum_congr rfl fun i _ => ?_
  obtain ⟨r, hr, hd⟩ := div_sqrt (v i) (hv i)
  obtain ⟨μ', hμ⟩ := hμ i
  obtain ⟨g', hg⟩ := hg i
  obtain ⟨β', hβ⟩ := hβ i
  obtain ⟨w', hw⟩ := hw i
  rw [hd, hr, hμ, hg, hβ, hw]
  exact norm_mul _ _ _ _ _ _

end Cert.Proof

end
-- ==== Proof.Folded.lean ====
/-
  What the host lines around the dense kernels compute, entry by entry, at the ideal values: the weights with the
  normalisations folded in, and the operands that are slices, transposes and reshapes of the arguments.
-/
module

public import Idealize.ShloMosaic.Lib.Pipeline.Value
public import proofs.«01_k».proof.Proof.Vals
public import proofs.«01_k».proof.Proof.Norm
public import proofs.«01_k».proof.Proof.Sums

@[expose] public section

noncomputable section

namespace Cert.Proof

open Cert.KernelIdeal Cert.KernelIdeal.Gen

open Idealize.ShloMosaic hiding ix1 ix2 ix3
open Idealize.ShloMosaic.ValueIdx
open Idealize.ShloMosaic.StableHlo (after launchContents)

/-! ## The operations -/

/-- A scale: the gain times the reciprocal root of the variance. -/
def scale {n : ℕ} (g v : (⟨1, ![n]⟩ : Shape).Idx → EReal) (i : Fin n) : EReal := g (ix1 i) * Ideal.rsqrt (v (ix1 i) + eps)

/-- A shift: the offset less the scaled mean. -/
def shift {n : ℕ} (g β μ v : (⟨1, ![n]⟩ : Shape).Idx → EReal) (i : Fin n) : EReal := β (ix1 i) - μ (ix1 i) * scale g v i

/-- A column repeated along the rows. -/
theorem col_apply {n k : ℕ} {α : Type} (f : (⟨1, ![n]⟩ : Shape).Idx → α) (h : (⟨1, ![n]⟩ : Shape).BroadcastsInDim ⟨2, ![n, 1]⟩ ![0])
    (h' : (⟨2, ![n, 1]⟩ : Shape).BroadcastsInDim ⟨2, ![n, k]⟩ ![0, 1]) (hn : n ≠ 1) (i : Fin n) (j : Fin k) :
    broadcastInDim ⟨2, ![n, k]⟩ ![0, 1] h' (broadcastInDim ⟨2, ![n, 1]⟩ ![0] h f) (ix2 i j) = f (ix1 i) := by
  rw [broadcastInDim_apply ![0, 1] h' _ (ix2 i j) (ix2 i 0) (fun a => by
    match a with
    | ⟨0, _⟩ => exact (if_neg hn).symm
    | ⟨1, _⟩ => rfl)]
  exact broadcastInDim_apply ![0] h _ (ix2 i 0) (ix1 i) (fun a => by
    match a with
    | ⟨0, _⟩ => exact (if_neg hn).symm)

/-- Rows from `o` on. -/
theorem rows_apply {n k p : ℕ} {α : Type} (o : ℕ) (f : (⟨2, ![n, k]⟩ : Shape).Idx → α) (h : (⟨2, ![n, k]⟩ : Shape).Slices ![o, 0] ⟨2, ![p, k]⟩)
    (i : Fin p) (j : Fin k) (hi : o + i.val < n) : extractStridedSlice ⟨2, ![p, k]⟩ ![o, 0] f h (ix2 i j) = f (ix2 ⟨o + i.val, hi⟩ j) := by
  refine extractStridedSlice_apply _ _ _ _ _ fun a => ?_
  match a with
  | ⟨0, _⟩ => rfl
  | ⟨1, _⟩ => exact (Nat.zero_add _).symm

/-- A row given a leading unit axis. -/
theorem lead_apply {n : ℕ} {α : Type} (f : (⟨1, ![n]⟩ : Shape).Idx → α) (h : (⟨1, ![n]⟩ : Shape).ShapeCasts ⟨2, ![1, n]⟩) (j : Fin n) :
    shapeCast ⟨2, ![1, n]⟩ f h (ix2 0 j) = f (ix1 j) := by
  refine shapeCast_apply f h _ _ ?_
  rw [Shape.rowMajor_val_one, Shape.rowMajor_val_two]
  show j.val = 0 * n + j.val
  rw [Nat.zero_mul, Nat.zero_add]

variable (m : (ℓ : Loc nD τ sig) → Buf (Elt Ideal) ℓ) (d : Dev nD)

/-! ## The arrays -/

theorem val2_kept (r : Ref sig .tc) (hA : r ∉ resA) (h2 : r ≠ main_v2) (h3 : r ≠ main_v3) :
    val2 m d (Proc.devRef .tc r) = m ((d.tc : Thread nD τ).loc r) := by
  unfold val2
  rw [upd_ne _ _ h3, upd_ne _ _ h2]; unfold val1
  rw [afterA_ne _ r hA]

/-! The float arguments, as launched. -/

abbrev xcont : S16384x13.Idx → EReal := m ((d.tc : Thread nD τ).loc main_arg1)
abbrev tables : S26x100000x16.Idx → EReal := m ((d.tc : Thread nD τ).loc main_arg2)
abbrev W1 : S429x200.Idx → EReal := m ((d.tc : Thread nD τ).loc main_arg3)
abbrev b1 : S200.Idx → EReal := m ((d.tc : Thread nD τ).loc main_arg4)
abbrev W2 : S200x5.Idx → EReal := m ((d.tc : Thread nD τ).loc main_arg5)
abbrev b2 : S5.Idx → EReal := m ((d.tc : Thread nD τ).loc main_arg6)
abbrev g1 : S13.Idx → EReal := m ((d.tc : Thread nD τ).loc main_arg7)
abbrev be1 : S13.Idx → EReal := m ((d.tc : Thread nD τ).loc main_arg8)
abbrev mu1 : S13.Idx → EReal := m ((d.tc : Thread nD τ).loc main_arg9)
abbrev va1 : S13.Idx → EReal := m ((d.tc : Thread nD τ).loc main_arg10)
abbrev g2 : S200.Idx → EReal := m ((d.tc : Thread nD τ).loc main_arg11)
abbrev be2 : S200.Idx → EReal := m ((d.tc : Thread nD τ).loc main_arg12)
abbrev mu2 : S200.Idx → EReal := m ((d.tc : Thread nD τ).loc main_arg13)
abbrev va2 : S200.Idx → EReal := m ((d.tc : Thread nD τ).loc main_arg14)

/-- The continuous columns. -/
theorem val3_v4 (i : Fin 13) (b : Fin 16384) : val3 m d (Proc.devRef .tc main_v4) (ix2 i b) = xcont m d (ix2 b i) := by
  unfold val3 opsB
  after_results
  rw [val2_kept m d main_arg1 (by decide) (by decide) (by decide)]
  exact transpose_apply _ _ _ _ _ fun a => by
    match a with
    | ⟨0, _⟩ => rfl
    | ⟨1, _⟩ => rfl

/-- Their weights, scaled. -/
theorem val3_v12 (i : Fin 13) (k : Fin 200) : val3 m d (Proc.devRef .tc main_v12) (ix2 i k)
    = W1 m d (ix2 ⟨416 + i.val, by omega⟩ k) * scale (g1 m d) (va1 m d) i := by
  unfold val3 opsB
  after_results
  rw [val2_kept m d main_arg3 (by decide) (by decide) (by decide), val2_kept m d main_arg7 (by decide) (by decide) (by decide), val2_kept m d main_arg10 (by decide) (by decide) (by decide)]
  exact congrArg₂ (· * ·) (rows_apply 416 _ _ _ _ _) ((col_apply _ _ _ (by decide) _ _).trans rfl)

/-- The first bias, with the shifts. -/
theorem val3_v30 (k : Fin 200) : val3 m d (Proc.devRef .tc main_v30) (ix2 0 k)
    = b1 m d (ix1 k) + ∑ i : Fin 13, shift (g1 m d) (be1 m d) (mu1 m d) (va1 m d) i * W1 m d (ix2 ⟨416 + i.val, by omega⟩ k) := by
  unfold val3 opsB
  after_results
  rw [val2_kept m d main_arg3 (by decide) (by decide) (by decide), val2_kept m d main_arg4 (by decide) (by decide) (by decide), val2_kept m d main_arg7 (by decide) (by decide) (by decide), val2_kept m d main_arg8 (by decide) (by decide) (by decide), val2_kept m d main_arg9 (by decide) (by decide) (by decide), val2_kept m d main_arg10 (by decide) (by decide) (by decide)]
  refine (lead_apply _ _ _).trans (congrArg₂ (· + ·) rfl ((row_apply _ _ _ _ _).trans (Finset.sum_congr rfl fun i _ => ?_)))
  exact congrArg₂ (· * ·) rfl (rows_apply 416 _ _ _ _ _)

/-- The gathered columns' weights, the first sixteen features', -/
theorem val3_v29 (j : Fin 256) (k : Fin 200) : val3 m d (Proc.devRef .tc main_v29) (ix2 j k) = W1 m d (ix2 ⟨0 + j.val, by omega⟩ k) := by
  unfold val3 opsB
  after_results
  rw [val2_kept m d main_arg3 (by decide) (by decide) (by decide)]
  exact rows_apply 0 _ _ _ _ _

theorem val4_kept (r : Ref sig .tc) (h : r ≠ main_v31) : val4 m d (Proc.devRef .tc r) = val3 m d (Proc.devRef .tc r) := upd_ne _ _ h

theorem val5_kept (r : Ref sig .tc) (hC : r ∉ resC) (h : r ≠ main_v31) : val5 m d (Proc.devRef .tc r) = val3 m d (Proc.devRef .tc r) :=
  (afterC_ne _ r hC).trans (val4_kept m d r h)

theorem val3_kept (r : Ref sig .tc) (hA : r ∉ resA) (h2 : r ≠ main_v2) (h3 : r ≠ main_v3) (hB : r ∉ resB) :
    val3 m d (Proc.devRef .tc r) = m ((d.tc : Thread nD τ).loc r) :=
  (afterB_ne _ r hB).trans (val2_kept m d r hA h2 h3)

/-- and the last ten's. -/
theorem val5_v32 (j : Fin 160) (k : Fin 200) : val5 m d (Proc.devRef .tc main_v32) (ix2 j k) = W1 m d (ix2 ⟨256 + j.val, by omega⟩ k) := by
  unfold val5 opsC
  after_results
  rw [val4_kept m d main_arg3 (by decide), val3_kept m d main_arg3 (by decide) (by decide) (by decide) (by decide)]
  exact rows_apply 256 _ _ _ _ _

/-- The second layer's weights, scaled. -/
theorem val5_v24 (k : Fin 200) (c : Fin 5) : val5 m d (Proc.devRef .tc main_v24) (ix2 k c) = W2 m d (ix2 k c) * scale (g2 m d) (va2 m d) k := by
  rw [val5_kept m d main_v24 (by decide) (by decide)]
  unfold val3 opsB
  after_results
  rw [val2_kept m d main_arg5 (by decide) (by decide) (by decide), val2_kept m d main_arg11 (by decide) (by decide) (by decide), val2_kept m d main_arg14 (by decide) (by decide) (by decide)]
  exact congrArg₂ (· * ·) rfl ((col_apply _ _ _ (by decide) _ _).trans rfl)

/-- The second bias, with the shifts. -/
theorem val5_v33 (c : Fin 5) : val5 m d (Proc.devRef .tc main_v33) (ix2 0 c)
    = b2 m d (ix1 c) + ∑ k : Fin 200, shift (g2 m d) (be2 m d) (mu2 m d) (va2 m d) k * W2 m d (ix2 k c) := by
  unfold val5 opsC
  after_results
  rw [val4_kept m d main_v28 (by decide)]
  unfold val3 opsB
  after_results
  rw [val2_kept m d main_arg5 (by decide) (by decide) (by decide), val2_kept m d main_arg6 (by decide) (by decide) (by decide), val2_kept m d main_arg11 (by decide) (by decide) (by decide), val2_kept m d main_arg12 (by decide) (by decide) (by decide), val2_kept m d main_arg13 (by decide) (by decide) (by decide), val2_kept m d main_arg14 (by decide) (by decide) (by decide)]
  exact (lead_apply _ _ _).trans (congrArg₂ (· + ·) rfl (row_apply _ _ _ _ _))

/-- The gathered arrays. -/
theorem val3_v2 : val3 m d (Proc.devRef .tc main_v2) = oV0 m d := by
  unfold val3
  rw [afterB_ne _ main_v2 (by decide)]
  unfold val2
  rw [upd_ne _ _ (by decide), Function.update_self]

theorem val5_v3 : val5 m d (Proc.devRef .tc main_v3) = oV1 m d := by
  rw [val5_kept m d main_v3 (by decide) (by decide)]
  unfold val3
  rw [afterB_ne _ main_v3 (by decide)]
  unfold val2
  rw [Function.update_self]

theorem val5_v31 : val5 m d (Proc.devRef .tc main_v31)
    = out1 (oV0 m d) (val3 m d (Proc.devRef .tc main_v4)) (val3 m d (Proc.devRef .tc main_v29)) (val3 m d (Proc.devRef .tc main_v12)) (val3 m d (Proc.devRef .tc main_v30)) := by
  unfold val5
  rw [afterC_ne _ main_v31 (by decide)]
  unfold val4
  rw [Function.update_self, val3_v2]

end Cert.Proof

end
-- ==== Proof.Kern.lean ====
/-
  The kernel's result, entry by entry, as a formula of the arguments.
-/
module

public import proofs.«01_k».proof.Proof.Dense
public import proofs.«01_k».proof.Proof.Folded

@[expose] public section

noncomputable section

namespace Cert.Proof

open Cert.KernelIdeal Cert.KernelIdeal.Gen

open Idealize.ShloMosaic hiding ix1 ix2 ix3
open Idealize.ShloMosaic.ValueIdx

variable (m : (ℓ : Loc nD τ sig) → Buf (Elt Ideal) ℓ) (d : Dev nD)

/-- The indices, as launched. -/
abbrev xcat : S16384x26.Idx → BitVec 32 := m ((d.tc : Thread nD τ).loc main_arg0)

/-- Gathered column `j` of batch row `b`: component `j % 16` of the row of feature `j / 16` at the feature's index. -/
def emb (b : Fin 16384) (j : ℕ) : EReal :=
  tables m d (ix3 ⟨j / 16 % 26, Nat.mod_lt _ (by decide)⟩ ⟨(xcat m d (ix2 b ⟨j / 16 % 26, Nat.mod_lt _ (by decide)⟩)).toNat % 100000, Nat.mod_lt _ (by decide)⟩
    ⟨j % 16, Nat.mod_lt _ (by decide)⟩)

/-- The transposed table, -/
theorem tV_apply (f : Fin 26) (e : Fin 16) (r : Fin 100000) : tV m d (ix3 f e r) = tables m d (ix3 f r e) := by
  unfold tV
  exact transpose_apply _ _ _ _ _ fun a => by
    match a with
    | ⟨0, _⟩ => rfl
    | ⟨1, _⟩ => rfl
    | ⟨2, _⟩ => rfl

/-- the transposed indices, -/
theorem xV_apply (f : Fin 26) (b : Fin 16384) : xV m d (ix2 f b) = xcat m d (ix2 b f) := by
  unfold xV
  exact transpose_apply _ _ _ _ _ fun a => by
    match a with
    | ⟨0, _⟩ => rfl
    | ⟨1, _⟩ => rfl

/-- and a gathered array: its row `j` at the place of `b` is a gathered column. -/
theorem gval_apply {N : ℕ} (k0 : ℕ) (j : Fin N) (b : Fin 16384) : gval (tV m d) (xV m d) k0 (ix3 j (blk b) (pos b)) = emb m d b (k0 + j.val) := by
  have hb : (⟨((blk b).val * 128 + (pos b).val) % 16384, Nat.mod_lt _ (by decide)⟩ : Fin 16384) = b :=
    Fin.ext (by show (b.val / 128 * 128 + b.val % 128) % 16384 = b.val; omega)
  show tV m d (ix3 _ _ ⟨(xV m d (ix2 _ ⟨((blk b).val * 128 + (pos b).val) % 16384, _⟩)).toNat % 100000, _⟩) = _
  rw [tV_apply]
  simp only [hb, xV_apply]
  rfl

/-- The first layer before the rectifier. -/
def hid (b : Fin 16384) (k : Fin 200) : EReal :=
  (((∑ j : Fin 256, emb m d b (0 + j.val) * W1 m d (ix2 ⟨0 + j.val, by omega⟩ k))
      + ∑ i : Fin 13, xcont m d (ix2 b i) * (W1 m d (ix2 ⟨416 + i.val, by omega⟩ k) * scale (g1 m d) (va1 m d) i))
    + (b1 m d (ix1 k) + ∑ i : Fin 13, shift (g1 m d) (be1 m d) (mu1 m d) (va1 m d) i * W1 m d (ix2 ⟨416 + i.val, by omega⟩ k)))
  + ∑ j : Fin 160, emb m d b (256 + j.val) * W1 m d (ix2 ⟨256 + j.val, by omega⟩ k)

theorem kern_apply (b : Fin 16384) (c : Fin 5) : val6 m d (Proc.devRef .tc main_v34) (ix2 b c)
    = (∑ k : Fin 200, max (hid m d b k) 0 * (W2 m d (ix2 k c) * scale (g2 m d) (va2 m d) k))
      + (b2 m d (ix1 c) + ∑ k : Fin 200, shift (g2 m d) (be2 m d) (mu2 m d) (va2 m d) k * W2 m d (ix2 k c)) := by
  unfold val6
  rw [Function.update_self, val5_v3, val5_v31]
  refine (out2_apply _ _ _ _ _ b c).trans (congrArg₂ (· + ·) (Finset.sum_congr rfl fun k _ => ?_) (val5_v33 m d c))
  refine congrArg₂ (· * ·) (congrArg (max · 0) ?_) (val5_v24 m d k c)
  refine congrArg₂ (· + ·) ((out1_apply _ _ _ _ _ b k).trans ?_) (Finset.sum_congr rfl fun j _ => ?_)
  · refine congrArg₂ (· + ·) (congrArg₂ (· + ·) (Finset.sum_congr rfl fun j _ => ?_) (Finset.sum_congr rfl fun i _ => ?_)) (val3_v30 m d k)
    · exact congrArg₂ (· * ·) (gval_apply m d 0 j b) (val3_v29 m d j k)
    · exact congrArg₂ (· * ·) (val3_v4 m d i b) (val3_v12 m d i k)
  · exact congrArg₂ (· * ·) (gval_apply m d 256 j b) (val5_v32 m d j k)

end Cert.Proof

end
-- ==== Proof.Take.lean ====
/-
  The reference's lookup: with the indices in range the wrap of negative ones and the mask of the out-of-range ones
  change nothing, and the gather reads the row at the index.
-/
module

public import Idealize.ShloMosaic.Lib.Pipeline.Value
public import Idealize.ShloMosaic.PureOps.Ideal.Laws
public import Idealize.ShloMosaic.Lib.ValueIdxCore
public import Idealize.ShloMosaic.Lib.WordCmp
public import Idealize.ShloMosaic.Lib.ReduceAll
public import proofs.«01_k».proof.Proof.Gen.ReferenceIdeal

@[expose] public section

noncomputable section

namespace Cert.Proof

open Cert.ReferenceIdeal Cert.ReferenceIdeal.Gen

open Idealize.ShloMosaic
open Idealize.ShloMosaic.ValueIdx

/-- The start indices: the negative ones wrapped, transposed, with a unit axis. -/
def starts (x : IVec S16384x26 32) : IVec S26x16384x1 32 :=
  broadcastInDim S26x16384x1 ![0, 1] bcast_S26x16384_S26x16384x1_0_1
    (transpose S26x16384 [1, 0] (select (cmpi .slt x (broadcastInDim S16384x26 ![] bcast_S_S16384x26 (constantI S_ 32 0#32)))
      (addi x (broadcastInDim S16384x26 ![] bcast_S_S16384x26 (constantI S_ 32 100000#32))) x) transposes_S16384x26_S26x16384_1_0)

/-- The lookup: the gathered rows where the start index is in range, a fill elsewhere. -/
def looked (x : IVec S16384x26 32) (t : FVec Ideal S26x100000x16 .f32) : FVec Ideal S26x16384x16 .f32 :=
  select (broadcastInDim S26x16384x16 ![0, 1] bcast_S26x16384_S26x16384x16_0_1
      (Host.reduce IntOp.andi (andi (cmpi .sge (starts x) (broadcastInDim S26x16384x1 ![] bcast_S_S26x16384x1 (constantI S_ 32 0#32)))
        (cmpi .sle (starts x) (broadcastInDim S26x16384x1 ![0, 1, 2] bcast_S1x1x1_S26x16384x1_0_1_2 (broadcastInDim S1x1x1 ![2] bcast_S1_S1x1x1_2 (constantI S1 32 99999#32)))))
        (constantI S_ 1 1#1) reducesTo_S26x16384x1_S26x16384_d2 h_S_))
    (Host.gather gather_S26x100000x16_S26x16384x1_S26x16384x16_2_1_0_0_1_2_1116 t (starts x))
    (broadcastInDim S26x16384x16 ![] bcast_S_S26x16384x16 (constant S_ .f32 0x7FC00000#32))

theorem starts_apply (x : IVec S16384x26 32) (h : ∀ i, (x i).toNat < 100000) (f : Fin 26) (b : Fin 16384) (z : Fin 1) : starts x (ix3 f b z) = x (ix2 b f) := by
  unfold starts
  rw [broadcastInDim_apply ![0, 1] _ _ (ix3 f b z) (ix2 f b) (fun a => by
    match a with
    | ⟨0, _⟩ => rfl
    | ⟨1, _⟩ => rfl),
    transpose_apply _ _ _ (ix2 f b) (ix2 b f) (fun a => by
    match a with
    | ⟨0, _⟩ => rfl
    | ⟨1, _⟩ => rfl)]
  refine WordCmp.select_of_eq_zero ?_ _ _
  show IntOp.cmpi .slt (x (ix2 b f)) 0#32 = 0#1
  rw [WordCmp.cmpi_slt_zero, WordCmp.ofBool_decide_eq_zero_iff]
  have := h (ix2 b f)
  omega

/-- The gather along the middle axis, the first axis shared. -/
theorem gather_mid_apply {α : Type} {G N B E w : ℕ} (hN : 0 < N)
    (wf : GatherDims.WF ⟨3, ![G, N, E]⟩ ⟨3, ![G, B, 1]⟩ ⟨3, ![G, B, E]⟩ [2] [1] [0] [1] [0] 2 ![1, 1, E])
    (t : (⟨3, ![G, N, E]⟩ : Shape).Idx → α) (idx : IVec ⟨3, ![G, B, 1]⟩ w) (f : Fin G) (b : Fin B) (e : Fin E) :
    Host.gather (⟨[2], [1], [0], [0], [1], 2, ![1, 1, E], wf⟩ : GatherDims ⟨3, ![G, N, E]⟩ ⟨3, ![G, B, 1]⟩ ⟨3, ![G, B, E]⟩) t idx (ix3 f b e)
      = t (ix3 f ⟨min (idx (ix3 f b 0)).toInt.toNat (N - 1), by omega⟩ e) := by
  unfold Host.gather
  refine congrArg t (funext fun a => Fin.ext ?_)
  show GatherDims.start _ (ix3 f b e) idx a + GatherDims.batchCoord _ (ix3 f b e) a + GatherDims.offCoord _ (ix3 f b e) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  | ⟨1, _⟩ =>
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans (congrArg (fun i => min (idx i).toInt.toNat (N - 1)) (funext fun a => Fin.ext ?_))
    match a with
    | ⟨0, _⟩ => rfl
    | ⟨1, _⟩ => rfl
    | ⟨2, _⟩ => rfl
  | ⟨2, _⟩ =>
    rw [GatherDims.batchCoord_eq_zero _ _ _ (fun h => by simp at h)]
    unfold GatherDims.start
    rw [dif_neg (fun h => by simp at h)]
    simp only [Nat.zero_add, Nat.add_zero]
    rfl

theorem looked_apply (x : IVec S16384x26 32) (h : ∀ i, (x i).toNat < 100000) (t : FVec Ideal S26x100000x16 .f32) (f : Fin 26) (b : Fin 16384) (e : Fin 16) :
    looked x t (ix3 f b e) = t (ix3 f ⟨(x (ix2 b f)).toNat % 100000, Nat.mod_lt _ (by decide)⟩ e) := by
  unfold looked
  refine (WordCmp.select_of_eq_one ?_ _ _).trans ((gather_mid_apply (by decide) _ _ _ _ _ _).trans ?_)
  · rw [broadcastInDim_apply ![0, 1] _ _ (ix3 f b e) (ix2 f b) (fun a => by
      match a with
      | ⟨0, _⟩ => rfl
      | ⟨1, _⟩ => rfl)]
    refine Host.reduce_andi_one _ _ _ _ _ rfl fun i => ?_
    obtain ⟨f', b', z, rfl⟩ : ∃ (f' : Fin 26) (b' : Fin 16384) (z : Fin 1), i = ix3 f' b' z := ⟨i 0, i 1, i 2, eq_ix3 i⟩
    show IntOp.andi (IntOp.cmpi .sge (starts x (ix3 f' b' z)) 0#32) (IntOp.cmpi .sle (starts x (ix3 f' b' z)) 99999#32) = 1#1
    rw [starts_apply x h, WordCmp.cmpi_sge_zero, WordCmp.cmpi_sle_of_lt (by have := h (ix2 b' f'); omega) (by decide)]
    have := h (ix2 b' f')
    rw [IntOp.andi_eq_one, WordCmp.ofBool_decide_eq_one_iff, WordCmp.ofBool_decide_eq_one_iff]
    exact ⟨by omega, by show (x (ix2 b' f')).toNat ≤ 99999; omega⟩
  · refine congrArg t (congrArg (ix3 f · e) (Fin.ext ?_))
    show min (starts x (ix3 f b 0)).toInt.toNat (100000 - 1) = (x (ix2 b f)).toNat % 100000
    have := h (ix2 b f)
    rw [starts_apply x h, WordCmp.toInt_eq_toNat_of_lt_half (by omega), Int.toNat_natCast]
    omega

end Cert.Proof

end
-- ==== Proof.Ref.lean ====
/-
  The reference's result, entry by entry, as a formula of the arguments.
-/
module

public import Idealize.ShloMosaic.Lib.StackMember
public import proofs.«01_k».proof.Proof.Take
public import proofs.«01_k».proof.Proof.Pre
public import proofs.«01_k».proof.Proof.Gen.ReferenceIdeal.Run

@[expose] public section

noncomputable section

namespace Cert.Proof

open Cert.ReferenceIdeal Cert.ReferenceIdeal.Gen

open Idealize.ShloMosaic hiding ix1 ix2 ix3
open Idealize.ShloMosaic.ValueIdx

/-! ## The operations -/

/-- A row repeated along the batch. -/
theorem rowB_apply {n p : ℕ} {α : Type} (f : (⟨1, ![n]⟩ : Shape).Idx → α) (h : (⟨1, ![n]⟩ : Shape).BroadcastsInDim ⟨2, ![1, n]⟩ ![1])
    (h' : (⟨2, ![1, n]⟩ : Shape).BroadcastsInDim ⟨2, ![p, n]⟩ ![0, 1]) (hn : n ≠ 1) (b : Fin p) (i : Fin n) :
    broadcastInDim ⟨2, ![p, n]⟩ ![0, 1] h' (broadcastInDim ⟨2, ![1, n]⟩ ![1] h f) (ix2 b i) = f (ix1 i) := by
  rw [broadcastInDim_apply ![0, 1] h' _ (ix2 b i) (ix2 0 i) (fun a => by
    match a with
    | ⟨0, _⟩ => rfl
    | ⟨1, _⟩ => exact (if_neg hn).symm)]
  exact broadcastInDim_apply ![1] h _ (ix2 0 i) (ix1 i) (fun a => by
    match a with
    | ⟨0, _⟩ => exact (if_neg hn).symm)

/-- A normalised value. -/
def nrm {n : ℕ} (μ v g β : (⟨1, ![n]⟩ : Shape).Idx → EReal) (x : EReal) (i : Fin n) : EReal :=
  Ideal.div (x - μ (ix1 i)) (Ideal.sqrt (v (ix1 i) + eps)) * g (ix1 i) + β (ix1 i)

/-- A normalised array. -/
def normed {n p : ℕ} (h : (⟨1, ![n]⟩ : Shape).BroadcastsInDim ⟨2, ![1, n]⟩ ![1]) (h' : (⟨2, ![1, n]⟩ : Shape).BroadcastsInDim ⟨2, ![p, n]⟩ ![0, 1])
    (hs : S_.BroadcastsInDim ⟨1, ![n]⟩ ![]) (X : FVec Ideal ⟨2, ![p, n]⟩ .f32) (μ v g β : FVec Ideal ⟨1, ![n]⟩ .f32) : FVec Ideal ⟨2, ![p, n]⟩ .f32 :=
  addf (mulf (Host.divf (subf X (broadcastInDim ⟨2, ![p, n]⟩ ![0, 1] h' (broadcastInDim ⟨2, ![1, n]⟩ ![1] h μ)))
      (broadcastInDim ⟨2, ![p, n]⟩ ![0, 1] h' (broadcastInDim ⟨2, ![1, n]⟩ ![1] h (Host.sqrt (addf v (broadcastInDim ⟨1, ![n]⟩ ![] hs (constant S_ .f32 0x3727C5AC#32)))))))
    (broadcastInDim ⟨2, ![p, n]⟩ ![0, 1] h' (broadcastInDim ⟨2, ![1, n]⟩ ![1] h g)))
    (broadcastInDim ⟨2, ![p, n]⟩ ![0, 1] h' (broadcastInDim ⟨2, ![1, n]⟩ ![1] h β))

theorem normed_apply {n p : ℕ} (h : (⟨1, ![n]⟩ : Shape).BroadcastsInDim ⟨2, ![1, n]⟩ ![1]) (h' : (⟨2, ![1, n]⟩ : Shape).BroadcastsInDim ⟨2, ![p, n]⟩ ![0, 1])
    (hs : S_.BroadcastsInDim ⟨1, ![n]⟩ ![]) (hn : n ≠ 1) (X : FVec Ideal ⟨2, ![p, n]⟩ .f32) (μ v g β : FVec Ideal ⟨1, ![n]⟩ .f32) (b : Fin p) (i : Fin n) :
    normed h h' hs X μ v g β (ix2 b i) = nrm μ v g β (X (ix2 b i)) i :=
  congrArg₂ (· + ·) (congrArg₂ (· * ·) (congrArg₂ Ideal.div (congrArg (X (ix2 b i) - ·) (rowB_apply _ _ _ hn _ _)) (rowB_apply _ _ _ hn _ _))
    (rowB_apply _ _ _ hn _ _)) (rowB_apply _ _ _ hn _ _)

/-! ## The result -/

section
variable (x0 : IVec S16384x26 32) (x1 : FVec Ideal S16384x13 .f32) (x2 : FVec Ideal S26x100000x16 .f32) (x3 : FVec Ideal S429x200 .f32)
  (x4 : FVec Ideal S200 .f32) (x5 : FVec Ideal S200x5 .f32) (x6 : FVec Ideal S5 .f32) (x7 x8 x9 x10 : FVec Ideal S13 .f32) (x11 x12 x13 x14 : FVec Ideal S200 .f32)

/-- The looked-up columns. -/
def refE : FVec Ideal S16384x416 .f32 :=
  shapeCast _ (transpose S16384x26x16 [1, 0, 2] (looked x0 x2) transposes_S26x16384x16_S16384x26x16_1_0_2) shapeCasts_S16384x26x16_S16384x416

/-- The normalised continuous columns. -/
def refC : FVec Ideal S16384x13 .f32 := normed bcast_S13_S1x13_1 bcast_S1x13_S16384x13_0_1 bcast_S_S13 x1 x9 x10 x7 x8

/-- The first layer. -/
def refH : FVec Ideal S16384x200 .f32 :=
  addf (Host.dotGeneral dot_S16384x429_S429x200_S16384x200_1_0_0_1_n_n none
      (concatenate S16384x429 1 [⟨S16384x416, refE x0 x2⟩, ⟨S16384x13, refC x1 x7 x8 x9 x10⟩] concatenates_S16384x416_S16384x13_S16384x429_d1) x3)
    (broadcastInDim S16384x200 ![0, 1] bcast_S1x200_S16384x200_0_1 (broadcastInDim S1x200 ![1] bcast_S200_S1x200_1 x4))

/-- The result. -/
def refOut : FVec Ideal S16384x5 .f32 :=
  addf (Host.dotGeneral dot_S16384x200_S200x5_S16384x5_1_0_0_1_n_n none
      (normed bcast_S200_S1x200_1 bcast_S1x200_S16384x200_0_1 bcast_S_S200
        (maximumf (refH x0 x1 x2 x3 x4 x7 x8 x9 x10) (broadcastInDim S16384x200 ![] bcast_S_S16384x200 (constant S_ .f32 0x00000000#32))) x13 x14 x11 x12) x5)
    (broadcastInDim S16384x5 ![0, 1] bcast_S1x5_S16384x5_0_1 (broadcastInDim S1x5 ![1] bcast_S5_S1x5_1 x6))

theorem refE_apply (h : ∀ i, (x0 i).toNat < 100000) (b : Fin 16384) (j : Fin 416) : refE x0 x2 (ix2 b j)
    = x2 (ix3 ⟨j.val / 16 % 26, Nat.mod_lt _ (by decide)⟩ ⟨(x0 (ix2 b ⟨j.val / 16 % 26, Nat.mod_lt _ (by decide)⟩)).toNat % 100000, Nat.mod_lt _ (by decide)⟩
        ⟨j.val % 16, Nat.mod_lt _ (by decide)⟩) := by
  unfold refE
  rw [shapeCast_apply _ _ (ix2 b j) (ix3 b ⟨j.val / 16 % 26, Nat.mod_lt _ (by decide)⟩ ⟨j.val % 16, Nat.mod_lt _ (by decide)⟩) (by
      rw [Shape.rowMajor_val_two, Shape.rowMajor_val_three]
      show (b.val * 26 + j.val / 16 % 26) * 16 + j.val % 16 = b.val * 416 + j.val
      omega),
    transpose_apply _ _ _ _ (ix3 ⟨j.val / 16 % 26, Nat.mod_lt _ (by decide)⟩ b ⟨j.val % 16, Nat.mod_lt _ (by decide)⟩) (fun a => by
      match a with
      | ⟨0, _⟩ => rfl
      | ⟨1, _⟩ => rfl
      | ⟨2, _⟩ => rfl)]
  exact looked_apply x0 h x2 _ b _

/-- A column of the concatenation. -/
theorem refX_apply (A : FVec Ideal S16384x416 .f32) (C : FVec Ideal S16384x13 .f32) (b : Fin 16384) (q : Fin (416 + 13)) :
    concatenate S16384x429 1 [⟨S16384x416, A⟩, ⟨S16384x13, C⟩] concatenates_S16384x416_S16384x13_S16384x429_d1 (ix2 b q)
      = Fin.addCases (fun j => A (ix2 b j)) (fun i => C (ix2 b i)) q := by
  refine Fin.addCases (fun j => ?_) (fun i => ?_) q
  · rw [Fin.addCases_left]
    exact concatenate_pair_apply_left (t := S16384x429) (s₁ := S16384x416) (s₂ := S16384x13) 1 A C _ (ix2 b (Fin.castAdd 13 j)) rfl (ix2 b j) fun a => by
      match a with
      | ⟨0, _⟩ => rfl
      | ⟨1, _⟩ => rfl
  · rw [Fin.addCases_right]
    refine concatenate_pair_apply_right (t := S16384x429) (s₁ := S16384x416) (s₂ := S16384x13) 1 A C _ (ix2 b (Fin.natAdd 416 i)) rfl rfl (ix2 b i) (fun a ha => ?_) ?_
    · match a with
      | ⟨0, _⟩ => rfl
      | ⟨1, _⟩ => exact absurd rfl ha
    · show i.val + 416 = 416 + i.val
      omega

theorem refH_apply (h : ∀ i, (x0 i).toNat < 100000) (b : Fin 16384) (k : Fin 200) : refH x0 x1 x2 x3 x4 x7 x8 x9 x10 (ix2 b k)
    = ((∑ j : Fin 416, refE x0 x2 (ix2 b j) * x3 (ix2 (Fin.castAdd 13 j) k)) + ∑ i : Fin 13, nrm x9 x10 x7 x8 (x1 (ix2 b i)) i * x3 (ix2 (Fin.natAdd 416 i) k))
      + x4 (ix1 k) := by
  unfold refH
  refine congrArg₂ (· + ·) ((StackMember.dotGeneral_plain_apply _ _ _ b k).trans ?_) (rowB_apply _ _ _ (by decide) _ _)
  refine (Fin.sum_univ_add (a := 416) (b := 13) _).trans (congrArg₂ (· + ·) (Finset.sum_congr rfl fun j _ => ?_) (Finset.sum_congr rfl fun i _ => ?_))
  · exact congrArg (· * _) ((refX_apply _ _ b (Fin.castAdd 13 j)).trans (Fin.addCases_left j))
  · exact congrArg (· * _) (((refX_apply _ _ b (Fin.natAdd 416 i)).trans (Fin.addCases_right i)).trans (normed_apply _ _ _ (by decide) _ _ _ _ _ b i))

theorem refOut_apply (b : Fin 16384) (c : Fin 5) : refOut x0 x1 x2 x3 x4 x5 x6 x7 x8 x9 x10 x11 x12 x13 x14 (ix2 b c)
    = (∑ k : Fin 200, nrm x13 x14 x11 x12 (max (refH x0 x1 x2 x3 x4 x7 x8 x9 x10 (ix2 b k)) 0) k * x5 (ix2 k c)) + x6 (ix1 c) := by
  unfold refOut
  refine congrArg₂ (· + ·) ((StackMember.dotGeneral_plain_apply _ _ _ b c).trans (Finset.sum_congr rfl fun k _ => ?_)) (rowB_apply _ _ _ (by decide) _ _)
  refine congrArg (· * _) ((normed_apply _ _ _ (by decide) _ _ _ _ _ b k).trans (congrArg (nrm x13 x14 x11 x12 · k) ?_))
  exact congrArg (max _) Ideal.ofBits_zero_f32

end

/-- The composed term of the run is that result of the arguments. -/
theorem res_eq (m : (ℓ : Loc nD τ sig) → Buf (Elt Ideal) ℓ) (c : Dev nD) : Cert.ReferenceIdeal.Value.res_main_v42 m c
    = refOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) := rfl

end Cert.Proof

end
-- ==== Proof.Value.lean ====
/-
  The kernel's result is the reference's: the first layer's sum in its three pieces, the normalisations folded into the
  weights and biases.
-/
module

public import proofs.«01_k».proof.Proof.Kern
public import proofs.«01_k».proof.Proof.Ref

@[expose] public section

noncomputable section

namespace Cert.Proof

open Cert.KernelIdeal Cert.KernelIdeal.Gen

open Idealize.ShloMosaic hiding ix1 ix2 ix3
open Idealize.ShloMosaic.ValueIdx

/-- A layer over normalised values: the values under scaled weights and the sum of the shifts. -/
theorem nrm_sum {n : ℕ} (μ v g β : (⟨1, ![n]⟩ : Shape).Idx → EReal) (x w : Fin n → EReal) (hμ : ∀ i, IsReal (μ i)) (hg : ∀ i, IsReal (g i))
    (hβ : ∀ i, IsReal (β i)) (hv : ∀ i, 0 < v i + eps) (hw : ∀ i, IsReal (w i)) :
    (∑ i, nrm μ v g β (x i) i * w i) = (∑ i, x i * (w i * scale g v i)) + ∑ i, shift g β μ v i * w i :=
  norm_sum x (fun i => μ (ix1 i)) (fun i => g (ix1 i)) (fun i => β (ix1 i)) (fun i => v (ix1 i) + eps) w
    (fun i => hμ _) (fun i => hg _) (fun i => hβ _) hw (fun i => hv _)

variable (m : (ℓ : Loc nD τ sig) → Buf (Elt Ideal) ℓ) (d : Dev nD)
variable (hx : ∀ i, (xcat m d i).toNat < 100000)
variable (R : Regular (W1 m d) (W2 m d) (g1 m d) (be1 m d) (mu1 m d) (va1 m d) (g2 m d) (be2 m d) (mu2 m d) (va2 m d))

include hx R

/-- The first layer. -/
theorem hid_eq (b : Fin 16384) (k : Fin 200) :
    refH (xcat m d) (xcont m d) (tables m d) (W1 m d) (b1 m d) (g1 m d) (be1 m d) (mu1 m d) (va1 m d) (ix2 b k) = hid m d b k := by
  rw [refH_apply _ _ _ _ _ _ _ _ _ hx]
  have e1 : (∑ j : Fin 416, refE (xcat m d) (tables m d) (ix2 b j) * W1 m d (ix2 (Fin.castAdd 13 j) k))
      = (∑ j : Fin 256, emb m d b (0 + j.val) * W1 m d (ix2 ⟨0 + j.val, by omega⟩ k))
        + ∑ j : Fin 160, emb m d b (256 + j.val) * W1 m d (ix2 ⟨256 + j.val, by omega⟩ k) := by
    refine (Fin.sum_univ_add (a := 256) (b := 160) _).trans (congrArg₂ (· + ·) (Finset.sum_congr rfl fun j _ => ?_) (Finset.sum_congr rfl fun j _ => ?_))
    · rw [refE_apply _ _ hx]
      simp only [Nat.zero_add]
      rfl
    · rw [refE_apply _ _ hx]
      rfl
  have e2 : (∑ i : Fin 13, nrm (mu1 m d) (va1 m d) (g1 m d) (be1 m d) (xcont m d (ix2 b i)) i * W1 m d (ix2 (Fin.natAdd 416 i) k))
      = (∑ i : Fin 13, xcont m d (ix2 b i) * (W1 m d (ix2 ⟨416 + i.val, by omega⟩ k) * scale (g1 m d) (va1 m d) i))
        + ∑ i : Fin 13, shift (g1 m d) (be1 m d) (mu1 m d) (va1 m d) i * W1 m d (ix2 ⟨416 + i.val, by omega⟩ k) :=
    nrm_sum _ _ _ _ (fun i => xcont m d (ix2 b i)) (fun i => W1 m d (ix2 (Fin.natAdd 416 i) k)) R.m1 R.g1 R.be1 R.v1
      fun i => (rows_apply 416 (W1 m d) _ i k (by omega)) ▸ R.w1 (ix2 i k)
  rw [e1, e2]
  unfold hid
  ac_rfl

/-- The result. -/
theorem value_eq : val6 m d (Proc.devRef .tc main_v34)
    = refOut (xcat m d) (xcont m d) (tables m d) (W1 m d) (b1 m d) (W2 m d) (b2 m d) (g1 m d) (be1 m d) (mu1 m d) (va1 m d) (g2 m d) (be2 m d) (mu2 m d) (va2 m d) := by
  funext y
  obtain ⟨b, c, rfl⟩ : ∃ (b : Fin 16384) (c : Fin 5), y = ix2 b c := ⟨y 0, y 1, ValueIdx.eq_ix2 y⟩
  rw [kern_apply, refOut_apply]
  simp only [hid_eq m d hx R]
  rw [nrm_sum _ _ _ _ (fun k => max (hid m d b k) 0) (fun k => W2 m d (ix2 k c)) R.m2 R.g2 R.be2 R.v2 fun k => R.w2 _]
  ac_rfl

end Cert.Proof

end
-- ==== Proof.Algebraic.lean ====
/-
  The value claim: both programs end with the one result, the kernel's read off its run and the reference's off its own.
-/
module

public import proofs.«01_k».proof.Proof.Frames
public import proofs.«01_k».proof.Proof.Value

@[expose] public section

noncomputable section

namespace Cert.Proof

open Cert.KernelIdeal Cert.KernelIdeal.Gen

open Idealize.ShloMosaic Idealize.SL.Sem

theorem algebraic : Cert.algebraic_KernelIdeal_ReferenceIdeal_pre_regular := fun m g m' g' hpre hargs => by
  refine ⟨fun c => val6 m c (Proc.devRef .tc main_v34),
    (θ_run (Cert.KernelIdeal.defs (F := Ideal)) _ _).mono (fun r h c => ⟨h.1 c main_v34 (by decide), h.args c⟩)
      (run_main (F := Ideal) m g (preOK_of_regular m hpre)),
    (θ_run Cert.ReferenceIdeal.defs _ _).mono (fun r h c => ⟨(h c).1.trans ?_, (h c).2⟩) (Cert.ReferenceIdeal.Value.run (F := Ideal) m' g')⟩
  obtain ⟨hx, R⟩ := of_regular _ _ _ _ _ _ _ _ _ _ _ _ _ _ _ (hpre c)
  obtain ⟨h0, h1, h2, h3, h4, h5, h6, h7, h8, h9, h10, h11, h12, h13, h14⟩ := hargs c
  refine (res_eq m' c).trans (Eq.trans ?_ (value_eq m c hx R).symm)
  rw [h0, h1, h2, h3, h4, h5, h6, h7, h8, h9, h10, h11, h12, h13, h14]

end Cert.Proof

end
-- ==== Proof.lean ====
/-
  The certificate: the frames of kernel and reference, what the ideal pass preserves, and the equation of the two over
  the extended reals, each from its own module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_valid
public import proofs.«01_k».proof.Proof.Gen.Pre_regular
public import Idealize.ShloMosaic.Adequacy
public import proofs.«01_k».proof.Proof.Gen.ReferenceIdeal.Run
public import Idealize.ShloMosaic.Init
public import proofs.«01_k».proof.Proof.Frames
public import proofs.«01_k».proof.Proof.Algebraic

@[expose] public section

noncomputable section

namespace Cert.Proof

open Idealize.ShloMosaic Idealize.SL.Sem Cert.Kernel

/-- All five claims, the programs' stated facts first. -/
theorem claim : Cert.Claim := ⟨Cert.Kernel.Gen.facts, Cert.KernelIdeal.Gen.facts, Cert.ReferenceIdeal.Gen.facts, Cert.Pre_valid.Gen.facts, Cert.Pre_regular.Gen.facts,
  frame_kernel, frame_ideal, frame_ideal_regular, frame_reference, frame_reference_regular, trivial, algebraic⟩

end Cert.Proof

end
